-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_states [hPre_finite_states : Cert.Pre_finite_states.Facts] (m : (ℓ : Loc Cert.MergeIdeal.nD Cert.MergeIdeal.τ Cert.MergeIdeal.sig) → Buf (Elt Ideal) ℓ) : Prop :=
  ∀ c : Dev Cert.MergeIdeal.nD,
    (Cert.Pre_finite_states.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_finite_states [hPre_finite_states : Cert.Pre_finite_states.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_finite_states.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11))) = (fun _ => 1#1)

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextIdeal_finite_rows [hPre_finite_rows : Cert.Pre_finite_rows.Facts] (m : (ℓ : Loc Cert.NextIdeal.nD Cert.NextIdeal.τ Cert.NextIdeal.sig) → Buf (Elt Ideal) ℓ) : Prop :=
  ∀ c : Dev Cert.NextIdeal.nD,
    (Cert.Pre_finite_rows.fn (F := Ideal) (m ((c.tc : Thread Cert.NextIdeal.nD Cert.NextIdeal.τ).loc Cert.NextIdeal.main_arg0)) (m ((c.tc : Thread Cert.NextIdeal.nD Cert.NextIdeal.τ).loc Cert.NextIdeal.main_arg1)) (m ((c.tc : Thread Cert.NextIdeal.nD Cert.NextIdeal.τ).loc Cert.NextIdeal.main_arg2)) (m ((c.tc : Thread Cert.NextIdeal.nD Cert.NextIdeal.τ).loc Cert.NextIdeal.main_arg3)) (m ((c.tc : Thread Cert.NextIdeal.nD Cert.NextIdeal.τ).loc Cert.NextIdeal.main_arg4))) = (fun _ => 1#1)

def Pre_NextReferenceIdeal (m : (ℓ : Loc Cert.NextReferenceIdeal.nD Cert.NextReferenceIdeal.τ Cert.NextReferenceIdeal.sig) → Buf (Elt Ideal) ℓ) : Prop :=
  True

def Pre_NextReferenceIdeal_finite_rows [hPre_finite_rows : Cert.Pre_finite_rows.Facts] (m : (ℓ : Loc Cert.NextReferenceIdeal.nD Cert.NextReferenceIdeal.τ Cert.NextReferenceIdeal.sig) → Buf (Elt Ideal) ℓ) : Prop :=
  ∀ c : Dev Cert.NextReferenceIdeal.nD,
    (Cert.Pre_finite_rows.fn (F := Ideal) (m ((c.tc : Thread Cert.NextReferenceIdeal.nD Cert.NextReferenceIdeal.τ).loc Cert.NextReferenceIdeal.main_arg0)) (m ((c.tc : Thread Cert.NextReferenceIdeal.nD Cert.NextReferenceIdeal.τ).loc Cert.NextReferenceIdeal.main_arg1)) (m ((c.tc : Thread Cert.NextReferenceIdeal.nD Cert.NextReferenceIdeal.τ).loc Cert.NextReferenceIdeal.main_arg2)) (m ((c.tc : Thread Cert.NextReferenceIdeal.nD Cert.NextReferenceIdeal.τ).loc Cert.NextReferenceIdeal.main_arg3)) (m ((c.tc : Thread Cert.NextReferenceIdeal.nD Cert.NextReferenceIdeal.τ).loc Cert.NextReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_input [hPre_finite_input : Cert.Pre_finite_input.Facts] (m : (ℓ : Loc Cert.InProjIdeal.nD Cert.InProjIdeal.τ Cert.InProjIdeal.sig) → Buf (Elt Ideal) ℓ) : Prop :=
  ∀ c : Dev Cert.InProjIdeal.nD,
    (Cert.Pre_finite_input.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))) = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_finite_input [hPre_finite_input : Cert.Pre_finite_input.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_finite_input.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeIdeal_pre_finite_states [hMergeIdeal : Cert.MergeIdeal.Facts] [hPre_finite_states : Cert.Pre_finite_states.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_states m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_MergeReferenceIdeal_pre_finite_states [hMergeReferenceIdeal : Cert.MergeReferenceIdeal.Facts] [hPre_finite_states : Cert.Pre_finite_states.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_finite_states m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4))
      ∧ r.2.sem = fun _ => 0)

def quiescent_NextIdeal_pre_finite_rows [hNextIdeal : Cert.NextIdeal.Facts] [hPre_finite_rows : Cert.Pre_finite_rows.Facts] : Prop :=
  ∀ (m : (ℓ : Loc Cert.NextIdeal.nD Cert.NextIdeal.τ Cert.NextIdeal.sig) → Buf (Elt Ideal) ℓ) (g : Dev Cert.NextIdeal.nD → PrngReg), Pre_NextIdeal_finite_rows m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4))
      ∧ r.2.sem = fun _ => 0)

def quiescent_NextReferenceIdeal [hNextReferenceIdeal : Cert.NextReferenceIdeal.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2)
      ∧ r.2.mem ((c.tc : Thread Cert.NextReferenceIdeal.nD Cert.NextReferenceIdeal.τ).loc Cert.NextReferenceIdeal.main_arg3) = m ((c.tc : Thread Cert.NextReferenceIdeal.nD Cert.NextReferenceIdeal.τ).loc Cert.NextReferenceIdeal.main_arg3)
      ∧ r.2.mem ((c.tc : Thread Cert.NextReferenceIdeal.nD Cert.NextReferenceIdeal.τ).loc Cert.NextReferenceIdeal.main_arg4) = m ((c.tc : Thread Cert.NextReferenceIdeal.nD Cert.NextReferenceIdeal.τ).loc Cert.NextReferenceIdeal.main_arg4))
      ∧ r.2.sem = fun _ => 0)

def quiescent_NextReferenceIdeal_pre_finite_rows [hNextReferenceIdeal : Cert.NextReferenceIdeal.Facts] [hPre_finite_rows : Cert.Pre_finite_rows.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal_finite_rows m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2)
      ∧ r.2.mem ((c.tc : Thread Cert.NextReferenceIdeal.nD Cert.NextReferenceIdeal.τ).loc Cert.NextReferenceIdeal.main_arg3) = m ((c.tc : Thread Cert.NextReferenceIdeal.nD Cert.NextReferenceIdeal.τ).loc Cert.NextReferenceIdeal.main_arg3)
      ∧ r.2.mem ((c.tc : Thread Cert.NextReferenceIdeal.nD Cert.NextReferenceIdeal.τ).loc Cert.NextReferenceIdeal.main_arg4) = m ((c.tc : Thread Cert.NextReferenceIdeal.nD Cert.NextReferenceIdeal.τ).loc Cert.NextReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjIdeal_pre_finite_input [hInProjIdeal : Cert.InProjIdeal.Facts] [hPre_finite_input : Cert.Pre_finite_input.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_input m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5))
      ∧ r.2.sem = fun _ => 0)

def quiescent_InProjReferenceIdeal_pre_finite_input [hInProjReferenceIdeal : Cert.InProjReferenceIdeal.Facts] [hPre_finite_input : Cert.Pre_finite_input.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_finite_input m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Merge_MergeIdeal : Prop :=
  True

def algebraic_MergeIdeal_MergeReferenceIdeal_pre_finite_states [hMergeIdeal : Cert.MergeIdeal.Facts] [hMergeReferenceIdeal : Cert.MergeReferenceIdeal.Facts] [hPre_finite_states : Cert.Pre_finite_states.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_finite_states m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v33)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v33) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v83) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Next_NextIdeal : Prop :=
  True

def algebraic_NextIdeal_NextReferenceIdeal_pre_finite_rows [hNextIdeal : Cert.NextIdeal.Facts] [hNextReferenceIdeal : Cert.NextReferenceIdeal.Facts] [hPre_finite_rows : Cert.Pre_finite_rows.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextReferenceIdeal.nD Cert.NextReferenceIdeal.τ Cert.NextReferenceIdeal.sig) → Buf (Elt Ideal) ℓ) (g' : Dev Cert.NextReferenceIdeal.nD → PrngReg), Pre_NextIdeal_finite_rows m →
    (∀ c : Dev Cert.NextIdeal.nD,
      m' ((c.tc : Thread Cert.NextReferenceIdeal.nD Cert.NextReferenceIdeal.τ).loc Cert.NextReferenceIdeal.main_arg0) = m ((c.tc : Thread Cert.NextIdeal.nD Cert.NextIdeal.τ).loc Cert.NextIdeal.main_arg0)
      ∧ m' ((c.tc : Thread Cert.NextReferenceIdeal.nD Cert.NextReferenceIdeal.τ).loc Cert.NextReferenceIdeal.main_arg1) = m ((c.tc : Thread Cert.NextIdeal.nD Cert.NextIdeal.τ).loc Cert.NextIdeal.main_arg1)
      ∧ m' ((c.tc : Thread Cert.NextReferenceIdeal.nD Cert.NextReferenceIdeal.τ).loc Cert.NextReferenceIdeal.main_arg2) = m ((c.tc : Thread Cert.NextIdeal.nD Cert.NextIdeal.τ).loc Cert.NextIdeal.main_arg2)
      ∧ m' ((c.tc : Thread Cert.NextReferenceIdeal.nD Cert.NextReferenceIdeal.τ).loc Cert.NextReferenceIdeal.main_arg3) = m ((c.tc : Thread Cert.NextIdeal.nD Cert.NextIdeal.τ).loc Cert.NextIdeal.main_arg3)
      ∧ m' ((c.tc : Thread Cert.NextReferenceIdeal.nD Cert.NextReferenceIdeal.τ).loc Cert.NextReferenceIdeal.main_arg4) = m ((c.tc : Thread Cert.NextIdeal.nD Cert.NextIdeal.τ).loc Cert.NextIdeal.main_arg4)) →
    ∃ (v0 : (c : Dev Cert.NextIdeal.nD) → Buf (Elt Ideal) ((c.tc : Thread Cert.NextIdeal.nD Cert.NextIdeal.τ).loc Cert.NextIdeal.main_v110_0)) (v1 : (c : Dev Cert.NextIdeal.nD) → Buf (Elt Ideal) ((c.tc : Thread Cert.NextIdeal.nD Cert.NextIdeal.τ).loc Cert.NextIdeal.main_v110_1)) (v2 : (c : Dev Cert.NextIdeal.nD) → Buf (Elt Ideal) ((c.tc : Thread Cert.NextIdeal.nD Cert.NextIdeal.τ).loc Cert.NextIdeal.main_v110_2)) (v3 : (c : Dev Cert.NextIdeal.nD) → Buf (Elt Ideal) ((c.tc : Thread Cert.NextIdeal.nD Cert.NextIdeal.τ).loc Cert.NextIdeal.main_v110_3)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v110_0) = v0 c
          ∧ r.2.mem ((c.tc : Thread Cert.NextIdeal.nD Cert.NextIdeal.τ).loc Cert.NextIdeal.main_v110_1) = v1 c
          ∧ r.2.mem ((c.tc : Thread Cert.NextIdeal.nD Cert.NextIdeal.τ).loc Cert.NextIdeal.main_v110_2) = v2 c
          ∧ r.2.mem ((c.tc : Thread Cert.NextIdeal.nD Cert.NextIdeal.τ).loc Cert.NextIdeal.main_v110_3) = v3 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4))
      ∧ θ_run (Cert.NextReferenceIdeal.defs (F := Ideal)) (onTc (τ := Cert.NextReferenceIdeal.τ) (Cert.NextReferenceIdeal.main (F := Ideal))) ⟨m', fun _ => 0, g'⟩ (fun r => ∀ c : Dev Cert.NextReferenceIdeal.nD,
          r.2.mem ((c.tc : Thread Cert.NextReferenceIdeal.nD Cert.NextReferenceIdeal.τ).loc Cert.NextReferenceIdeal.main_v221) = v0 c
          ∧ r.2.mem ((c.tc : Thread Cert.NextReferenceIdeal.nD Cert.NextReferenceIdeal.τ).loc Cert.NextReferenceIdeal.main_v222) = v1 c
          ∧ r.2.mem ((c.tc : Thread Cert.NextReferenceIdeal.nD Cert.NextReferenceIdeal.τ).loc Cert.NextReferenceIdeal.main_v223) = v2 c
          ∧ r.2.mem ((c.tc : Thread Cert.NextReferenceIdeal.nD Cert.NextReferenceIdeal.τ).loc Cert.NextReferenceIdeal.main_v224) = v3 c
          ∧ r.2.mem ((c.tc : Thread Cert.NextReferenceIdeal.nD Cert.NextReferenceIdeal.τ).loc Cert.NextReferenceIdeal.main_arg0) = m' ((c.tc : Thread Cert.NextReferenceIdeal.nD Cert.NextReferenceIdeal.τ).loc Cert.NextReferenceIdeal.main_arg0)
          ∧ r.2.mem ((c.tc : Thread Cert.NextReferenceIdeal.nD Cert.NextReferenceIdeal.τ).loc Cert.NextReferenceIdeal.main_arg1) = m' ((c.tc : Thread Cert.NextReferenceIdeal.nD Cert.NextReferenceIdeal.τ).loc Cert.NextReferenceIdeal.main_arg1)
          ∧ r.2.mem ((c.tc : Thread Cert.NextReferenceIdeal.nD Cert.NextReferenceIdeal.τ).loc Cert.NextReferenceIdeal.main_arg2) = m' ((c.tc : Thread Cert.NextReferenceIdeal.nD Cert.NextReferenceIdeal.τ).loc Cert.NextReferenceIdeal.main_arg2)
          ∧ r.2.mem ((c.tc : Thread Cert.NextReferenceIdeal.nD Cert.NextReferenceIdeal.τ).loc Cert.NextReferenceIdeal.main_arg3) = m' ((c.tc : Thread Cert.NextReferenceIdeal.nD Cert.NextReferenceIdeal.τ).loc Cert.NextReferenceIdeal.main_arg3)
          ∧ r.2.mem ((c.tc : Thread Cert.NextReferenceIdeal.nD Cert.NextReferenceIdeal.τ).loc Cert.NextReferenceIdeal.main_arg4) = m' ((c.tc : Thread Cert.NextReferenceIdeal.nD Cert.NextReferenceIdeal.τ).loc Cert.NextReferenceIdeal.main_arg4))

def preserves_InProj_InProjIdeal : Prop :=
  True

def algebraic_InProjIdeal_InProjReferenceIdeal_pre_finite_input [hInProjIdeal : Cert.InProjIdeal.Facts] [hInProjReferenceIdeal : Cert.InProjReferenceIdeal.Facts] [hPre_finite_input : Cert.Pre_finite_input.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_finite_input m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v112_0)) (v1 : (c : Dev Cert.InProjIdeal.nD) → Buf (Elt Ideal) ((c.tc : Thread Cert.InProjIdeal.nD Cert.InProjIdeal.τ).loc Cert.InProjIdeal.main_v112_1)) (v2 : (c : Dev Cert.InProjIdeal.nD) → Buf (Elt Ideal) ((c.tc : Thread Cert.InProjIdeal.nD Cert.InProjIdeal.τ).loc Cert.InProjIdeal.main_v112_2)) (v3 : (c : Dev Cert.InProjIdeal.nD) → Buf (Elt Ideal) ((c.tc : Thread Cert.InProjIdeal.nD Cert.InProjIdeal.τ).loc Cert.InProjIdeal.main_v112_3)) (v4 : (c : Dev Cert.InProjIdeal.nD) → Buf (Elt Ideal) ((c.tc : Thread Cert.InProjIdeal.nD Cert.InProjIdeal.τ).loc Cert.InProjIdeal.main_v112_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v112_0) = v0 c
          ∧ r.2.mem ((c.tc : Thread Cert.InProjIdeal.nD Cert.InProjIdeal.τ).loc Cert.InProjIdeal.main_v112_1) = v1 c
          ∧ r.2.mem ((c.tc : Thread Cert.InProjIdeal.nD Cert.InProjIdeal.τ).loc Cert.InProjIdeal.main_v112_2) = v2 c
          ∧ r.2.mem ((c.tc : Thread Cert.InProjIdeal.nD Cert.InProjIdeal.τ).loc Cert.InProjIdeal.main_v112_3) = v3 c
          ∧ r.2.mem ((c.tc : Thread Cert.InProjIdeal.nD Cert.InProjIdeal.τ).loc Cert.InProjIdeal.main_v112_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v225) = v0 c
          ∧ r.2.mem ((c.tc : Thread Cert.InProjReferenceIdeal.nD Cert.InProjReferenceIdeal.τ).loc Cert.InProjReferenceIdeal.main_v226) = v1 c
          ∧ r.2.mem ((c.tc : Thread Cert.InProjReferenceIdeal.nD Cert.InProjReferenceIdeal.τ).loc Cert.InProjReferenceIdeal.main_v227) = v2 c
          ∧ r.2.mem ((c.tc : Thread Cert.InProjReferenceIdeal.nD Cert.InProjReferenceIdeal.τ).loc Cert.InProjReferenceIdeal.main_v228) = v3 c
          ∧ r.2.mem ((c.tc : Thread Cert.InProjReferenceIdeal.nD Cert.InProjReferenceIdeal.τ).loc Cert.InProjReferenceIdeal.main_v3) = v4 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hNext : Cert.Next.Facts) (hNextIdeal : Cert.NextIdeal.Facts) (hNextReferenceIdeal : Cert.NextReferenceIdeal.Facts) (hInProj : Cert.InProj.Facts) (hInProjIdeal : Cert.InProjIdeal.Facts) (hInProjReferenceIdeal : Cert.InProjReferenceIdeal.Facts) (hPre_finite_states : Cert.Pre_finite_states.Facts) (hPre_finite_rows : Cert.Pre_finite_rows.Facts) (hPre_finite_input : Cert.Pre_finite_input.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeIdeal_pre_finite_states (hMergeIdeal := hMergeIdeal) (hPre_finite_states := hPre_finite_states)
    ∧ quiescent_MergeReferenceIdeal (hMergeReferenceIdeal := hMergeReferenceIdeal)
    ∧ quiescent_MergeReferenceIdeal_pre_finite_states (hMergeReferenceIdeal := hMergeReferenceIdeal) (hPre_finite_states := hPre_finite_states)
    ∧ quiescent_Next (hNext := hNext)
    ∧ quiescent_NextIdeal (hNextIdeal := hNextIdeal)
    ∧ quiescent_NextIdeal_pre_finite_rows (hNextIdeal := hNextIdeal) (hPre_finite_rows := hPre_finite_rows)
    ∧ quiescent_NextReferenceIdeal (hNextReferenceIdeal := hNextReferenceIdeal)
    ∧ quiescent_NextReferenceIdeal_pre_finite_rows (hNextReferenceIdeal := hNextReferenceIdeal) (hPre_finite_rows := hPre_finite_rows)
    ∧ quiescent_InProj (hInProj := hInProj)
    ∧ quiescent_InProjIdeal (hInProjIdeal := hInProjIdeal)
    ∧ quiescent_InProjIdeal_pre_finite_input (hInProjIdeal := hInProjIdeal) (hPre_finite_input := hPre_finite_input)
    ∧ quiescent_InProjReferenceIdeal (hInProjReferenceIdeal := hInProjReferenceIdeal)
    ∧ quiescent_InProjReferenceIdeal_pre_finite_input (hInProjReferenceIdeal := hInProjReferenceIdeal) (hPre_finite_input := hPre_finite_input)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal_pre_finite_states (hMergeIdeal := hMergeIdeal) (hMergeReferenceIdeal := hMergeReferenceIdeal) (hPre_finite_states := hPre_finite_states)
    ∧ preserves_Next_NextIdeal
    ∧ algebraic_NextIdeal_NextReferenceIdeal_pre_finite_rows (hNextIdeal := hNextIdeal) (hNextReferenceIdeal := hNextReferenceIdeal) (hPre_finite_rows := hPre_finite_rows)
    ∧ preserves_InProj_InProjIdeal
    ∧ algebraic_InProjIdeal_InProjReferenceIdeal_pre_finite_input (hInProjIdeal := hInProjIdeal) (hInProjReferenceIdeal := hInProjReferenceIdeal) (hPre_finite_input := hPre_finite_input)
-- ==== Pre_finite_input.lean ====
abbrev S4x4096x1024 : Shape := ⟨3, ![4, 4096, 1024]⟩
abbrev S16x1024 : Shape := ⟨2, ![16, 1024]⟩
abbrev S1024 : Shape := ⟨1, ![1024]⟩
abbrev S1024x6912 : Shape := ⟨2, ![1024, 6912]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_
  bcast_S_S1024x6912 : S_.BroadcastsInDim S1024x6912 (![] : Fin 0 → Fin S1024x6912.rank)
  reducesTo_S1024x6912_S_d0_1 : S1024x6912.ReducesTo [0, 1] S_

variable [Facts]

def fn_part1 {F : FTy → Type} [FloatOps F] (main_v13 : IVec S_ 1) (main_v16 : IVec S1024x6912 1) : IVec S_ 1 :=
  let main_c_5 : IVec S_ 1 := constantI S_ 1 1#1
  let main_v17 : IVec S_ 1 := (fun x v => Host.reduce IntOp.andi x v reducesTo_S1024x6912_S_d0_1 h_S_) main_v16 main_c_5
  let main_v18 : IVec S_ 1 := andi main_v13 main_v17
  main_v18

def fn {F : FTy → Type} [FloatOps F] (main_arg0 : FVec F S4x4096x1024 .f32) (main_arg1 : FVec F S16x1024 .f32) (main_arg2 : FVec F S1024 .f32) (main_arg3 : FVec F S1024x6912 .f32) (main_arg4 : FVec F S64 .f32) (main_arg5 : FVec F S64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x6912 .f32 := Host.absf main_arg3
  let main_cst_4 : FVec F S_ .f32 := constant S_ .f32 0x7F800000#32
  let main_v15 : FVec F S1024x6912 .f32 := broadcastInDim S1024x6912 ![] bcast_S_S1024x6912 main_cst_4
  let main_v16 : IVec S1024x6912 1 := cmpf .olt main_v14 main_v15
  fn_part1 (F := F) main_v13 main_v16
-- ==== Pre_finite_rows.lean ====
abbrev S4x4224x1024 : Shape := ⟨3, ![4, 4224, 1024]⟩
abbrev S1024 : Shape := ⟨1, ![1024]⟩
abbrev S1024x6912 : Shape := ⟨2, ![1024, 6912]⟩
abbrev S64 : Shape := ⟨1, ![64]⟩
abbrev S_ : Shape := ⟨0, ![]⟩

class Facts : Prop where
  bcast_S_S4x4224x1024 : S_.BroadcastsInDim S4x4224x1024 (![] : Fin 0 → Fin S4x4224x1024.rank)
  reducesTo_S4x4224x1024_S_d0_1_2 : S4x4224x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x6912 : S_.BroadcastsInDim S1024x6912 (![] : Fin 0 → Fin S1024x6912.rank)
  reducesTo_S1024x6912_S_d0_1 : S1024x6912.ReducesTo [0, 1] S_

variable [Facts]

def fn {F : FTy → Type} [FloatOps F] (main_arg0 : FVec F S4x4224x1024 .f32) (main_arg1 : FVec F S1024 .f32) (main_arg2 : FVec F S1024x6912 .f32) (main_arg3 : FVec F S64 .f32) (main_arg4 : FVec F S64 .f32) : IVec S_ 1 :=
  let main_v0 : FVec F S4x4224x1024 .f32 := Host.absf main_arg0
  let main_cst : FVec F S_ .f32 := constant S_ .f32 0x7F800000#32
  let main_v1 : FVec F S4x4224x1024 .f32 := broadcastInDim S4x4224x1024 ![] bcast_S_S4x4224x1024 main_cst
  let main_v2 : IVec S4x4224x1024 1 := cmpf .olt main_v0 main_v1
  let main_c : IVec S_ 1 := constantI S_ 1 1#1
  let main_v3 : IVec S_ 1 := (fun x v => Host.reduce IntOp.andi x v reducesTo_S4x4224x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6912 .f32 := Host.absf main_arg2
  let main_cst_2 : FVec F S_ .f32 := constant S_ .f32 0x7F800000#32
  let main_v10 : FVec F S1024x6912 .f32 := broadcastInDim S1024x6912 ![] bcast_S_S1024x6912 main_cst_2
  let main_v11 : IVec S1024x6912 1 := cmpf .olt main_v9 main_v10
  let main_c_3 : IVec S_ 1 := constantI S_ 1 1#1
  let main_v12 : IVec S_ 1 := (fun x v => Host.reduce IntOp.andi x v reducesTo_S1024x6912_S_d0_1 h_S_) main_v11 main_c_3
  let main_v13 : IVec S_ 1 := andi main_v8 main_v12
  main_v13
-- ==== Pre_finite_states.lean ====
abbrev S4x4224x1024 : Shape := ⟨3, ![4, 4224, 1024]⟩
abbrev S4x4224x256 : Shape := ⟨3, ![4, 4224, 256]⟩
abbrev S4x4224x1280 : Shape := ⟨3, ![4, 4224, 1280]⟩
abbrev S1024 : Shape := ⟨1, ![1024]⟩
abbrev S64 : Shape := ⟨1, ![64]⟩
abbrev S1024x6912 : Shape := ⟨2, ![1024, 6912]⟩
abbrev S4x256x1024 : Shape := ⟨3, ![4, 256, 1024]⟩
abbrev S1024x1024 : Shape := ⟨2, ![1024, 1024]⟩
abbrev S_ : Shape := ⟨0, ![]⟩

class Facts : Prop where
  bcast_S_S4x4224x256 : S_.BroadcastsInDim S4x4224x256 (![] : Fin 0 → Fin S4x4224x256.rank)
  reducesTo_S4x4224x256_S_d0_1_2 : S4x4224x256.ReducesTo [0, 1, 2] S_
  h_S_ : 0 < S_.numel

variable [Facts]

def fn {F : FTy → Type} [FloatOps F] (main_arg0 : FVec F S4x4224x1024 .f32) (main_arg1 : FVec F S4x4224x256 .bf16) (main_arg2 : FVec F S4x4224x256 .bf16) (main_arg3 : FVec F S4x4224x256 .bf16) (main_arg4 : FVec F S4x4224x256 .f32) (main_arg5 : FVec F S4x4224x256 .f32) (main_arg6 : FVec F S4x4224x1280 .f32) (main_arg7 : FVec F S1024 .f32) (main_arg8 : FVec F S64 .f32) (main_arg9 : FVec F S1024x6912 .f32) (main_arg10 : FVec F S4x256x1024 .f32) (main_arg11 : FVec F S1024x1024 .f32) : IVec S_ 1 :=
  let main_v0 : FVec F S4x4224x256 .f32 := Host.absf main_arg4
  let main_cst : FVec F S_ .f32 := constant S_ .f32 0x7F800000#32
  let main_v1 : FVec F S4x4224x256 .f32 := broadcastInDim S4x4224x256 ![] bcast_S_S4x4224x256 main_cst
  let main_v2 : IVec S4x4224x256 1 := cmpf .olt main_v0 main_v1
  let main_c : IVec S_ 1 := constantI S_ 1 1#1
  let main_v3 : IVec S_ 1 := (fun x v => Host.reduce IntOp.andi x v reducesTo_S4x4224x256_S_d0_1_2 h_S_) main_v2 main_c
  let main_v4 : FVec F S4x4224x256 .f32 := Host.absf main_arg5
  let main_cst_0 : FVec F S_ .f32 := constant S_ .f32 0x7F800000#32
  let main_v5 : FVec F S4x4224x256 .f32 := broadcastInDim S4x4224x256 ![] bcast_S_S4x4224x256 main_cst_0
  let main_v6 : IVec S4x4224x256 1 := cmpf .olt main_v4 main_v5
  let main_c_1 : IVec S_ 1 := constantI S_ 1 1#1
  let main_v7 : IVec S_ 1 := (fun x v => Host.reduce IntOp.andi x v reducesTo_S4x4224x256_S_d0_1_2 h_S_) main_v6 main_c_1
  let main_v8 : IVec S_ 1 := andi main_v3 main_v7
  main_v8
-- ==== Kernel.lean ====
abbrev S4x4224x1024 : Shape := ⟨3, ![4, 4224, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x1024 : Shape := ⟨3, ![4, 4096, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x4224x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1x1024x2816, .f32⟩
  | .hbm, ⟨10, _⟩ => ⟨S1024x2816, .f32⟩
  | .hbm, ⟨11, _⟩ => ⟨S1024x2816, .bf16⟩
  | .hbm, ⟨12, _⟩ => ⟨S1x1024x2816, .f32⟩
  | .hbm, ⟨13, _⟩ => ⟨S1024x2816, .f32⟩
  | .hbm, ⟨14, _⟩ => ⟨S1024x2816, .bf16⟩
  | .hbm, ⟨15, _⟩ => ⟨S1x2816x1024, .f32⟩
  | .hbm, ⟨16, _⟩ => ⟨S2816x1024, .f32⟩
  | .hbm, ⟨17, _⟩ => ⟨S2816x1024, .bf16⟩
  | .hbm, ⟨18, _⟩ => ⟨S1x1024, .f32⟩
  | .hbm, ⟨19, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c128_i32 : BitVec 32 := 128#32
  let arg1 : BitVec 32 := BitVec.ofNat 32 (i 1).val
  let c512_i32 : BitVec 32 := 512#32
  let v0 : BitVec 32 := Scalar.muli arg1 c512_i32
  let v1 : BitVec 32 := Scalar.addi c128_i32 v0
  v1
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x4224x1024 : Shape := ⟨3, ![4, 4224, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S4x4224 : Shape := ⟨2, ![4, 4224]⟩
abbrev S4x4224x1 : Shape := ⟨3, ![4, 4224, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x4224x2816 : Shape := ⟨3, ![4, 4224, 2816]⟩
abbrev S1x2816x1024 : Shape := ⟨3, ![1, 2816, 1024]⟩
abbrev S2816x1024 : Shape := ⟨2, ![2816, 1024]⟩
abbrev S4x4096x1024 : Shape := ⟨3, ![4, 4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x4224x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S4x4224x1024, .f32⟩
  | .hbm, ⟨9, _⟩ => ⟨S_, .f32⟩
  | .hbm, ⟨10, _⟩ => ⟨S4x4224, .f32⟩
  | .hbm, ⟨11, _⟩ => ⟨S4x4224x1, .f32⟩
  | .hbm, ⟨12, _⟩ => ⟨S_, .f32⟩
  | .hbm, ⟨13, _⟩ => ⟨S4x4224x1, .f32⟩
  | .hbm, ⟨14, _⟩ => ⟨S4x4224x1, .f32⟩
  | .hbm, ⟨15, _⟩ => ⟨S_, .f32⟩
  | .hbm, ⟨16, _⟩ => ⟨S4x4224x1, .f32⟩
  | .hbm, ⟨17, _⟩ => ⟨S4x4224x1, .f32⟩
  | .hbm, ⟨18, _⟩ => ⟨S4x4224x1, .f32⟩
  | .hbm, ⟨19, _⟩ => ⟨S4x4224x1024, .f32⟩
  | .hbm, ⟨20, _⟩ => ⟨S4x4224x1024, .f32⟩
  | .hbm, ⟨21, _⟩ => ⟨S1x1x1024, .f32⟩
  | .hbm, ⟨22, _⟩ => ⟨S4x4224x1024, .f32⟩
  | .hbm, ⟨23, _⟩ => ⟨S4x4224x1024, .f32⟩
  | .hbm, ⟨24, _⟩ => ⟨S1x1024x2816, .f32⟩
  | .hbm, ⟨25, _⟩ => ⟨S1024x2816, .f32⟩
  | .hbm, ⟨26, _⟩ => ⟨S4x4224x2816, .f32⟩
  | .hbm, ⟨27, _⟩ => ⟨S4x4224x2816, .f32⟩
  | .hbm, ⟨28, _⟩ => ⟨S4x4224x2816, .f32⟩
  | .hbm, ⟨29, _⟩ => ⟨S_, .f32⟩
  | .hbm, ⟨30, _⟩ => ⟨S4x4224x2816, .f32⟩
  | .hbm, ⟨31, _⟩ => ⟨S4x4224x2816, .f32⟩
  | .hbm, ⟨32, _⟩ => ⟨S_, .f32⟩
  | .hbm, ⟨33, _⟩ => ⟨S4x4224x2816, .f32⟩
  | .hbm, ⟨34, _⟩ => ⟨S4x4224x2816, .f32⟩
  | .hbm, ⟨35, _⟩ => ⟨S4x4224x2816, .f32⟩
  | .hbm, ⟨36, _⟩ => ⟨S1x1024x2816, .f32⟩
  | .hbm, ⟨37, _⟩ => ⟨S1024x2816, .f32⟩
  | .hbm, ⟨38, _⟩ => ⟨S4x4224x2816, .f32⟩
  | .hbm, ⟨39, _⟩ => ⟨S4x4224x2816, .f32⟩
  | .hbm, ⟨40, _⟩ => ⟨S1x2816x1024, .f32⟩
  | .hbm, ⟨41, _⟩ => ⟨S2816x1024, .f32⟩
  | .hbm, ⟨42, _⟩ => ⟨S4x4224x1024, .f32⟩
  | .hbm, ⟨43, _⟩ => ⟨S4x4224x1024, .f32⟩
  | .hbm, ⟨44, _⟩ => ⟨S4x4224x1024, .f32⟩
  | .hbm, ⟨45, _⟩ => ⟨S_, .f32⟩
  | .hbm, ⟨46, _⟩ => ⟨S4x4224, .f32⟩
  | .hbm, ⟨47, _⟩ => ⟨S4x4224x1, .f32⟩
  | .hbm, ⟨48, _⟩ => ⟨S_, .f32⟩
  | .hbm, ⟨49, _⟩ => ⟨S4x4224x1, .f32⟩
  | .hbm, ⟨50, _⟩ => ⟨S4x4224x1, .f32⟩
  | .hbm, ⟨51, _⟩ => ⟨S_, .f32⟩
  | .hbm, ⟨52, _⟩ => ⟨S4x4224x1, .f32⟩
  | .hbm, ⟨53, _⟩ => ⟨S4x4224x1, .f32⟩
  | .hbm, ⟨54, _⟩ => ⟨S4x4224x1, .f32⟩
  | .hbm, ⟨55, _⟩ => ⟨S4x4224x1024, .f32⟩
  | .hbm, ⟨56, _⟩ => ⟨S4x4224x1024, .f32⟩
  | .hbm, ⟨57, _⟩ => ⟨S1x1x1024, .f32⟩
  | .hbm, ⟨58, _⟩ => ⟨S4x4224x1024, .f32⟩
  | .hbm, ⟨59, _⟩ => ⟨S4x4224x1024, .f32⟩
  | .hbm, ⟨60, _⟩ => ⟨S4x4096x1024, .f32⟩
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Ffn.lean ====
abbrev S4x4224x1024 : Shape := ⟨3, ![4, 4224, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x16896x1024 : Shape := ⟨3, ![1, 16896, 1024]⟩
abbrev S1x768x1024 : Shape := ⟨3, ![1, 768, 1024]⟩
abbrev S768x1024 : Shape := ⟨2, ![768, 1024]⟩
abbrev S768 : Shape := ⟨1, ![768]⟩
abbrev S768x1 : Shape := ⟨2, ![768, 1]⟩
abbrev S1024x1408 : Shape := ⟨2, ![1024, 1408]⟩
abbrev S768x1408 : Shape := ⟨2, ![768, 1408]⟩
abbrev S1408x1024 : Shape := ⟨2, ![1408, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4x4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x16896x1024, .f32⟩
  | .hbm, ⟨12, _⟩ => ⟨S1x16896x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x768x1024, .f32⟩
  | .local _ .vmem, ⟨8, _⟩ => ⟨S1x768x1024, .f32⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S4x4224x1024 : Shape := ⟨3, ![4, 4224, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x4224 : Shape := ⟨2, ![4, 4224]⟩
abbrev S4x4224x1 : Shape := ⟨3, ![4, 4224, 1]⟩
abbrev S1x1x1024 : Shape := ⟨3, ![1, 1, 1024]⟩
abbrev S4x4224x2816 : Shape := ⟨3, ![4, 4224, 2816]⟩
abbrev S1x16896x1024 : Shape := ⟨3, ![1, 16896, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4x4224x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4x4224x1024, .f32⟩
  | .hbm, ⟨7, _⟩ => ⟨S_, .f32⟩
  | .hbm, ⟨8, _⟩ => ⟨S4x4224, .f32⟩
  | .hbm, ⟨9, _⟩ => ⟨S4x4224x1, .f32⟩
  | .hbm, ⟨10, _⟩ => ⟨S_, .f32⟩
  | .hbm, ⟨11, _⟩ => ⟨S4x4224x1, .f32⟩
  | .hbm, ⟨12, _⟩ => ⟨S4x4224x1, .f32⟩
  | .hbm, ⟨13, _⟩ => ⟨S_, .f32⟩
  | .hbm, ⟨14, _⟩ => ⟨S4x4224x1, .f32⟩
  | .hbm, ⟨15, _⟩ => ⟨S4x4224x1, .f32⟩
  | .hbm, ⟨16, _⟩ => ⟨S4x4224x1, .f32⟩
  | .hbm, ⟨17, _⟩ => ⟨S4x4224x1024, .f32⟩
  | .hbm, ⟨18, _⟩ => ⟨S4x4224x1024, .f32⟩
  | .hbm, ⟨19, _⟩ => ⟨S1x1x1024, .f32⟩
  | .hbm, ⟨20, _⟩ => ⟨S4x4224x1024, .f32⟩
  | .hbm, ⟨21, _⟩ => ⟨S4x4224x1024, .f32⟩
  | .hbm, ⟨22, _⟩ => ⟨S4x4224x2816, .f32⟩
  | .hbm, ⟨23, _⟩ => ⟨S4x4224x2816, .f32⟩
  | .hbm, ⟨24, _⟩ => ⟨S4x4224x2816, .f32⟩
  | .hbm, ⟨25, _⟩ => ⟨S_, .f32⟩
  | .hbm, ⟨26, _⟩ => ⟨S4x4224x2816, .f32⟩
  | .hbm, ⟨27, _⟩ => ⟨S4x4224x2816, .f32⟩
  | .hbm, ⟨28, _⟩ => ⟨S_, .f32⟩
  | .hbm, ⟨29, _⟩ => ⟨S4x4224x2816, .f32⟩
  | .hbm, ⟨30, _⟩ => ⟨S4x4224x2816, .f32⟩
  | .hbm, ⟨31, _⟩ => ⟨S4x4224x2816, .f32⟩
  | .hbm, ⟨32, _⟩ => ⟨S4x4224x2816, .f32⟩
  | .hbm, ⟨33, _⟩ => ⟨S4x4224x2816, .f32⟩
  | .hbm, ⟨34, _⟩ => ⟨S4x4224x1024, .f32⟩
  | .hbm, ⟨35, _⟩ => ⟨S4x4224x1024, .f32⟩
  | .hbm, ⟨36, _⟩ => ⟨S1x16896x1024, .f32⟩
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Merge.lean ====
abbrev S4x4224x1024 : Shape := ⟨3, ![4, 4224, 1024]⟩
abbrev S4x4224x256 : Shape := ⟨3, ![4, 4224, 256]⟩
abbrev S4x4224x1280 : Shape := ⟨3, ![4, 4224, 1280]⟩
abbrev S1024 : Shape := ⟨1, ![1024]⟩
abbrev S64 : Shape := ⟨1, ![64]⟩
abbrev S1024x6912 : Shape := ⟨2, ![1024, 6912]⟩
abbrev S4x256x1024 : Shape := ⟨3, ![4, 256, 1024]⟩
abbrev S1024x1024 : Shape := ⟨2, ![1024, 1024]⟩
abbrev S1024x4096 : Shape := ⟨2, ![1024, 4096]⟩
abbrev S4x64 : Shape := ⟨2, ![4, 64]⟩
abbrev S256 : Shape := ⟨1, ![256]⟩
abbrev S_ : Shape := ⟨0, ![]⟩
abbrev S256x256 : Shape := ⟨2, ![256, 256]⟩
abbrev S256x1 : Shape := ⟨2, ![256, 1]⟩
abbrev S1x256 : Shape := ⟨2, ![1, 256]⟩
abbrev S3x256x1024 : Shape := ⟨3, ![3, 256, 1024]⟩
abbrev S3x2x2x64x1024 : Shape := ⟨5, ![3, 2, 2, 64, 1024]⟩
abbrev S1x256x1024 : Shape := ⟨3, ![1, 256, 1024]⟩
abbrev S1x64 : Shape := ⟨2, ![1, 64]⟩
abbrev S1x1024 : Shape := ⟨2, ![1, 1024]⟩
abbrev S1x16896x1024 : Shape := ⟨3, ![1, 16896, 1024]⟩
abbrev S1x16896x256 : Shape := ⟨3, ![1, 16896, 256]⟩
abbrev S1x16896x1280 : Shape := ⟨3, ![1, 16896, 1280]⟩
abbrev S1x768x1024 : Shape := ⟨3, ![1, 768, 1024]⟩
abbrev S1x768x256 : Shape := ⟨3, ![1, 768, 256]⟩
abbrev S768x1024 : Shape := ⟨2, ![768, 1024]⟩
abbrev S768 : Shape := ⟨1, ![768]⟩
abbrev S768x1 : Shape := ⟨2, ![768, 1]⟩
abbrev S768x256 : Shape := ⟨2, ![768, 256]⟩
abbrev S256x1024 : Shape := ⟨2, ![256, 1024]⟩

abbrev nBuf : Space → Nat
  | .hbm => 48
  | .vmem => 22
  | .smem => 0
  | _ => 0

abbrev bufTy : (tb : Table) → Fin (tcTables nBuf tb) → BufTy
  | .hbm, ⟨0, _⟩ => ⟨S4x4224x1024, .f32⟩
  | .hbm, ⟨1, _⟩ => ⟨S4x4224x256, .bf16⟩
  | .hbm, ⟨2, _⟩ => ⟨S4x4224x256, .bf16⟩
  | .hbm, ⟨3, _⟩ => ⟨S4x4224x256, .bf16⟩
  | .hbm, ⟨4, _⟩ => ⟨S4x4224x256, .f32⟩
  | .hbm, ⟨5, _⟩ => ⟨S4x4224x256, .f32⟩
  | .hbm, ⟨6, _⟩ => ⟨S4x4224x1280, .f32⟩
  | .hbm, ⟨7, _⟩ => ⟨S1024, .f32⟩
  | .hbm, ⟨8, _⟩ => ⟨S64, .f32⟩
  | .hbm, ⟨9, _⟩ => ⟨S1024x6912, .f32⟩
  | .hbm, ⟨10, _⟩ => ⟨S4x256x1024, .f32⟩
  | .hbm, ⟨11, _⟩ => ⟨S1024x1024, .f32⟩
  | .hbm, ⟨12, _⟩ => ⟨S1024x4096, .f32⟩
  | .hbm, ⟨13, _⟩ => ⟨S1024x4096, .bf16⟩
  | .hbm, ⟨14, _⟩ => ⟨S4x64, .i32⟩
  | .hbm, ⟨15, _⟩ => ⟨S256, .i32⟩
  | .hbm, ⟨16, _⟩ => ⟨S_, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x1, .i32⟩
  | .hbm, ⟨21, _⟩ => ⟨S1x256, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S256x256, .f32⟩
  | .hbm, ⟨26, _⟩ => ⟨S256x256, .bf16⟩
  | .hbm, ⟨27, _⟩ => ⟨S4x256x1024, .bf16⟩
  | .hbm, ⟨28, _⟩ => ⟨S3x256x1024, .bf16⟩
  | .hbm, ⟨29, _⟩ => ⟨S3x2x2x64x1024, .bf16⟩
  | .hbm, ⟨30, _⟩ => ⟨S3x2x2x64x1024, .bf16⟩
  | .hbm, ⟨31, _⟩ => ⟨S3x256x1024, .bf16⟩
  | .hbm, ⟨32, _⟩ => ⟨S1x256x1024, .bf16⟩
  | .hbm, ⟨33, _⟩ => ⟨S4x256x1024, .bf16⟩
  | .hbm, ⟨34, _⟩ => ⟨S1x64, .f32⟩
  | .hbm, ⟨35, _⟩ => ⟨S4x64, .f32⟩
  | .hbm, ⟨36, _⟩ => ⟨S256, .f32⟩
  | .hbm, ⟨37, _⟩ => ⟨S1x256, .f32⟩
  | .hbm, ⟨38, _⟩ => ⟨S1x1024, .f32⟩
  | .hbm, ⟨39, _⟩ => ⟨S1024x1024, .bf16⟩
  | .hbm, ⟨40, _⟩ => ⟨S1x16896x1024, .f32⟩
  | .hbm, ⟨41, _⟩ => ⟨S1x16896x256, .bf16⟩
  | .hbm, ⟨42, _⟩ => ⟨S1x16896x256, .bf16⟩
  | .hbm, ⟨43, _⟩ => ⟨S1x16896x256, .bf16⟩
  | .hbm, ⟨44, _⟩ => ⟨S1x16896x256, .f32⟩
  | .hbm, ⟨45, _⟩ => ⟨S1x16896x256, .f32⟩
  | .hbm, ⟨46, _⟩ => ⟨S1x16896x1280, .f32⟩
  | .hbm, ⟨47, _⟩ => ⟨S1x16896x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x768x256, .bf16⟩
  | .local _ .vmem, ⟨3, _⟩ => ⟨S1x768x256, .bf16⟩
  | .local _ .vmem, ⟨4, _⟩ => ⟨S1x768x256, .bf16⟩
  | .local _ .vmem, ⟨5, _⟩ => ⟨S1x768x256, .bf16⟩
  | .local _ .vmem, ⟨6, _⟩ => ⟨S1x768x256, .bf16⟩
  | .local _ .vmem, ⟨7, _⟩ => ⟨S1x768x256, .bf16⟩
  | .local _ .vmem, ⟨8, _⟩ => ⟨S1x768x256, .f32⟩
  | .local _ .vmem, ⟨9, _⟩ => ⟨S1x768x256, .f32⟩
  | .local _ .vmem, ⟨10, _⟩ => ⟨S1x768x256, .f32⟩
  | .local _ .vmem, ⟨11, _⟩ => ⟨S1x768x256, .f32⟩
  | .local _ .vmem, ⟨12, _⟩ => ⟨S1x768x256, .f32⟩
  | .local _ .vmem, ⟨13, _⟩ => ⟨S1x768x256, .f32⟩
  | .local _ .vmem, ⟨14, _⟩ => ⟨S1x1024, .f32⟩
  | .local _ .vmem, ⟨15, _⟩ => ⟨S1x256, .f32⟩
  | .local _ .vmem, ⟨16, _⟩ => ⟨S256x256, .bf16⟩
  | .local _ .vmem, ⟨17, _⟩ => ⟨S1024x4096, .bf16⟩
  | .local _ .vmem, ⟨18, _⟩ => ⟨S4x256x1024, .bf16⟩
  | .local _ .vmem, ⟨19, _⟩ => ⟨S1024x1024, .bf16⟩
  | .local _ .vmem, ⟨20, _⟩ => ⟨S1x768x1024, .f32⟩
  | .local _ .vmem, ⟨21, _⟩ => ⟨S1x768x1024, .f32⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x768x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S4x4224x1024 : Shape := ⟨3, ![4, 4224, 1024]⟩
abbrev S4x4224x256 : Shape := ⟨3, ![4, 4224, 256]⟩
abbrev S4x4224x1280 : Shape := ⟨3, ![4, 4224, 1280]⟩
abbrev S1024 : Shape := ⟨1, ![1024]⟩
abbrev S64 : Shape := ⟨1, ![64]⟩
abbrev S1024x6912 : Shape := ⟨2, ![1024, 6912]⟩
abbrev S4x256x1024 : Shape := ⟨3, ![4, 256, 1024]⟩
abbrev S1024x1024 : Shape := ⟨2, ![1024, 1024]⟩
abbrev S_ : Shape := ⟨0, ![]⟩
abbrev S4x4224 : Shape := ⟨2, ![4, 4224]⟩
abbrev S4x4224x1 : Shape := ⟨3, ![4, 4224, 1]⟩
abbrev S1x1x1024 : Shape := ⟨3, ![1, 1, 1024]⟩
abbrev S1024x4096 : Shape := ⟨2, ![1024, 4096]⟩
abbrev S4x4224x4096 : Shape := ⟨3, ![4, 4224, 4096]⟩
abbrev S4x4224x4x64 : Shape := ⟨4, ![4, 4224, 4, 64]⟩
abbrev S4x4224x4 : Shape := ⟨3, ![4, 4224, 4]⟩
abbrev S4x4224x4x1 : Shape := ⟨4, ![4, 4224, 4, 1]⟩
abbrev S1x1x1x64 : Shape := ⟨4, ![1, 1, 1, 64]⟩
abbrev S4x4224x4x1024 : Shape := ⟨4, ![4, 4224, 4, 1024]⟩
abbrev S4x4224x1x1024 : Shape := ⟨4, ![4, 4224, 1, 1024]⟩
abbrev S4x4224x2x2x64 : Shape := ⟨5, ![4, 4224, 2, 2, 64]⟩
abbrev S1x256x1024 : Shape := ⟨3, ![1, 256, 1024]⟩
abbrev S256x1024 : Shape := ⟨2, ![256, 1024]⟩
abbrev S1x16896x1024 : Shape := ⟨3, ![1, 16896, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4x4224x1024, .f32⟩
  | .hbm, ⟨1, _⟩ => ⟨S4x4224x256, .bf16⟩
  | .hbm, ⟨2, _⟩ => ⟨S4x4224x256, .bf16⟩
  | .hbm, ⟨3, _⟩ => ⟨S4x4224x256, .bf16⟩
  | .hbm, ⟨4, _⟩ => ⟨S4x4224x256, .f32⟩
  | .hbm, ⟨5, _⟩ => ⟨S4x4224x256, .f32⟩
  | .hbm, ⟨6, _⟩ => ⟨S4x4224x1280, .f32⟩
  | .hbm, ⟨7, _⟩ => ⟨S1024, .f32⟩
  | .hbm, ⟨8, _⟩ => ⟨S64, .f32⟩
  | .hbm, ⟨9, _⟩ => ⟨S1024x6912, .f32⟩
  | .hbm, ⟨10, _⟩ => ⟨S4x256x1024, .f32⟩
  | .hbm, ⟨11, _⟩ => ⟨S1024x1024, .f32⟩
  | .hbm, ⟨12, _⟩ => ⟨S4x4224x256, .f32⟩
  | .hbm, ⟨13, _⟩ => ⟨S4x4224x1024, .f32⟩
  | .hbm, ⟨14, _⟩ => ⟨S_, .f32⟩
  | .hbm, ⟨15, _⟩ => ⟨S4x4224, .f32⟩
  | .hbm, ⟨16, _⟩ => ⟨S4x4224x1, .f32⟩
  | .hbm, ⟨17, _⟩ => ⟨S_, .f32⟩
  | .hbm, ⟨18, _⟩ => ⟨S4x4224x1, .f32⟩
  | .hbm, ⟨19, _⟩ => ⟨S4x4224x1, .f32⟩
  | .hbm, ⟨20, _⟩ => ⟨S_, .f32⟩
  | .hbm, ⟨21, _⟩ => ⟨S4x4224x1, .f32⟩
  | .hbm, ⟨22, _⟩ => ⟨S4x4224x1, .f32⟩
  | .hbm, ⟨23, _⟩ => ⟨S4x4224x1, .f32⟩
  | .hbm, ⟨24, _⟩ => ⟨S4x4224x1024, .f32⟩
  | .hbm, ⟨25, _⟩ => ⟨S4x4224x1024, .f32⟩
  | .hbm, ⟨26, _⟩ => ⟨S1x1x1024, .f32⟩
  | .hbm, ⟨27, _⟩ => ⟨S4x4224x1024, .f32⟩
  | .hbm, ⟨28, _⟩ => ⟨S4x4224x1024, .f32⟩
  | .hbm, ⟨29, _⟩ => ⟨S1024x4096, .f32⟩
  | .hbm, ⟨30, _⟩ => ⟨S4x4224x4096, .f32⟩
  | .hbm, ⟨31, _⟩ => ⟨S4x4224x256, .f32⟩
  | .hbm, ⟨32, _⟩ => ⟨S4x4224x4x64, .f32⟩
  | .hbm, ⟨33, _⟩ => ⟨S4x4224x4x64, .f32⟩
  | .hbm, ⟨34, _⟩ => ⟨S_, .f32⟩
  | .hbm, ⟨35, _⟩ => ⟨S4x4224x4, .f32⟩
  | .hbm, ⟨36, _⟩ => ⟨S4x4224x4x1, .f32⟩
  | .hbm, ⟨37, _⟩ => ⟨S_, .f32⟩
  | .hbm, ⟨38, _⟩ => ⟨S4x4224x4x1, .f32⟩
  | .hbm, ⟨39, _⟩ => ⟨S4x4224x4x1, .f32⟩
  | .hbm, ⟨40, _⟩ => ⟨S_, .f32⟩
  | .hbm, ⟨41, _⟩ => ⟨S4x4224x4x1, .f32⟩
  | .hbm, ⟨42, _⟩ => ⟨S4x4224x4x1, .f32⟩
  | .hbm, ⟨43, _⟩ => ⟨S4x4224x4x1, .f32⟩
  | .hbm, ⟨44, _⟩ => ⟨S4x4224x4x64, .f32⟩
  | .hbm, ⟨45, _⟩ => ⟨S4x4224x4x64, .f32⟩
  | .hbm, ⟨46, _⟩ => ⟨S1x1x1x64, .f32⟩
  | .hbm, ⟨47, _⟩ => ⟨S4x4224x4x64, .f32⟩
  | .hbm, ⟨48, _⟩ => ⟨S4x4224x4x64, .f32⟩
  | .hbm, ⟨49, _⟩ => ⟨S4x4224x4x64, .f32⟩
  | .hbm, ⟨50, _⟩ => ⟨S4x4224x4x64, .f32⟩
  | .hbm, ⟨51, _⟩ => ⟨S4x4224x4x64, .f32⟩
  | .hbm, ⟨52, _⟩ => ⟨S_, .f32⟩
  | .hbm, ⟨53, _⟩ => ⟨S4x4224x4x64, .f32⟩
  | .hbm, ⟨54, _⟩ => ⟨S4x4224x4x64, .f32⟩
  | .hbm, ⟨55, _⟩ => ⟨S_, .f32⟩
  | .hbm, ⟨56, _⟩ => ⟨S4x4224x4x64, .f32⟩
  | .hbm, ⟨57, _⟩ => ⟨S4x4224x4x64, .f32⟩
  | .hbm, ⟨58, _⟩ => ⟨S4x4224x4x64, .f32⟩
  | .hbm, ⟨59, _⟩ => ⟨S4x4224x4x64, .f32⟩
  | .hbm, ⟨60, _⟩ => ⟨S4x4224x256, .f32⟩
  | .hbm, ⟨61, _⟩ => ⟨S4x4224x4096, .f32⟩
  | .hbm, ⟨62, _⟩ => ⟨S4x4224x4096, .f32⟩
  | .hbm, ⟨63, _⟩ => ⟨S_, .f32⟩
  | .hbm, ⟨64, _⟩ => ⟨S4x4224x4096, .f32⟩
  | .hbm, ⟨65, _⟩ => ⟨S4x4224x4096, .f32⟩
  | .hbm, ⟨66, _⟩ => ⟨S_, .f32⟩
  | .hbm, ⟨67, _⟩ => ⟨S4x4224x4096, .f32⟩
  | .hbm, ⟨68, _⟩ => ⟨S4x4224x4096, .f32⟩
  | .hbm, ⟨69, _⟩ => ⟨S4x4224x4x1024, .f32⟩
  | .hbm, ⟨70, _⟩ => ⟨S4x4224x1x1024, .f32⟩
  | .hbm, ⟨71, _⟩ => ⟨S4x4224x1024, .f32⟩
  | .hbm, ⟨72, _⟩ => ⟨S4x4224x256, .f32⟩
  | .hbm, ⟨73, _⟩ => ⟨S4x4224x2x2x64, .f32⟩
  | .hbm, ⟨74, _⟩ => ⟨S4x4224x2x2x64, .f32⟩
  | .hbm, ⟨75, _⟩ => ⟨S4x4224x256, .f32⟩
  | .hbm, ⟨76, _⟩ => ⟨S1x256x1024, .f32⟩
  | .hbm, ⟨77, _⟩ => ⟨S256x1024, .f32⟩
  | .hbm, ⟨78, _⟩ => ⟨S4x4224x1024, .f32⟩
  | .hbm, ⟨79, _⟩ => ⟨S4x4224x1024, .f32⟩
  | .hbm, ⟨80, _⟩ => ⟨S4x4224x256, .f32⟩
  | .hbm, ⟨81, _⟩ => ⟨S4x4224x2x2x64, .f32⟩
  | .hbm, ⟨82, _⟩ => ⟨S4x4224x2x2x64, .f32⟩
  | .hbm, ⟨83, _⟩ => ⟨S4x4224x256, .f32⟩
  | .hbm, ⟨84, _⟩ => ⟨S4x4224x256, .f32⟩
  | .hbm, ⟨85, _⟩ => ⟨S4x4224x2x2x64, .f32⟩
  | .hbm, ⟨86, _⟩ => ⟨S4x4224x2x2x64, .f32⟩
  | .hbm, ⟨87, _⟩ => ⟨S4x4224x256, .f32⟩
  | .hbm, ⟨88, _⟩ => ⟨S4x4224x1x1024, .f32⟩
  | .hbm, ⟨89, _⟩ => ⟨S4x4224x1024, .f32⟩
  | .hbm, ⟨90, _⟩ => ⟨S1x256x1024, .f32⟩
  | .hbm, ⟨91, _⟩ => ⟨S256x1024, .f32⟩
  | .hbm, ⟨92, _⟩ => ⟨S4x4224x1024, .f32⟩
  | .hbm, ⟨93, _⟩ => ⟨S4x4224x1024, .f32⟩
  | .hbm, ⟨94, _⟩ => ⟨S4x4224x1024, .f32⟩
  | .hbm, ⟨95, _⟩ => ⟨S4x4224x1x1024, .f32⟩
  | .hbm, ⟨96, _⟩ => ⟨S4x4224x1024, .f32⟩
  | .hbm, ⟨97, _⟩ => ⟨S1x256x1024, .f32⟩
  | .hbm, ⟨98, _⟩ => ⟨S256x1024, .f32⟩
  | .hbm, ⟨99, _⟩ => ⟨S4x4224x1024, .f32⟩
  | .hbm, ⟨100, _⟩ => ⟨S4x4224x1024, .f32⟩
  | .hbm, ⟨101, _⟩ => ⟨S4x4224x1024, .f32⟩
  | .hbm, ⟨102, _⟩ => ⟨S4x4224x1x1024, .f32⟩
  | .hbm, ⟨103, _⟩ => ⟨S4x4224x1024, .f32⟩
  | .hbm, ⟨104, _⟩ => ⟨S1x256x1024, .f32⟩
  | .hbm, ⟨105, _⟩ => ⟨S256x1024, .f32⟩
  | .hbm, ⟨106, _⟩ => ⟨S4x4224x1024, .f32⟩
  | .hbm, ⟨107, _⟩ => ⟨S4x4224x1024, .f32⟩
  | .hbm, ⟨108, _⟩ => ⟨S4x4224x1024, .f32⟩
  | .hbm, ⟨109, _⟩ => ⟨S4x4224x1024, .f32⟩
  | .hbm, ⟨110, _⟩ => ⟨S4x4224x1024, .f32⟩
  | .hbm, ⟨111, _⟩ => ⟨S1x16896x1024, .f32⟩
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]
-- ==== Next.lean ====
abbrev S4x4224x1024 : Shape := ⟨3, ![4, 4224, 1024]⟩
abbrev S1024 : Shape := ⟨1, ![1024]⟩
abbrev S1024x6912 : Shape := ⟨2, ![1024, 6912]⟩
abbrev S64 : Shape := ⟨1, ![64]⟩
abbrev S_ : Shape := ⟨0, ![]⟩
abbrev S112 : Shape := ⟨1, ![112]⟩
abbrev S16 : Shape := ⟨1, ![16]⟩
abbrev S64x64 : Shape := ⟨2, ![64, 64]⟩
abbrev S4096 : Shape := ⟨1, ![4096]⟩
abbrev S4224 : Shape := ⟨1, ![4224]⟩
abbrev S1x64 : Shape := ⟨2, ![1, 64]⟩
abbrev S4224x1 : Shape := ⟨2, ![4224, 1]⟩
abbrev S1x16 : Shape := ⟨2, ![1, 16]⟩
abbrev S4224x16 : Shape := ⟨2, ![4224, 16]⟩
abbrev S4224x32 : Shape := ⟨2, ![4224, 32]⟩
abbrev S1x4224x1x32 : Shape := ⟨4, ![1, 4224, 1, 32]⟩
abbrev S1x4224x4x32 : Shape := ⟨4, ![1, 4224, 4, 32]⟩
abbrev S4224x128 : Shape := ⟨2, ![4224, 128]⟩
abbrev S1x4224x2x32 : Shape := ⟨4, ![1, 4224, 2, 32]⟩
abbrev S4224x64 : Shape := ⟨2, ![4224, 64]⟩
abbrev S2x2x32 : Shape := ⟨3, ![2, 2, 32]⟩
abbrev S128 : Shape := ⟨1, ![128]⟩
abbrev S128x128 : Shape := ⟨2, ![128, 128]⟩
abbrev S128x1 : Shape := ⟨2, ![128, 1]⟩
abbrev S1x128 : Shape := ⟨2, ![1, 128]⟩
abbrev S1x256 : Shape := ⟨2, ![1, 256]⟩
abbrev S1x768 : Shape := ⟨2, ![1, 768]⟩
abbrev S1x1536 : Shape := ⟨2, ![1, 1536]⟩
abbrev S1024x512 : Shape := ⟨2, ![1024, 512]⟩
abbrev S1024x256 : Shape := ⟨2, ![1024, 256]⟩
abbrev S1024x2x2x64 : Shape := ⟨4, ![1024, 2, 2, 64]⟩
abbrev S1024x2x2x2x2x16 : Shape := ⟨6, ![1024, 2, 2, 2, 2, 16]⟩
abbrev S1024x128 : Shape := ⟨2, ![1024, 128]⟩
abbrev S1024x1x2x2x2x16 : Shape := ⟨6, ![1024, 1, 2, 2, 2, 16]⟩
abbrev S1024x1536 : Shape := ⟨2, ![1024, 1536]⟩
abbrev S1024x1280 : Shape := ⟨2, ![1024, 1280]⟩
abbrev S2x2x16 : Shape := ⟨3, ![2, 2, 16]⟩
abbrev S2x1x32 : Shape := ⟨3, ![2, 1, 32]⟩
abbrev S3x128 : Shape := ⟨2, ![3, 128]⟩
abbrev S1x1024 : Shape := ⟨2, ![1, 1024]⟩
abbrev S4x4224x1536 : Shape := ⟨3, ![4, 4224, 1536]⟩
abbrev S4x4224x1280 : Shape := ⟨3, ![4, 4224, 1280]⟩
abbrev S4x128x4224 : Shape := ⟨3, ![4, 128, 4224]⟩
abbrev S1x384x1024 : Shape := ⟨3, ![1, 384, 1024]⟩
abbrev S384x128 : Shape := ⟨2, ![384, 128]⟩
abbrev S1x384x1536 : Shape := ⟨3, ![1, 384, 1536]⟩
abbrev S1x384x1280 : Shape := ⟨3, ![1, 384, 1280]⟩
abbrev S1x128x384 : Shape := ⟨3, ![1, 128, 384]⟩
abbrev S384x1024 : Shape := ⟨2, ![384, 1024]⟩
abbrev S384 : Shape := ⟨1, ![384]⟩
abbrev S384x1 : Shape := ⟨2, ![384, 1]⟩
abbrev S384x1536 : Shape := ⟨2, ![384, 1536]⟩
abbrev S384x512 : Shape := ⟨2, ![384, 512]⟩
abbrev S1x384x512 : Shape := ⟨3, ![1, 384, 512]⟩
abbrev S1x384x128 : Shape := ⟨3, ![1, 384, 128]⟩
abbrev S384x640 : Shape := ⟨2, ![384, 640]⟩
abbrev S1x384x640 : Shape := ⟨3, ![1, 384, 640]⟩
abbrev S128x384 : Shape := ⟨2, ![128, 384]⟩
abbrev S384x1280 : Shape := ⟨2, ![384, 1280]⟩

abbrev nBuf : Space → Nat
  | .hbm => 133
  | .vmem => 20
  | .smem => 0
  | _ => 0

abbrev hbmTy0_0 (i : Nat) : BufTy := match i % 128 with
  | 0 => ⟨S4x4224x1024, .f32⟩
  | 1 => ⟨S1024, .f32⟩
  | 2 => ⟨S1024x6912, .f32⟩
  | 3 => ⟨S64, .f32⟩
  | 4 => ⟨S64, .f32⟩
  | 5 => ⟨S_, .i32⟩
  | 6 => ⟨S112, .i32⟩
  | 7 => ⟨S_, .i32⟩
  | 8 => ⟨S16, .i32⟩
  | 9 => ⟨S16, .i32⟩
  | 10 => ⟨S64, .i32⟩
  | 11 => ⟨S64x64, .i32⟩
  | 12 => ⟨S4096, .i32⟩
  | 13 => ⟨S4224, .i32⟩
  | 14 => ⟨S4224, .f32⟩
  | 15 => ⟨S_, .i32⟩
  | 16 => ⟨S112, .i32⟩
  | 17 => ⟨S16, .i32⟩
  | 18 => ⟨S64, .i32⟩
  | 19 => ⟨S1x64, .i32⟩
  | 20 => ⟨S64x64, .i32⟩
  | 21 => ⟨S4096, .i32⟩
  | 22 => ⟨S4224, .i32⟩
  | 23 => ⟨S4224, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S4224x1, .f32⟩
  | 39 => ⟨S1x16, .f32⟩
  | 40 => ⟨S4224x16, .f32⟩
  | 41 => ⟨S4224x16, .f32⟩
  | 42 => ⟨S4224x16, .f32⟩
  | 43 => ⟨S4224x1, .f32⟩
  | 44 => ⟨S1x16, .f32⟩
  | 45 => ⟨S4224x16, .f32⟩
  | 46 => ⟨S4224x16, .f32⟩
  | 47 => ⟨S4224x16, .f32⟩
  | 48 => ⟨S4224x32, .f32⟩
  | 49 => ⟨S4224x32, .f32⟩
  | 50 => ⟨S1x4224x1x32, .f32⟩
  | 51 => ⟨S1x4224x4x32, .f32⟩
  | 52 => ⟨S4224x128, .f32⟩
  | 53 => ⟨S4224x32, .f32⟩
  | 54 => ⟨S1x4224x1x32, .f32⟩
  | 55 => ⟨S1x4224x2x32, .f32⟩
  | 56 => ⟨S4224x64, .f32⟩
  | 57 => ⟨S4224x64, .f32⟩
  | 58 => ⟨S4224x32, .f32⟩
  | 59 => ⟨S1x4224x1x32, .f32⟩
  | 60 => ⟨S1x4224x2x32, .f32⟩
  | 61 => ⟨S4224x64, .f32⟩
  | 62 => ⟨S4224x128, .f32⟩
  | 63 => ⟨S2x2x32, .i32⟩
  | 64 => ⟨S128, .i32⟩
  | 65 => ⟨S_, .f32⟩
  | 66 => ⟨S128x128, .f32⟩
  | 67 => ⟨S_, .f32⟩
  | 68 => ⟨S128x128, .f32⟩
  | 69 => ⟨S128x1, .i32⟩
  | 70 => ⟨S1x128, .i32⟩
  | 71 => ⟨S128x128, .i32⟩
  | 72 => ⟨S128x128, .i32⟩
  | 73 => ⟨S128x128, .i1⟩
  | 74 => ⟨S128x128, .f32⟩
  | 75 => ⟨S128x128, .bf16⟩
  | 76 => ⟨S_, .f32⟩
  | 77 => ⟨S1x256, .f32⟩
  | 78 => ⟨S_, .f32⟩
  | 79 => ⟨S1x768, .f32⟩
  | 80 => ⟨S_, .f32⟩
  | 81 => ⟨S1x256, .f32⟩
  | 82 => ⟨S_, .f32⟩
  | 83 => ⟨S1x256, .f32⟩
  | 84 => ⟨S1x1536, .f32⟩
  | 85 => ⟨S1024x512, .f32⟩
  | 86 => ⟨S1024x512, .f32⟩
  | 87 => ⟨S1024x512, .f32⟩
  | 88 => ⟨S1024x256, .f32⟩
  | 89 => ⟨S1024x2x2x64, .f32⟩
  | 90 => ⟨S1024x2x2x64, .f32⟩
  | 91 => ⟨S1024x256, .f32⟩
  | 92 => ⟨S1024x256, .f32⟩
  | 93 => ⟨S1024x256, .f32⟩
  | 94 => ⟨S1024x2x2x2x2x16, .f32⟩
  | 95 => ⟨S1024x2x2x2x2x16, .f32⟩
  | 96 => ⟨S1024x256, .f32⟩
  | 97 => ⟨S1024x128, .f32⟩
  | 98 => ⟨S1024x1x2x2x2x16, .f32⟩
  | 99 => ⟨S1024x1x2x2x2x16, .f32⟩
  | 100 => ⟨S1024x128, .f32⟩
  | 101 => ⟨S1024x128, .f32⟩
  | 102 => ⟨S1024x256, .f32⟩
  | 103 => ⟨S1024x2x2x64, .f32⟩
  | 104 => ⟨S1024x2x2x64, .f32⟩
  | 105 => ⟨S1024x256, .f32⟩
  | 106 => ⟨S1024x256, .f32⟩
  | 107 => ⟨S1024x1536, .f32⟩
  | 108 => ⟨S1024x1536, .bf16⟩
  | 109 => ⟨S1024x1280, .f32⟩
  | 110 => ⟨S1024x1280, .bf16⟩
  | 111 => ⟨S2x2x16, .f32⟩
  | 112 => ⟨S2x2x16, .f32⟩
  | 113 => ⟨S2x1x32, .f32⟩
  | 114 => ⟨S2x2x32, .f32⟩
  | 115 => ⟨S128, .f32⟩
  | 116 => ⟨S_, .f32⟩
  | 117 => ⟨S128, .f32⟩
  | 118 => ⟨S128, .f32⟩
  | 119 => ⟨S2x2x16, .f32⟩
  | 120 => ⟨S2x2x16, .f32⟩
  | 121 => ⟨S2x1x32, .f32⟩
  | 122 => ⟨S2x2x32, .f32⟩
  | 123 => ⟨S128, .f32⟩
  | 124 => ⟨S1x128, .f32⟩
  | 125 => ⟨S1x128, .f32⟩
  | 126 => ⟨S1x128, .f32⟩
  | 127 => ⟨S3x128, .f32⟩
  | _ => ⟨S4x4224x1024, .f32⟩

abbrev hbmTy0_1 (i : Nat) : BufTy := match i % 128 with
  | 0 => ⟨S1x1024, .f32⟩
  | 1 => ⟨S4x4224x1536, .bf16⟩
  | 2 => ⟨S4x4224x1280, .f32⟩
  | 3 => ⟨S4x128x4224, .bf16⟩
  | 4 => ⟨S4x128x4224, .bf16⟩
  | _ => ⟨S4x4224x1024, .f32⟩

abbrev hbmTy (i : Nat) : BufTy := match i / 128 with
  | 0 => hbmTy0_0 i
  | 1 => hbmTy0_1 i
  | _ => ⟨S4x4224x1024, .f32⟩

abbrev bufTy : (tb : Table) → Fin (tcTables nBuf tb) → BufTy
  | .hbm, ⟨i, _⟩ => hbmTy i
  | .local _ .vmem, ⟨0, _⟩ => ⟨S1x384x1024, .f32⟩
  | .local _ .vmem, ⟨1, _⟩ => ⟨S1x384x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1280, .bf16⟩
  | .local _ .vmem, ⟨5, _⟩ => ⟨S1x1536, .f32⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S3x128, .f32⟩
  | .local _ .vmem, ⟨11, _⟩ => ⟨S128x128, .bf16⟩
  | .local _ .vmem, ⟨12, _⟩ => ⟨S1x384x1536, .bf16⟩
  | .local _ .vmem, ⟨13, _⟩ => ⟨S1x384x1536, .bf16⟩
  | .local _ .vmem, ⟨14, _⟩ => ⟨S1x384x1280, .f32⟩
  | .local _ .vmem, ⟨15, _⟩ => ⟨S1x384x1280, .f32⟩
  | .local _ .vmem, ⟨16, _⟩ => ⟨S1x128x384, .bf16⟩
  | .local _ .vmem, ⟨17, _⟩ => ⟨S1x128x384, .bf16⟩
  | .local _ .vmem, ⟨18, _⟩ => ⟨S1x128x384, .bf16⟩
  | .local _ .vmem, ⟨19, _⟩ => ⟨S1x128x384, .bf16⟩
  | _, _ => ⟨S4x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_11 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110_0 : Ref sig .tc := ⟨.hbm, 129, rfl⟩
abbrev main_v110_1 : Ref sig .tc := ⟨.hbm, 130, rfl⟩
abbrev main_v110_2 : Ref sig .tc := ⟨.hbm, 131, rfl⟩
abbrev main_v110_3 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x384x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x384x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== NextReferenceIdeal.lean ====
abbrev S4x4224x1024 : Shape := ⟨3, ![4, 4224, 1024]⟩
abbrev S1024 : Shape := ⟨1, ![1024]⟩
abbrev S1024x6912 : Shape := ⟨2, ![1024, 6912]⟩
abbrev S64 : Shape := ⟨1, ![64]⟩
abbrev S_ : Shape := ⟨0, ![]⟩
abbrev S112 : Shape := ⟨1, ![112]⟩
abbrev S16 : Shape := ⟨1, ![16]⟩
abbrev S64x64 : Shape := ⟨2, ![64, 64]⟩
abbrev S4096 : Shape := ⟨1, ![4096]⟩
abbrev S4224 : Shape := ⟨1, ![4224]⟩
abbrev S1x64 : Shape := ⟨2, ![1, 64]⟩
abbrev S4x4224 : Shape := ⟨2, ![4, 4224]⟩
abbrev S4x4224x1 : Shape := ⟨3, ![4, 4224, 1]⟩
abbrev S1x1x1024 : Shape := ⟨3, ![1, 1, 1024]⟩
abbrev S1024x2816 : Shape := ⟨2, ![1024, 2816]⟩
abbrev S4x4224x2816 : Shape := ⟨3, ![4, 4224, 2816]⟩
abbrev S4x4224x256 : Shape := ⟨3, ![4, 4224, 256]⟩
abbrev S4x4224x4x64 : Shape := ⟨4, ![4, 4224, 4, 64]⟩
abbrev S4x4224x2x2x64 : Shape := ⟨5, ![4, 4224, 2, 2, 64]⟩
abbrev S4x4224x4 : Shape := ⟨3, ![4, 4224, 4]⟩
abbrev S4x4224x4x1 : Shape := ⟨4, ![4, 4224, 4, 1]⟩
abbrev S1x1x1x64 : Shape := ⟨4, ![1, 1, 1, 64]⟩
abbrev S4x4224x4x32 : Shape := ⟨4, ![4, 4224, 4, 32]⟩
abbrev S4224x1 : Shape := ⟨2, ![4224, 1]⟩
abbrev S1x16 : Shape := ⟨2, ![1, 16]⟩
abbrev S4224x16 : Shape := ⟨2, ![4224, 16]⟩
abbrev S4224x1x16 : Shape := ⟨3, ![4224, 1, 16]⟩
abbrev S4x4224x4x16 : Shape := ⟨4, ![4, 4224, 4, 16]⟩
abbrev S1x4224x1x16 : Shape := ⟨4, ![1, 4224, 1, 16]⟩
abbrev S4x4224x2x2x2x2x16 : Shape := ⟨7, ![4, 4224, 2, 2, 2, 2, 16]⟩
abbrev S4x4224x128 : Shape := ⟨3, ![4, 4224, 128]⟩
abbrev S4x4224x2x64 : Shape := ⟨4, ![4, 4224, 2, 64]⟩
abbrev S4x4224x2 : Shape := ⟨3, ![4, 4224, 2]⟩
abbrev S4x4224x2x1 : Shape := ⟨4, ![4, 4224, 2, 1]⟩
abbrev S4x4224x2x32 : Shape := ⟨4, ![4, 4224, 2, 32]⟩
abbrev S4x4224x2x16 : Shape := ⟨4, ![4, 4224, 2, 16]⟩
abbrev S4x4224x2x1x2x2x16 : Shape := ⟨7, ![4, 4224, 2, 1, 2, 2, 16]⟩
abbrev S4x4224x1x2x2x2x16 : Shape := ⟨7, ![4, 4224, 1, 2, 2, 2, 16]⟩
abbrev S4x4224x1536 : Shape := ⟨3, ![4, 4224, 1536]⟩
abbrev S4x128x4224 : Shape := ⟨3, ![4, 128, 4224]⟩
abbrev S4x4224x1280 : Shape := ⟨3, ![4, 4224, 1280]⟩

abbrev nBuf : Space → Nat
  | .hbm => 253
  | .vmem => 0
  | .smem => 0
  | _ => 0

abbrev hbmTy0_0 (i : Nat) : BufTy := match i % 128 with
  | 0 => ⟨S4x4224x1024, .f32⟩
  | 1 => ⟨S1024, .f32⟩
  | 2 => ⟨S1024x6912, .f32⟩
  | 3 => ⟨S64, .f32⟩
  | 4 => ⟨S64, .f32⟩
  | 5 => ⟨S_, .i32⟩
  | 6 => ⟨S112, .i32⟩
  | 7 => ⟨S_, .i32⟩
  | 8 => ⟨S16, .i32⟩
  | 9 => ⟨S16, .i32⟩
  | 10 => ⟨S64, .i32⟩
  | 11 => ⟨S64x64, .i32⟩
  | 12 => ⟨S4096, .i32⟩
  | 13 => ⟨S4224, .i32⟩
  | 14 => ⟨S4224, .f32⟩
  | 15 => ⟨S_, .i32⟩
  | 16 => ⟨S112, .i32⟩
  | 17 => ⟨S16, .i32⟩
  | 18 => ⟨S64, .i32⟩
  | 19 => ⟨S1x64, .i32⟩
  | 20 => ⟨S64x64, .i32⟩
  | 21 => ⟨S4096, .i32⟩
  | 22 => ⟨S4224, .i32⟩
  | 23 => ⟨S4224, .f32⟩
  | 24 => ⟨S4x4224x1024, .f32⟩
  | 25 => ⟨S_, .f32⟩
  | 26 => ⟨S4x4224, .f32⟩
  | 27 => ⟨S4x4224x1, .f32⟩
  | 28 => ⟨S_, .f32⟩
  | 29 => ⟨S4x4224x1, .f32⟩
  | 30 => ⟨S4x4224x1, .f32⟩
  | 31 => ⟨S_, .f32⟩
  | 32 => ⟨S4x4224x1, .f32⟩
  | 33 => ⟨S4x4224x1, .f32⟩
  | 34 => ⟨S4x4224x1, .f32⟩
  | 35 => ⟨S4x4224x1024, .f32⟩
  | 36 => ⟨S4x4224x1024, .f32⟩
  | 37 => ⟨S1x1x1024, .f32⟩
  | 38 => ⟨S4x4224x1024, .f32⟩
  | 39 => ⟨S4x4224x1024, .f32⟩
  | 40 => ⟨S1024x2816, .f32⟩
  | 41 => ⟨S4x4224x2816, .f32⟩
  | 42 => ⟨S4x4224x256, .f32⟩
  | 43 => ⟨S4x4224x4x64, .f32⟩
  | 44 => ⟨S4x4224x2x2x64, .f32⟩
  | 45 => ⟨S4x4224x2x2x64, .f32⟩
  | 46 => ⟨S4x4224x256, .f32⟩
  | 47 => ⟨S_, .f32⟩
  | 48 => ⟨S4x4224x256, .f32⟩
  | 49 => ⟨S4x4224x256, .f32⟩
  | 50 => ⟨S4x4224x256, .f32⟩
  | 51 => ⟨S4x4224x256, .f32⟩
  | 52 => ⟨S4x4224x4x64, .f32⟩
  | 53 => ⟨S4x4224x4x64, .f32⟩
  | 54 => ⟨S_, .f32⟩
  | 55 => ⟨S4x4224x4, .f32⟩
  | 56 => ⟨S4x4224x4x1, .f32⟩
  | 57 => ⟨S_, .f32⟩
  | 58 => ⟨S4x4224x4x1, .f32⟩
  | 59 => ⟨S4x4224x4x1, .f32⟩
  | 60 => ⟨S_, .f32⟩
  | 61 => ⟨S4x4224x4x1, .f32⟩
  | 62 => ⟨S4x4224x4x1, .f32⟩
  | 63 => ⟨S4x4224x4x1, .f32⟩
  | 64 => ⟨S4x4224x4x64, .f32⟩
  | 65 => ⟨S4x4224x4x64, .f32⟩
  | 66 => ⟨S1x1x1x64, .f32⟩
  | 67 => ⟨S4x4224x4x64, .f32⟩
  | 68 => ⟨S4x4224x4x64, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S4x4224x4x32, .f32⟩
  | 84 => ⟨S4224x1, .f32⟩
  | 85 => ⟨S1x16, .f32⟩
  | 86 => ⟨S4224x16, .f32⟩
  | 87 => ⟨S4224x16, .f32⟩
  | 88 => ⟨S4224x16, .f32⟩
  | 89 => ⟨S4224x16, .f32⟩
  | 90 => ⟨S4224x1x16, .f32⟩
  | 91 => ⟨S4224x16, .f32⟩
  | 92 => ⟨S4224x1x16, .f32⟩
  | 93 => ⟨S4x4224x4x16, .f32⟩
  | 94 => ⟨S4x4224x4x16, .f32⟩
  | 95 => ⟨S1x4224x1x16, .f32⟩
  | 96 => ⟨S4x4224x4x16, .f32⟩
  | 97 => ⟨S4x4224x4x16, .f32⟩
  | 98 => ⟨S1x4224x1x16, .f32⟩
  | 99 => ⟨S4x4224x4x16, .f32⟩
  | 100 => ⟨S4x4224x4x16, .f32⟩
  | 101 => ⟨S4x4224x4x16, .f32⟩
  | 102 => ⟨S1x4224x1x16, .f32⟩
  | 103 => ⟨S4x4224x4x16, .f32⟩
  | 104 => ⟨S4x4224x4x16, .f32⟩
  | 105 => ⟨S1x4224x1x16, .f32⟩
  | 106 => ⟨S4x4224x4x16, .f32⟩
  | 107 => ⟨S4x4224x4x16, .f32⟩
  | 108 => ⟨S4x4224x4x16, .f32⟩
  | 109 => ⟨S4x4224x4x32, .f32⟩
  | 110 => ⟨S4x4224x4x32, .f32⟩
  | 111 => ⟨S4224x1, .f32⟩
  | 112 => ⟨S1x16, .f32⟩
  | 113 => ⟨S4224x16, .f32⟩
  | 114 => ⟨S4224x16, .f32⟩
  | 115 => ⟨S4224x16, .f32⟩
  | 116 => ⟨S4224x16, .f32⟩
  | 117 => ⟨S4224x1x16, .f32⟩
  | 118 => ⟨S4224x16, .f32⟩
  | 119 => ⟨S4224x1x16, .f32⟩
  | 120 => ⟨S4x4224x4x16, .f32⟩
  | 121 => ⟨S4x4224x4x16, .f32⟩
  | 122 => ⟨S1x4224x1x16, .f32⟩
  | 123 => ⟨S4x4224x4x16, .f32⟩
  | 124 => ⟨S4x4224x4x16, .f32⟩
  | 125 => ⟨S1x4224x1x16, .f32⟩
  | 126 => ⟨S4x4224x4x16, .f32⟩
  | 127 => ⟨S4x4224x4x16, .f32⟩
  | _ => ⟨S4x4224x1024, .f32⟩

abbrev hbmTy0_1 (i : Nat) : BufTy := match i % 128 with
  | 0 => ⟨S4x4224x4x16, .f32⟩
  | 1 => ⟨S1x4224x1x16, .f32⟩
  | 2 => ⟨S4x4224x4x16, .f32⟩
  | 3 => ⟨S4x4224x4x16, .f32⟩
  | 4 => ⟨S1x4224x1x16, .f32⟩
  | 5 => ⟨S4x4224x4x16, .f32⟩
  | 6 => ⟨S4x4224x4x16, .f32⟩
  | 7 => ⟨S4x4224x4x16, .f32⟩
  | 8 => ⟨S4x4224x4x32, .f32⟩
  | 9 => ⟨S4x4224x4x64, .f32⟩
  | 10 => ⟨S_, .f32⟩
  | 11 => ⟨S4x4224x4x64, .f32⟩
  | 12 => ⟨S4x4224x4x64, .f32⟩
  | 13 => ⟨S4x4224x2x2x2x2x16, .f32⟩
  | 14 => ⟨S4x4224x2x2x2x2x16, .f32⟩
  | 15 => ⟨S4x4224x256, .f32⟩
  | 16 => ⟨S4x4224x128, .f32⟩
  | 17 => ⟨S4x4224x2x64, .f32⟩
  | 18 => ⟨S4x4224x2x64, .f32⟩
  | 19 => ⟨S_, .f32⟩
  | 20 => ⟨S4x4224x2, .f32⟩
  | 21 => ⟨S4x4224x2x1, .f32⟩
  | 22 => ⟨S_, .f32⟩
  | 23 => ⟨S4x4224x2x1, .f32⟩
  | 24 => ⟨S4x4224x2x1, .f32⟩
  | 25 => ⟨S_, .f32⟩
  | 26 => ⟨S4x4224x2x1, .f32⟩
  | 27 => ⟨S4x4224x2x1, .f32⟩
  | 28 => ⟨S4x4224x2x1, .f32⟩
  | 29 => ⟨S4x4224x2x64, .f32⟩
  | 30 => ⟨S4x4224x2x64, .f32⟩
  | 31 => ⟨S1x1x1x64, .f32⟩
  | 32 => ⟨S4x4224x2x64, .f32⟩
  | 33 => ⟨S4x4224x2x64, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S4x4224x2x32, .f32⟩
  | 49 => ⟨S4224x1, .f32⟩
  | 50 => ⟨S1x16, .f32⟩
  | 51 => ⟨S4224x16, .f32⟩
  | 52 => ⟨S4224x16, .f32⟩
  | 53 => ⟨S4224x16, .f32⟩
  | 54 => ⟨S4224x16, .f32⟩
  | 55 => ⟨S4224x1x16, .f32⟩
  | 56 => ⟨S4224x16, .f32⟩
  | 57 => ⟨S4224x1x16, .f32⟩
  | 58 => ⟨S4x4224x2x16, .f32⟩
  | 59 => ⟨S4x4224x2x16, .f32⟩
  | 60 => ⟨S1x4224x1x16, .f32⟩
  | 61 => ⟨S4x4224x2x16, .f32⟩
  | 62 => ⟨S4x4224x2x16, .f32⟩
  | 63 => ⟨S1x4224x1x16, .f32⟩
  | 64 => ⟨S4x4224x2x16, .f32⟩
  | 65 => ⟨S4x4224x2x16, .f32⟩
  | 66 => ⟨S4x4224x2x16, .f32⟩
  | 67 => ⟨S1x4224x1x16, .f32⟩
  | 68 => ⟨S4x4224x2x16, .f32⟩
  | 69 => ⟨S4x4224x2x16, .f32⟩
  | 70 => ⟨S1x4224x1x16, .f32⟩
  | 71 => ⟨S4x4224x2x16, .f32⟩
  | 72 => ⟨S4x4224x2x16, .f32⟩
  | 73 => ⟨S4x4224x2x16, .f32⟩
  | 74 => ⟨S4x4224x2x32, .f32⟩
  | 75 => ⟨S4x4224x2x32, .f32⟩
  | 76 => ⟨S4224x1, .f32⟩
  | 77 => ⟨S1x16, .f32⟩
  | 78 => ⟨S4224x16, .f32⟩
  | 79 => ⟨S4224x16, .f32⟩
  | 80 => ⟨S4224x16, .f32⟩
  | 81 => ⟨S4224x16, .f32⟩
  | 82 => ⟨S4224x1x16, .f32⟩
  | 83 => ⟨S4224x16, .f32⟩
  | 84 => ⟨S4224x1x16, .f32⟩
  | 85 => ⟨S4x4224x2x16, .f32⟩
  | 86 => ⟨S4x4224x2x16, .f32⟩
  | 87 => ⟨S1x4224x1x16, .f32⟩
  | 88 => ⟨S4x4224x2x16, .f32⟩
  | 89 => ⟨S4x4224x2x16, .f32⟩
  | 90 => ⟨S1x4224x1x16, .f32⟩
  | 91 => ⟨S4x4224x2x16, .f32⟩
  | 92 => ⟨S4x4224x2x16, .f32⟩
  | 93 => ⟨S4x4224x2x16, .f32⟩
  | 94 => ⟨S1x4224x1x16, .f32⟩
  | 95 => ⟨S4x4224x2x16, .f32⟩
  | 96 => ⟨S4x4224x2x16, .f32⟩
  | 97 => ⟨S1x4224x1x16, .f32⟩
  | 98 => ⟨S4x4224x2x16, .f32⟩
  | 99 => ⟨S4x4224x2x16, .f32⟩
  | 100 => ⟨S4x4224x2x16, .f32⟩
  | 101 => ⟨S4x4224x2x32, .f32⟩
  | 102 => ⟨S4x4224x2x64, .f32⟩
  | 103 => ⟨S4x4224x2x1x2x2x16, .f32⟩
  | 104 => ⟨S4x4224x1x2x2x2x16, .f32⟩
  | 105 => ⟨S4x4224x128, .f32⟩
  | 106 => ⟨S4x4224x128, .f32⟩
  | 107 => ⟨S4x4224x256, .f32⟩
  | 108 => ⟨S4x4224x4x64, .f32⟩
  | 109 => ⟨S4x4224x2x2x64, .f32⟩
  | 110 => ⟨S4x4224x2x2x64, .f32⟩
  | 111 => ⟨S4x4224x256, .f32⟩
  | 112 => ⟨S_, .f32⟩
  | 113 => ⟨S4x4224x256, .f32⟩
  | 114 => ⟨S4x4224x256, .f32⟩
  | 115 => ⟨S4x4224x256, .f32⟩
  | 116 => ⟨S4x4224x1536, .f32⟩
  | 117 => ⟨S4x4224x128, .f32⟩
  | 118 => ⟨S4x128x4224, .f32⟩
  | 119 => ⟨S4x4224x128, .f32⟩
  | 120 => ⟨S4x128x4224, .f32⟩
  | 121 => ⟨S4x4224x1536, .bf16⟩
  | 122 => ⟨S4x4224x1280, .f32⟩
  | 123 => ⟨S4x128x4224, .bf16⟩
  | 124 => ⟨S4x128x4224, .bf16⟩
  | _ => ⟨S4x4224x1024, .f32⟩

abbrev hbmTy (i : Nat) : BufTy := match i / 128 with
  | 0 => hbmTy0_0 i
  | 1 => hbmTy0_1 i
  | _ => ⟨S4x4224x1024, .f32⟩

abbrev bufTy : (tb : Table) → Fin (tcTables nBuf tb) → BufTy
  | .hbm, ⟨i, _⟩ => hbmTy i
  | _, _ => ⟨S4x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_12 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_13 : Ref sig .tc := ⟨.hbm, 147, rfl⟩
abbrev main_v127 : Ref sig .tc := ⟨.hbm, 148, rfl⟩
abbrev main_v128 : Ref sig .tc := ⟨.hbm, 149, rfl⟩
abbrev main_cst_14 : Ref sig .tc := ⟨.hbm, 150, rfl⟩
abbrev main_v129 : Ref sig .tc := ⟨.hbm, 151, rfl⟩
abbrev main_v130 : Ref sig .tc := ⟨.hbm, 152, rfl⟩
abbrev main_cst_15 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_cst_16 : Ref sig .tc := ⟨.hbm, 163, rfl⟩
abbrev main_v140 : Ref sig .tc := ⟨.hbm, 164, rfl⟩
abbrev main_v141 : Ref sig .tc := ⟨.hbm, 165, rfl⟩
abbrev main_cst_17 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_cst_18 : Ref sig .tc := ⟨.hbm, 170, rfl⟩
abbrev main_v145 : Ref sig .tc := ⟨.hbm, 171, rfl⟩
abbrev main_v146 : Ref sig .tc := ⟨.hbm, 172, rfl⟩
abbrev main_cst_19 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_cst_20 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩

abbrev nD : Nat := 1
abbrev τ : Topo := Topo.v7x

variable {F : FTy → Type} [FloatOps F]
-- ==== InProj.lean ====
abbrev S4x4096x1024 : Shape := ⟨3, ![4, 4096, 1024]⟩
abbrev S16x1024 : Shape := ⟨2, ![16, 1024]⟩
abbrev S1024 : Shape := ⟨1, ![1024]⟩
abbrev S1024x6912 : Shape := ⟨2, ![1024, 6912]⟩
abbrev S64 : Shape := ⟨1, ![64]⟩
abbrev S_ : Shape := ⟨0, ![]⟩
abbrev S112x1024 : Shape := ⟨2, ![112, 1024]⟩
abbrev S128x1024 : Shape := ⟨2, ![128, 1024]⟩
abbrev S112 : Shape := ⟨1, ![112]⟩
abbrev S16 : Shape := ⟨1, ![16]⟩
abbrev S64x64 : Shape := ⟨2, ![64, 64]⟩
abbrev S4096 : Shape := ⟨1, ![4096]⟩
abbrev S4224 : Shape := ⟨1, ![4224]⟩
abbrev S1x64 : Shape := ⟨2, ![1, 64]⟩
abbrev S4224x1 : Shape := ⟨2, ![4224, 1]⟩
abbrev S1x16 : Shape := ⟨2, ![1, 16]⟩
abbrev S4224x16 : Shape := ⟨2, ![4224, 16]⟩
abbrev S4224x32 : Shape := ⟨2, ![4224, 32]⟩
abbrev S1x4224x1x32 : Shape := ⟨4, ![1, 4224, 1, 32]⟩
abbrev S1x4224x4x32 : Shape := ⟨4, ![1, 4224, 4, 32]⟩
abbrev S4224x128 : Shape := ⟨2, ![4224, 128]⟩
abbrev S1x4224x2x32 : Shape := ⟨4, ![1, 4224, 2, 32]⟩
abbrev S4224x64 : Shape := ⟨2, ![4224, 64]⟩
abbrev S2x2x32 : Shape := ⟨3, ![2, 2, 32]⟩
abbrev S128 : Shape := ⟨1, ![128]⟩
abbrev S128x128 : Shape := ⟨2, ![128, 128]⟩
abbrev S128x1 : Shape := ⟨2, ![128, 1]⟩
abbrev S1x128 : Shape := ⟨2, ![1, 128]⟩
abbrev S1x256 : Shape := ⟨2, ![1, 256]⟩
abbrev S1x768 : Shape := ⟨2, ![1, 768]⟩
abbrev S1x1536 : Shape := ⟨2, ![1, 1536]⟩
abbrev S1024x512 : Shape := ⟨2, ![1024, 512]⟩
abbrev S1024x256 : Shape := ⟨2, ![1024, 256]⟩
abbrev S1024x2x2x64 : Shape := ⟨4, ![1024, 2, 2, 64]⟩
abbrev S1024x2x2x2x2x16 : Shape := ⟨6, ![1024, 2, 2, 2, 2, 16]⟩
abbrev S1024x128 : Shape := ⟨2, ![1024, 128]⟩
abbrev S1024x1x2x2x2x16 : Shape := ⟨6, ![1024, 1, 2, 2, 2, 16]⟩
abbrev S1024x1536 : Shape := ⟨2, ![1024, 1536]⟩
abbrev S1024x1280 : Shape := ⟨2, ![1024, 1280]⟩
abbrev S2x2x16 : Shape := ⟨3, ![2, 2, 16]⟩
abbrev S2x1x32 : Shape := ⟨3, ![2, 1, 32]⟩
abbrev S3x128 : Shape := ⟨2, ![3, 128]⟩
abbrev S1x1024 : Shape := ⟨2, ![1, 1024]⟩
abbrev S4x4224x1536 : Shape := ⟨3, ![4, 4224, 1536]⟩
abbrev S4x4224x1280 : Shape := ⟨3, ![4, 4224, 1280]⟩
abbrev S4x128x4224 : Shape := ⟨3, ![4, 128, 4224]⟩
abbrev S4x4224x1024 : Shape := ⟨3, ![4, 4224, 1024]⟩
abbrev S1x384x1024 : Shape := ⟨3, ![1, 384, 1024]⟩
abbrev S384x128 : Shape := ⟨2, ![384, 128]⟩
abbrev S1x384x1536 : Shape := ⟨3, ![1, 384, 1536]⟩
abbrev S1x384x1280 : Shape := ⟨3, ![1, 384, 1280]⟩
abbrev S1x128x384 : Shape := ⟨3, ![1, 128, 384]⟩
abbrev S384x1024 : Shape := ⟨2, ![384, 1024]⟩
abbrev S256x1024 : Shape := ⟨2, ![256, 1024]⟩
abbrev S384 : Shape := ⟨1, ![384]⟩
abbrev S384x1 : Shape := ⟨2, ![384, 1]⟩
abbrev S384x1536 : Shape := ⟨2, ![384, 1536]⟩
abbrev S384x512 : Shape := ⟨2, ![384, 512]⟩
abbrev S1x384x512 : Shape := ⟨3, ![1, 384, 512]⟩
abbrev S1x384x128 : Shape := ⟨3, ![1, 384, 128]⟩
abbrev S384x640 : Shape := ⟨2, ![384, 640]⟩
abbrev S1x384x640 : Shape := ⟨3, ![1, 384, 640]⟩
abbrev S128x384 : Shape := ⟨2, ![128, 384]⟩
abbrev S384x1280 : Shape := ⟨2, ![384, 1280]⟩

abbrev nBuf : Space → Nat
  | .hbm => 138
  | .vmem => 23
  | .smem => 0
  | _ => 0

abbrev hbmTy0_0 (i : Nat) : BufTy := match i % 128 with
  | 0 => ⟨S4x4096x1024, .f32⟩
  | 1 => ⟨S16x1024, .f32⟩
  | 2 => ⟨S1024, .f32⟩
  | 3 => ⟨S1024x6912, .f32⟩
  | 4 => ⟨S64, .f32⟩
  | 5 => ⟨S64, .f32⟩
  | 6 => ⟨S_, .f32⟩
  | 7 => ⟨S112x1024, .f32⟩
  | 8 => ⟨S128x1024, .f32⟩
  | 9 => ⟨S_, .i32⟩
  | 10 => ⟨S112, .i32⟩
  | 11 => ⟨S_, .i32⟩
  | 12 => ⟨S16, .i32⟩
  | 13 => ⟨S16, .i32⟩
  | 14 => ⟨S64, .i32⟩
  | 15 => ⟨S64x64, .i32⟩
  | 16 => ⟨S4096, .i32⟩
  | 17 => ⟨S4224, .i32⟩
  | 18 => ⟨S4224, .f32⟩
  | 19 => ⟨S_, .i32⟩
  | 20 => ⟨S112, .i32⟩
  | 21 => ⟨S16, .i32⟩
  | 22 => ⟨S64, .i32⟩
  | 23 => ⟨S1x64, .i32⟩
  | 24 => ⟨S64x64, .i32⟩
  | 25 => ⟨S4096, .i32⟩
  | 26 => ⟨S4224, .i32⟩
  | 27 => ⟨S4224, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S4224x1, .f32⟩
  | 43 => ⟨S1x16, .f32⟩
  | 44 => ⟨S4224x16, .f32⟩
  | 45 => ⟨S4224x16, .f32⟩
  | 46 => ⟨S4224x16, .f32⟩
  | 47 => ⟨S4224x1, .f32⟩
  | 48 => ⟨S1x16, .f32⟩
  | 49 => ⟨S4224x16, .f32⟩
  | 50 => ⟨S4224x16, .f32⟩
  | 51 => ⟨S4224x16, .f32⟩
  | 52 => ⟨S4224x32, .f32⟩
  | 53 => ⟨S4224x32, .f32⟩
  | 54 => ⟨S1x4224x1x32, .f32⟩
  | 55 => ⟨S1x4224x4x32, .f32⟩
  | 56 => ⟨S4224x128, .f32⟩
  | 57 => ⟨S4224x32, .f32⟩
  | 58 => ⟨S1x4224x1x32, .f32⟩
  | 59 => ⟨S1x4224x2x32, .f32⟩
  | 60 => ⟨S4224x64, .f32⟩
  | 61 => ⟨S4224x64, .f32⟩
  | 62 => ⟨S4224x32, .f32⟩
  | 63 => ⟨S1x4224x1x32, .f32⟩
  | 64 => ⟨S1x4224x2x32, .f32⟩
  | 65 => ⟨S4224x64, .f32⟩
  | 66 => ⟨S4224x128, .f32⟩
  | 67 => ⟨S2x2x32, .i32⟩
  | 68 => ⟨S128, .i32⟩
  | 69 => ⟨S_, .f32⟩
  | 70 => ⟨S128x128, .f32⟩
  | 71 => ⟨S_, .f32⟩
  | 72 => ⟨S128x128, .f32⟩
  | 73 => ⟨S128x1, .i32⟩
  | 74 => ⟨S1x128, .i32⟩
  | 75 => ⟨S128x128, .i32⟩
  | 76 => ⟨S128x128, .i32⟩
  | 77 => ⟨S128x128, .i1⟩
  | 78 => ⟨S128x128, .f32⟩
  | 79 => ⟨S128x128, .bf16⟩
  | 80 => ⟨S_, .f32⟩
  | 81 => ⟨S1x256, .f32⟩
  | 82 => ⟨S_, .f32⟩
  | 83 => ⟨S1x768, .f32⟩
  | 84 => ⟨S_, .f32⟩
  | 85 => ⟨S1x256, .f32⟩
  | 86 => ⟨S_, .f32⟩
  | 87 => ⟨S1x256, .f32⟩
  | 88 => ⟨S1x1536, .f32⟩
  | 89 => ⟨S1024x512, .f32⟩
  | 90 => ⟨S1024x512, .f32⟩
  | 91 => ⟨S1024x512, .f32⟩
  | 92 => ⟨S1024x256, .f32⟩
  | 93 => ⟨S1024x2x2x64, .f32⟩
  | 94 => ⟨S1024x2x2x64, .f32⟩
  | 95 => ⟨S1024x256, .f32⟩
  | 96 => ⟨S1024x256, .f32⟩
  | 97 => ⟨S1024x256, .f32⟩
  | 98 => ⟨S1024x2x2x2x2x16, .f32⟩
  | 99 => ⟨S1024x2x2x2x2x16, .f32⟩
  | 100 => ⟨S1024x256, .f32⟩
  | 101 => ⟨S1024x128, .f32⟩
  | 102 => ⟨S1024x1x2x2x2x16, .f32⟩
  | 103 => ⟨S1024x1x2x2x2x16, .f32⟩
  | 104 => ⟨S1024x128, .f32⟩
  | 105 => ⟨S1024x128, .f32⟩
  | 106 => ⟨S1024x256, .f32⟩
  | 107 => ⟨S1024x2x2x64, .f32⟩
  | 108 => ⟨S1024x2x2x64, .f32⟩
  | 109 => ⟨S1024x256, .f32⟩
  | 110 => ⟨S1024x256, .f32⟩
  | 111 => ⟨S1024x1536, .f32⟩
  | 112 => ⟨S1024x1536, .bf16⟩
  | 113 => ⟨S1024x1280, .f32⟩
  | 114 => ⟨S1024x1280, .bf16⟩
  | 115 => ⟨S2x2x16, .f32⟩
  | 116 => ⟨S2x2x16, .f32⟩
  | 117 => ⟨S2x1x32, .f32⟩
  | 118 => ⟨S2x2x32, .f32⟩
  | 119 => ⟨S128, .f32⟩
  | 120 => ⟨S_, .f32⟩
  | 121 => ⟨S128, .f32⟩
  | 122 => ⟨S128, .f32⟩
  | 123 => ⟨S2x2x16, .f32⟩
  | 124 => ⟨S2x2x16, .f32⟩
  | 125 => ⟨S2x1x32, .f32⟩
  | 126 => ⟨S2x2x32, .f32⟩
  | 127 => ⟨S128, .f32⟩
  | _ => ⟨S4x4096x1024, .f32⟩

abbrev hbmTy0_1 (i : Nat) : BufTy := match i % 128 with
  | 0 => ⟨S1x128, .f32⟩
  | 1 => ⟨S1x128, .f32⟩
  | 2 => ⟨S1x128, .f32⟩
  | 3 => ⟨S3x128, .f32⟩
  | 4 => ⟨S1x1024, .f32⟩
  | 5 => ⟨S4x4224x1536, .bf16⟩
  | 6 => ⟨S4x4224x1280, .f32⟩
  | 7 => ⟨S4x128x4224, .bf16⟩
  | 8 => ⟨S4x128x4224, .bf16⟩
  | 9 => ⟨S4x4224x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x384x1024, .f32⟩
  | .local _ .vmem, ⟨1, _⟩ => ⟨S1x384x1024, .f32⟩
  | .local _ .vmem, ⟨2, _⟩ => ⟨S128x1024, .f32⟩
  | .local _ .vmem, ⟨3, _⟩ => ⟨S1x1024, .f32⟩
  | .local _ .vmem, ⟨4, _⟩ => ⟨S1024x1536, .bf16⟩
  | .local _ .vmem, ⟨5, _⟩ => ⟨S1024x1280, .bf16⟩
  | .local _ .vmem, ⟨6, _⟩ => ⟨S1x1536, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S3x128, .f32⟩
  | .local _ .vmem, ⟨12, _⟩ => ⟨S128x128, .bf16⟩
  | .local _ .vmem, ⟨13, _⟩ => ⟨S1x384x1536, .bf16⟩
  | .local _ .vmem, ⟨14, _⟩ => ⟨S1x384x1536, .bf16⟩
  | .local _ .vmem, ⟨15, _⟩ => ⟨S1x384x1280, .f32⟩
  | .local _ .vmem, ⟨16, _⟩ => ⟨S1x384x1280, .f32⟩
  | .local _ .vmem, ⟨17, _⟩ => ⟨S1x128x384, .bf16⟩
  | .local _ .vmem, ⟨18, _⟩ => ⟨S1x128x384, .bf16⟩
  | .local _ .vmem, ⟨19, _⟩ => ⟨S1x128x384, .bf16⟩
  | .local _ .vmem, ⟨20, _⟩ => ⟨S1x128x384, .bf16⟩
  | .local _ .vmem, ⟨21, _⟩ => ⟨S1x384x1024, .f32⟩
  | .local _ .vmem, ⟨22, _⟩ => ⟨S1x384x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_12 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112_0 : Ref sig .tc := ⟨.hbm, 133, rfl⟩
abbrev main_v112_1 : Ref sig .tc := ⟨.hbm, 134, rfl⟩
abbrev main_v112_2 : Ref sig .tc := ⟨.hbm, 135, rfl⟩
abbrev main_v112_3 : Ref sig .tc := ⟨.hbm, 136, rfl⟩
abbrev main_v112_4 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c384_i32 : BitVec 32 := 384#32
  let v0 : BitVec 32 := Scalar.muli arg1 c384_i32
  let c128_i32 : BitVec 32 := 128#32
  let v1 : BitVec 32 := Scalar.subi v0 c128_i32
  let c0_i32 : BitVec 32 := 0#32
  let v2 : BitVec 32 := Scalar.maxsi v1 c0_i32
  v2
def cc0_transform_0 (i : grid0.Coords) : Fin 3 → Nat :=
  let arg0 : BitVec 32 := BitVec.ofNat 32 (i 0).val
  let arg1 : BitVec 32 := BitVec.ofNat 32 (i 1).val
  let c384_i32 : BitVec 32 := 384#32
  let v0 : BitVec 32 := Scalar.muli arg1 c384_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x384x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x384x1280 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x384x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InProjReferenceIdeal.lean ====
abbrev S4x4096x1024 : Shape := ⟨3, ![4, 4096, 1024]⟩
abbrev S16x1024 : Shape := ⟨2, ![16, 1024]⟩
abbrev S1024 : Shape := ⟨1, ![1024]⟩
abbrev S1024x6912 : Shape := ⟨2, ![1024, 6912]⟩
abbrev S64 : Shape := ⟨1, ![64]⟩
abbrev S_ : Shape := ⟨0, ![]⟩
abbrev S4x112x1024 : Shape := ⟨3, ![4, 112, 1024]⟩
abbrev S1x16x1024 : Shape := ⟨3, ![1, 16, 1024]⟩
abbrev S4x16x1024 : Shape := ⟨3, ![4, 16, 1024]⟩
abbrev S4x4224x1024 : Shape := ⟨3, ![4, 4224, 1024]⟩
abbrev S112 : Shape := ⟨1, ![112]⟩
abbrev S16 : Shape := ⟨1, ![16]⟩
abbrev S64x64 : Shape := ⟨2, ![64, 64]⟩
abbrev S4096 : Shape := ⟨1, ![4096]⟩
abbrev S4224 : Shape := ⟨1, ![4224]⟩
abbrev S1x64 : Shape := ⟨2, ![1, 64]⟩
abbrev S4x4224 : Shape := ⟨2, ![4, 4224]⟩
abbrev S4x4224x1 : Shape := ⟨3, ![4, 4224, 1]⟩
abbrev S1x1x1024 : Shape := ⟨3, ![1, 1, 1024]⟩
abbrev S1024x2816 : Shape := ⟨2, ![1024, 2816]⟩
abbrev S4x4224x2816 : Shape := ⟨3, ![4, 4224, 2816]⟩
abbrev S4x4224x256 : Shape := ⟨3, ![4, 4224, 256]⟩
abbrev S4x4224x4x64 : Shape := ⟨4, ![4, 4224, 4, 64]⟩
abbrev S4x4224x2x2x64 : Shape := ⟨5, ![4, 4224, 2, 2, 64]⟩
abbrev S4x4224x4 : Shape := ⟨3, ![4, 4224, 4]⟩
abbrev S4x4224x4x1 : Shape := ⟨4, ![4, 4224, 4, 1]⟩
abbrev S1x1x1x64 : Shape := ⟨4, ![1, 1, 1, 64]⟩
abbrev S4x4224x4x32 : Shape := ⟨4, ![4, 4224, 4, 32]⟩
abbrev S4224x1 : Shape := ⟨2, ![4224, 1]⟩
abbrev S1x16 : Shape := ⟨2, ![1, 16]⟩
abbrev S4224x16 : Shape := ⟨2, ![4224, 16]⟩
abbrev S4224x1x16 : Shape := ⟨3, ![4224, 1, 16]⟩
abbrev S4x4224x4x16 : Shape := ⟨4, ![4, 4224, 4, 16]⟩
abbrev S1x4224x1x16 : Shape := ⟨4, ![1, 4224, 1, 16]⟩
abbrev S4x4224x2x2x2x2x16 : Shape := ⟨7, ![4, 4224, 2, 2, 2, 2, 16]⟩
abbrev S4x4224x128 : Shape := ⟨3, ![4, 4224, 128]⟩
abbrev S4x4224x2x64 : Shape := ⟨4, ![4, 4224, 2, 64]⟩
abbrev S4x4224x2 : Shape := ⟨3, ![4, 4224, 2]⟩
abbrev S4x4224x2x1 : Shape := ⟨4, ![4, 4224, 2, 1]⟩
abbrev S4x4224x2x32 : Shape := ⟨4, ![4, 4224, 2, 32]⟩
abbrev S4x4224x2x16 : Shape := ⟨4, ![4, 4224, 2, 16]⟩
abbrev S4x4224x2x1x2x2x16 : Shape := ⟨7, ![4, 4224, 2, 1, 2, 2, 16]⟩
abbrev S4x4224x1x2x2x2x16 : Shape := ⟨7, ![4, 4224, 1, 2, 2, 2, 16]⟩
abbrev S4x4224x1536 : Shape := ⟨3, ![4, 4224, 1536]⟩
abbrev S4x128x4224 : Shape := ⟨3, ![4, 128, 4224]⟩
abbrev S4x4224x1280 : Shape := ⟨3, ![4, 4224, 1280]⟩

abbrev nBuf : Space → Nat
  | .hbm => 259
  | .vmem => 0
  | .smem => 0
  | _ => 0

abbrev hbmTy0_0 (i : Nat) : BufTy := match i % 128 with
  | 0 => ⟨S4x4096x1024, .f32⟩
  | 1 => ⟨S16x1024, .f32⟩
  | 2 => ⟨S1024, .f32⟩
  | 3 => ⟨S1024x6912, .f32⟩
  | 4 => ⟨S64, .f32⟩
  | 5 => ⟨S64, .f32⟩
  | 6 => ⟨S_, .f32⟩
  | 7 => ⟨S4x112x1024, .f32⟩
  | 8 => ⟨S1x16x1024, .f32⟩
  | 9 => ⟨S4x16x1024, .f32⟩
  | 10 => ⟨S4x4224x1024, .f32⟩
  | 11 => ⟨S_, .i32⟩
  | 12 => ⟨S112, .i32⟩
  | 13 => ⟨S_, .i32⟩
  | 14 => ⟨S16, .i32⟩
  | 15 => ⟨S16, .i32⟩
  | 16 => ⟨S64, .i32⟩
  | 17 => ⟨S64x64, .i32⟩
  | 18 => ⟨S4096, .i32⟩
  | 19 => ⟨S4224, .i32⟩
  | 20 => ⟨S4224, .f32⟩
  | 21 => ⟨S_, .i32⟩
  | 22 => ⟨S112, .i32⟩
  | 23 => ⟨S16, .i32⟩
  | 24 => ⟨S64, .i32⟩
  | 25 => ⟨S1x64, .i32⟩
  | 26 => ⟨S64x64, .i32⟩
  | 27 => ⟨S4096, .i32⟩
  | 28 => ⟨S4224, .i32⟩
  | 29 => ⟨S4224, .f32⟩
  | 30 => ⟨S4x4224x1024, .f32⟩
  | 31 => ⟨S_, .f32⟩
  | 32 => ⟨S4x4224, .f32⟩
  | 33 => ⟨S4x4224x1, .f32⟩
  | 34 => ⟨S_, .f32⟩
  | 35 => ⟨S4x4224x1, .f32⟩
  | 36 => ⟨S4x4224x1, .f32⟩
  | 37 => ⟨S_, .f32⟩
  | 38 => ⟨S4x4224x1, .f32⟩
  | 39 => ⟨S4x4224x1, .f32⟩
  | 40 => ⟨S4x4224x1, .f32⟩
  | 41 => ⟨S4x4224x1024, .f32⟩
  | 42 => ⟨S4x4224x1024, .f32⟩
  | 43 => ⟨S1x1x1024, .f32⟩
  | 44 => ⟨S4x4224x1024, .f32⟩
  | 45 => ⟨S4x4224x1024, .f32⟩
  | 46 => ⟨S1024x2816, .f32⟩
  | 47 => ⟨S4x4224x2816, .f32⟩
  | 48 => ⟨S4x4224x256, .f32⟩
  | 49 => ⟨S4x4224x4x64, .f32⟩
  | 50 => ⟨S4x4224x2x2x64, .f32⟩
  | 51 => ⟨S4x4224x2x2x64, .f32⟩
  | 52 => ⟨S4x4224x256, .f32⟩
  | 53 => ⟨S_, .f32⟩
  | 54 => ⟨S4x4224x256, .f32⟩
  | 55 => ⟨S4x4224x256, .f32⟩
  | 56 => ⟨S4x4224x256, .f32⟩
  | 57 => ⟨S4x4224x256, .f32⟩
  | 58 => ⟨S4x4224x4x64, .f32⟩
  | 59 => ⟨S4x4224x4x64, .f32⟩
  | 60 => ⟨S_, .f32⟩
  | 61 => ⟨S4x4224x4, .f32⟩
  | 62 => ⟨S4x4224x4x1, .f32⟩
  | 63 => ⟨S_, .f32⟩
  | 64 => ⟨S4x4224x4x1, .f32⟩
  | 65 => ⟨S4x4224x4x1, .f32⟩
  | 66 => ⟨S_, .f32⟩
  | 67 => ⟨S4x4224x4x1, .f32⟩
  | 68 => ⟨S4x4224x4x1, .f32⟩
  | 69 => ⟨S4x4224x4x1, .f32⟩
  | 70 => ⟨S4x4224x4x64, .f32⟩
  | 71 => ⟨S4x4224x4x64, .f32⟩
  | 72 => ⟨S1x1x1x64, .f32⟩
  | 73 => ⟨S4x4224x4x64, .f32⟩
  | 74 => ⟨S4x4224x4x64, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S4x4224x4x32, .f32⟩
  | 90 => ⟨S4224x1, .f32⟩
  | 91 => ⟨S1x16, .f32⟩
  | 92 => ⟨S4224x16, .f32⟩
  | 93 => ⟨S4224x16, .f32⟩
  | 94 => ⟨S4224x16, .f32⟩
  | 95 => ⟨S4224x16, .f32⟩
  | 96 => ⟨S4224x1x16, .f32⟩
  | 97 => ⟨S4224x16, .f32⟩
  | 98 => ⟨S4224x1x16, .f32⟩
  | 99 => ⟨S4x4224x4x16, .f32⟩
  | 100 => ⟨S4x4224x4x16, .f32⟩
  | 101 => ⟨S1x4224x1x16, .f32⟩
  | 102 => ⟨S4x4224x4x16, .f32⟩
  | 103 => ⟨S4x4224x4x16, .f32⟩
  | 104 => ⟨S1x4224x1x16, .f32⟩
  | 105 => ⟨S4x4224x4x16, .f32⟩
  | 106 => ⟨S4x4224x4x16, .f32⟩
  | 107 => ⟨S4x4224x4x16, .f32⟩
  | 108 => ⟨S1x4224x1x16, .f32⟩
  | 109 => ⟨S4x4224x4x16, .f32⟩
  | 110 => ⟨S4x4224x4x16, .f32⟩
  | 111 => ⟨S1x4224x1x16, .f32⟩
  | 112 => ⟨S4x4224x4x16, .f32⟩
  | 113 => ⟨S4x4224x4x16, .f32⟩
  | 114 => ⟨S4x4224x4x16, .f32⟩
  | 115 => ⟨S4x4224x4x32, .f32⟩
  | 116 => ⟨S4x4224x4x32, .f32⟩
  | 117 => ⟨S4224x1, .f32⟩
  | 118 => ⟨S1x16, .f32⟩
  | 119 => ⟨S4224x16, .f32⟩
  | 120 => ⟨S4224x16, .f32⟩
  | 121 => ⟨S4224x16, .f32⟩
  | 122 => ⟨S4224x16, .f32⟩
  | 123 => ⟨S4224x1x16, .f32⟩
  | 124 => ⟨S4224x16, .f32⟩
  | 125 => ⟨S4224x1x16, .f32⟩
  | 126 => ⟨S4x4224x4x16, .f32⟩
  | 127 => ⟨S4x4224x4x16, .f32⟩
  | _ => ⟨S4x4096x1024, .f32⟩

abbrev hbmTy0_1 (i : Nat) : BufTy := match i % 128 with
  | 0 => ⟨S1x4224x1x16, .f32⟩
  | 1 => ⟨S4x4224x4x16, .f32⟩
  | 2 => ⟨S4x4224x4x16, .f32⟩
  | 3 => ⟨S1x4224x1x16, .f32⟩
  | 4 => ⟨S4x4224x4x16, .f32⟩
  | 5 => ⟨S4x4224x4x16, .f32⟩
  | 6 => ⟨S4x4224x4x16, .f32⟩
  | 7 => ⟨S1x4224x1x16, .f32⟩
  | 8 => ⟨S4x4224x4x16, .f32⟩
  | 9 => ⟨S4x4224x4x16, .f32⟩
  | 10 => ⟨S1x4224x1x16, .f32⟩
  | 11 => ⟨S4x4224x4x16, .f32⟩
  | 12 => ⟨S4x4224x4x16, .f32⟩
  | 13 => ⟨S4x4224x4x16, .f32⟩
  | 14 => ⟨S4x4224x4x32, .f32⟩
  | 15 => ⟨S4x4224x4x64, .f32⟩
  | 16 => ⟨S_, .f32⟩
  | 17 => ⟨S4x4224x4x64, .f32⟩
  | 18 => ⟨S4x4224x4x64, .f32⟩
  | 19 => ⟨S4x4224x2x2x2x2x16, .f32⟩
  | 20 => ⟨S4x4224x2x2x2x2x16, .f32⟩
  | 21 => ⟨S4x4224x256, .f32⟩
  | 22 => ⟨S4x4224x128, .f32⟩
  | 23 => ⟨S4x4224x2x64, .f32⟩
  | 24 => ⟨S4x4224x2x64, .f32⟩
  | 25 => ⟨S_, .f32⟩
  | 26 => ⟨S4x4224x2, .f32⟩
  | 27 => ⟨S4x4224x2x1, .f32⟩
  | 28 => ⟨S_, .f32⟩
  | 29 => ⟨S4x4224x2x1, .f32⟩
  | 30 => ⟨S4x4224x2x1, .f32⟩
  | 31 => ⟨S_, .f32⟩
  | 32 => ⟨S4x4224x2x1, .f32⟩
  | 33 => ⟨S4x4224x2x1, .f32⟩
  | 34 => ⟨S4x4224x2x1, .f32⟩
  | 35 => ⟨S4x4224x2x64, .f32⟩
  | 36 => ⟨S4x4224x2x64, .f32⟩
  | 37 => ⟨S1x1x1x64, .f32⟩
  | 38 => ⟨S4x4224x2x64, .f32⟩
  | 39 => ⟨S4x4224x2x64, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S4x4224x2x32, .f32⟩
  | 55 => ⟨S4224x1, .f32⟩
  | 56 => ⟨S1x16, .f32⟩
  | 57 => ⟨S4224x16, .f32⟩
  | 58 => ⟨S4224x16, .f32⟩
  | 59 => ⟨S4224x16, .f32⟩
  | 60 => ⟨S4224x16, .f32⟩
  | 61 => ⟨S4224x1x16, .f32⟩
  | 62 => ⟨S4224x16, .f32⟩
  | 63 => ⟨S4224x1x16, .f32⟩
  | 64 => ⟨S4x4224x2x16, .f32⟩
  | 65 => ⟨S4x4224x2x16, .f32⟩
  | 66 => ⟨S1x4224x1x16, .f32⟩
  | 67 => ⟨S4x4224x2x16, .f32⟩
  | 68 => ⟨S4x4224x2x16, .f32⟩
  | 69 => ⟨S1x4224x1x16, .f32⟩
  | 70 => ⟨S4x4224x2x16, .f32⟩
  | 71 => ⟨S4x4224x2x16, .f32⟩
  | 72 => ⟨S4x4224x2x16, .f32⟩
  | 73 => ⟨S1x4224x1x16, .f32⟩
  | 74 => ⟨S4x4224x2x16, .f32⟩
  | 75 => ⟨S4x4224x2x16, .f32⟩
  | 76 => ⟨S1x4224x1x16, .f32⟩
  | 77 => ⟨S4x4224x2x16, .f32⟩
  | 78 => ⟨S4x4224x2x16, .f32⟩
  | 79 => ⟨S4x4224x2x16, .f32⟩
  | 80 => ⟨S4x4224x2x32, .f32⟩
  | 81 => ⟨S4x4224x2x32, .f32⟩
  | 82 => ⟨S4224x1, .f32⟩
  | 83 => ⟨S1x16, .f32⟩
  | 84 => ⟨S4224x16, .f32⟩
  | 85 => ⟨S4224x16, .f32⟩
  | 86 => ⟨S4224x16, .f32⟩
  | 87 => ⟨S4224x16, .f32⟩
  | 88 => ⟨S4224x1x16, .f32⟩
  | 89 => ⟨S4224x16, .f32⟩
  | 90 => ⟨S4224x1x16, .f32⟩
  | 91 => ⟨S4x4224x2x16, .f32⟩
  | 92 => ⟨S4x4224x2x16, .f32⟩
  | 93 => ⟨S1x4224x1x16, .f32⟩
  | 94 => ⟨S4x4224x2x16, .f32⟩
  | 95 => ⟨S4x4224x2x16, .f32⟩
  | 96 => ⟨S1x4224x1x16, .f32⟩
  | 97 => ⟨S4x4224x2x16, .f32⟩
  | 98 => ⟨S4x4224x2x16, .f32⟩
  | 99 => ⟨S4x4224x2x16, .f32⟩
  | 100 => ⟨S1x4224x1x16, .f32⟩
  | 101 => ⟨S4x4224x2x16, .f32⟩
  | 102 => ⟨S4x4224x2x16, .f32⟩
  | 103 => ⟨S1x4224x1x16, .f32⟩
  | 104 => ⟨S4x4224x2x16, .f32⟩
  | 105 => ⟨S4x4224x2x16, .f32⟩
  | 106 => ⟨S4x4224x2x16, .f32⟩
  | 107 => ⟨S4x4224x2x32, .f32⟩
  | 108 => ⟨S4x4224x2x64, .f32⟩
  | 109 => ⟨S4x4224x2x1x2x2x16, .f32⟩
  | 110 => ⟨S4x4224x1x2x2x2x16, .f32⟩
  | 111 => ⟨S4x4224x128, .f32⟩
  | 112 => ⟨S4x4224x128, .f32⟩
  | 113 => ⟨S4x4224x256, .f32⟩
  | 114 => ⟨S4x4224x4x64, .f32⟩
  | 115 => ⟨S4x4224x2x2x64, .f32⟩
  | 116 => ⟨S4x4224x2x2x64, .f32⟩
  | 117 => ⟨S4x4224x256, .f32⟩
  | 118 => ⟨S_, .f32⟩
  | 119 => ⟨S4x4224x256, .f32⟩
  | 120 => ⟨S4x4224x256, .f32⟩
  | 121 => ⟨S4x4224x256, .f32⟩
  | 122 => ⟨S4x4224x1536, .f32⟩
  | 123 => ⟨S4x4224x128, .f32⟩
  | 124 => ⟨S4x128x4224, .f32⟩
  | 125 => ⟨S4x4224x128, .f32⟩
  | 126 => ⟨S4x128x4224, .f32⟩
  | 127 => ⟨S4x4224x1536, .bf16⟩
  | _ => ⟨S4x4096x1024, .f32⟩

abbrev hbmTy0_2 (i : Nat) : BufTy := match i % 128 with
  | 0 => ⟨S4x4224x1280, .f32⟩
  | 1 => ⟨S4x128x4224, .bf16⟩
  | 2 => ⟨S4x128x4224, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_13 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_cst_14 : Ref sig .tc := ⟨.hbm, 153, rfl⟩
abbrev main_v131 : Ref sig .tc := ⟨.hbm, 154, rfl⟩
abbrev main_v132 : Ref sig .tc := ⟨.hbm, 155, rfl⟩
abbrev main_cst_15 : Ref sig .tc := ⟨.hbm, 156, rfl⟩
abbrev main_v133 : Ref sig .tc := ⟨.hbm, 157, rfl⟩
abbrev main_v134 : Ref sig .tc := ⟨.hbm, 158, rfl⟩
abbrev main_cst_16 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_cst_17 : Ref sig .tc := ⟨.hbm, 169, rfl⟩
abbrev main_v144 : Ref sig .tc := ⟨.hbm, 170, rfl⟩
abbrev main_v145 : Ref sig .tc := ⟨.hbm, 171, rfl⟩
abbrev main_cst_18 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_cst_19 : Ref sig .tc := ⟨.hbm, 176, rfl⟩
abbrev main_v149 : Ref sig .tc := ⟨.hbm, 177, rfl⟩
abbrev main_v150 : Ref sig .tc := ⟨.hbm, 178, rfl⟩
abbrev main_cst_20 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_cst_21 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩

abbrev nD : Nat := 1
abbrev τ : Topo := Topo.v7x

variable {F : FTy → Type} [FloatOps F]
-- ==== Proof.Model.lean ====
/-
  The layer's arithmetic for ONE row, over the extended reals: the root-mean-square norm and the gated feed-forward block.
  The kernels' blocks and the references' arrays are each shown to hold these functions of their rows.
-/
module

public import Idealize.ShloMosaic.Lib.Pointwise

@[expose] public section

noncomputable section

open Idealize.ShloMosaic

namespace Cert.Model

/-- The reciprocal root mean square of a row of 1024 entries: `rsqrt (sum of squares / 1024 + 1e-6)`. -/
def rmsScale (x : Fin 1024 → EReal) : EReal :=
  Ideal.rsqrt (Ideal.div (∑ j, x j * x j) (Ideal.ofBits .f32 0x44800000#32) + Ideal.ofBits .f32 0x358637BD#32)

/-- The norm of a row with gain `g`. -/
def rms (x g : Fin 1024 → EReal) (k : Fin 1024) : EReal := x k * rmsScale x * g k

/-- One product of a row with a matrix. -/
def row {n p : Nat} (u : Fin n → EReal) (w : Fin n → Fin p → EReal) (f : Fin p) : EReal := ∑ k, u k * w k f

/-- `silu a = a · logistic a`. -/
def silu (a : EReal) : EReal := a * Ideal.logistic a

/-- The gated hidden unit `f` of a row. -/
def hidden {p : Nat} (u : Fin 1024 → EReal) (wg wu : Fin 1024 → Fin p → EReal) (f : Fin p) : EReal :=
  silu (row u wg f) * row u wu f

/-- The feed-forward block of a row, with the residual: `h + hidden (rms h) · wd`. -/
def ffn (h g : Fin 1024 → EReal) (wg wu : Fin 1024 → Fin 2816 → EReal) (wd : Fin 2816 → Fin 1024 → EReal)
    (k : Fin 1024) : EReal :=
  h k + row (hidden (rms h g) wg wu) wd k

/-- A product with 2816 terms as the sum of its two halves, each added to what stands before it. -/
theorem add_row_halves (a : EReal) (u : Fin 2816 → EReal) (w : Fin 2816 → Fin 1024 → EReal) (k : Fin 1024) :
    a + row u w k
      = a + (∑ f : Fin 1408, u ⟨f, by omega⟩ * w ⟨f, by omega⟩ k)
        + ∑ f : Fin 1408, u ⟨1408 + f, by omega⟩ * w ⟨1408 + f, by omega⟩ k := by
  unfold row
  rw [Fin.sum_univ_two_halves 1408 1408 rfl, add_assoc]

end Cert.Model

end
-- ==== Proof.Ffn.KernelRow.lean ====
/-
  What one block of the feed-forward kernel with the final norm computes, row by row: a row of the result block is the
  final norm of the feed-forward block of the same row of the input block (`Model.rms (Model.ffn …)`).
-/
module

public import proofs.«01_k».proof.Proof.Gen.KernelIdeal.Frame
public import proofs.«01_k».proof.Proof.Model
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Ffn
open Cert.KernelIdeal Cert.KernelIdeal.Gen

/-- Row `r` of the loaded block of `h`. -/
def hrow (h : FVec Ideal S1x512x1024 .f32) (r : Fin 512) (k : Fin 1024) : EReal := h (ix3 0 r k)
/-- The one row of a gain. -/
def grow (g : FVec Ideal S1x1024 .f32) (k : Fin 1024) : EReal := g (ix2 0 k)
/-- A matrix at its two coordinates. -/
def mat {s t : Nat} (w : FVec Ideal ⟨2, ![s, t]⟩ .bf16) (k : Fin s) (f : Fin t) : EReal := w (ix2 k f)

theorem pay3_at (h : FVec Ideal S1x512x1024 .f32) (g : FVec Ideal S1x1024 .f32) (r : Fin 512) (k : Fin 1024) :
    k0_pay3 (F := Ideal) h g (ix2 r k) = Model.rms (hrow h r) (grow g) k := by
  pointwise [k0_pay3, k0_pay2]
  rfl

theorem pay5_at (h : FVec Ideal S1x512x1024 .f32) (g : FVec Ideal S1x1024 .f32) (w : FVec Ideal S1024x1408 .bf16)
    (r : Fin 512) (f : Fin 1408) :
    k0_pay5 (F := Ideal) h g w (ix2 r f) = Model.silu (Model.row (Model.rms (hrow h r) (grow g)) (mat w) f) := by
  pointwise [k0_pay5]
  simp only [pay3_at]
  rfl

theorem pay4_at (h : FVec Ideal S1x512x1024 .f32) (g : FVec Ideal S1x1024 .f32) (wg wu : FVec Ideal S1024x1408 .bf16)
    (wd : FVec Ideal S1408x1024 .bf16) (r : Fin 512) (k : Fin 1024) :
    k0_pay4 (F := Ideal) h g wg wu wd (ix2 r k)
      = hrow h r k + ∑ f, Model.hidden (Model.rms (hrow h r) (grow g)) (mat wg) (mat wu) f * mat wd f k := by
  pointwise [k0_pay4, k0_pay2]
  simp only [pay3_at]
  rfl

/-- The second half's product added, and the final norm. -/
theorem pay1_at (u : FVec Ideal S512x1024 .bf16) (y : FVec Ideal S512x1024 .f32) (s : FVec Ideal S512x1408 .f32)
    (wu : FVec Ideal S1024x1408 .bf16) (wd : FVec Ideal S1408x1024 .bf16) (g : FVec Ideal S1x1024 .f32)
    (r : Fin 512) (k : Fin 1024) :
    k0_pay1 (F := Ideal) u y s wu wd g (ix3 0 r k)
      = Model.rms (fun k => y (ix2 r k) + ∑ f, s (ix2 r f) * (∑ j, u (ix2 r j) * mat wu j f) * mat wd f k)
          (grow g) k := by
  pointwise [k0_pay1]
  rfl

/-! The loads of the body: the whole blocks, and the two halves of the three matrices. -/

theorem ld_h (x : Vec Ideal S1x512x1024 .f32) : View.ld x r0_0 = x := View.ld_unit_zero (funext fun a => by fin_cases a <;> rfl) ..
theorem ld_g (x : Vec Ideal S1x1024 .f32) : View.ld x r0_1 = x := View.ld_unit_zero (funext fun a => by fin_cases a <;> rfl) ..

theorem mat_left (x : Vec Ideal S1024x2816 .bf16) (k : Fin 1024) (f : Fin 1408) :
    mat (s := 1024) (t := 1408) (View.ld x r0_2) k f = mat x k ⟨f, by omega⟩ := by
  pointwise [mat]
theorem mat_right (x : Vec Ideal S1024x2816 .bf16) (k : Fin 1024) (f : Fin 1408) :
    mat (s := 1024) (t := 1408) (View.ld x r0_4) k f = mat x k ⟨1408 + f, by omega⟩ := by
  pointwise [mat]
theorem mat_top (x : Vec Ideal S2816x1024 .bf16) (f : Fin 1408) (k : Fin 1024) :
    mat (s := 1408) (t := 1024) (View.ld x r0_3) f k = mat x ⟨f, by omega⟩ k := by
  pointwise [mat]
theorem mat_bottom (x : Vec Ideal S2816x1024 .bf16) (f : Fin 1408) (k : Fin 1024) :
    mat (s := 1408) (t := 1024) (View.ld x r0_5) f k = mat x ⟨1408 + f, by omega⟩ k := by
  pointwise [mat]

/-- A row of the block the body stores. -/
theorem out_at (x0 : Vec Ideal S1x512x1024 .f32) (x1 : Vec Ideal S1x1024 .f32) (x2 x3 : Vec Ideal S1024x2816 .bf16)
    (x4 : Vec Ideal S2816x1024 .bf16) (x5 : Vec Ideal S1x1024 .f32) (r : Fin 512) (k : Fin 1024) :
    out0_6 (F := Ideal) x0 x1 x2 x3 x4 x5 (ix3 0 r k)
      = Model.rms (Model.ffn (hrow x0 r) (grow x1) (mat x2) (mat x3) (mat x4)) (grow x5) k := by
  unfold out0_6
  rw [View.canon_unit_zero (funext fun a => by fin_cases a <;> rfl), pay1_at]
  simp only [pay3_at, pay5_at, pay4_at]
  rw [ld_g x5]
  refine congrArg (Model.rms · (grow x5) k) (funext fun k => ?_)
  unfold Model.ffn
  rw [Model.add_row_halves]
  rw [ld_h x0, ld_g x1]
  unfold Model.hidden Model.row
  simp only [mat_left, mat_right, mat_top, mat_bottom]

end Cert.KernelIdeal.Ffn

end
-- ==== Proof.Ffn.RefRow.lean ====
/-
  What the reference of the feed-forward block with the final norm computes: its one composed term, read through the
  norm, the gated hidden units and the residual sum, holds at `(b, s, k)` the row functions of `Model` at row `128 + s`.
-/
module

public import proofs.«01_k».proof.Proof.Gen.ReferenceIdeal.Run
public import proofs.«01_k».proof.Proof.Model
public import Idealize.ShloMosaic.Lib.Pointwise

@[expose] public section

set_option maxRecDepth 16384

noncomputable section

open Idealize.ShloMosaic Idealize.ShloMosaic.TcCoe Idealize.SL.Sem

namespace Cert.ReferenceIdeal.Ffn
open Cert.ReferenceIdeal Cert.ReferenceIdeal.Gen Cert.ReferenceIdeal.Facts

/-- The norm of every row of an array, with gain `g`. -/
def normed (x : FVec Ideal S4x4224x1024 .f32) (g : FVec Ideal S1024 .f32) : FVec Ideal S4x4224x1024 .f32 :=
  mulf (mulf x (broadcastInDim S4x4224x1024 ![0, 1, 2] bcast_S4x4224x1_S4x4224x1024_0_1_2 (Host.rsqrt (addf (Host.divf
    (broadcastInDim S4x4224x1 ![0, 1] bcast_S4x4224_S4x4224x1_0_1 (Host.reduceAdd (mulf x x) (constant S_ .f32 0x00000000#32)
      reducesTo_S4x4224x1024_S4x4224_d2 h_S_))
    (broadcastInDim S4x4224x1 ![] bcast_S_S4x4224x1 (constant S_ .f32 0x44800000#32)))
    (broadcastInDim S4x4224x1 ![] bcast_S_S4x4224x1 (constant S_ .f32 0x358637BD#32))))))
    (broadcastInDim S4x4224x1024 ![0, 1, 2] bcast_S1x1x1024_S4x4224x1024_0_1_2 (broadcastInDim S1x1x1024 ![2] bcast_S1024_S1x1x1024_2 g))

/-- A product of every row with a matrix of 2816 columns. -/
def wide (u : FVec Ideal S4x4224x1024 .f32) (w : FVec Ideal S1024x2816 .f32) : FVec Ideal S4x4224x2816 .f32 :=
  Host.dotGeneral dot_S4x4224x1024_S1024x2816_S4x4224x2816_2_0_01_1_n_n none u w

/-- The gated hidden units. -/
def gated (a b : FVec Ideal S4x4224x2816 .f32) : FVec Ideal S4x4224x2816 .f32 :=
  mulf (mulf a (Host.divf (broadcastInDim S4x4224x2816 ![] bcast_S_S4x4224x2816 (constant S_ .f32 0x3F800000#32))
    (addf (broadcastInDim S4x4224x2816 ![] bcast_S_S4x4224x2816 (constant S_ .f32 0x3F800000#32)) (Host.exp (Host.negf a))))) b

/-- The residual sum. -/
def summed (h : FVec Ideal S4x4224x1024 .f32) (y : FVec Ideal S4x4224x2816 .f32) (w : FVec Ideal S2816x1024 .f32) :
    FVec Ideal S4x4224x1024 .f32 :=
  addf h (Host.dotGeneral dot_S4x4224x2816_S2816x1024_S4x4224x1024_2_0_01_1_n_n none y w)

/-- The reference's result in those terms. -/
def result (h : FVec Ideal S4x4224x1024 .f32) (g : FVec Ideal S2x1024 .f32) (wg wu : FVec Ideal S2x1024x2816 .f32)
    (wd : FVec Ideal S2x2816x1024 .f32) (gf : FVec Ideal S1024 .f32) : FVec Ideal S4x4096x1024 .f32 :=
  let u := normed h (shapeCast _ (extractStridedSlice S1x1024 ![1, 0] g slices_S2x1024_S1x1024_1_0) shapeCasts_S1x1024_S1024)
  let a := wide u (shapeCast _ (extractStridedSlice S1x1024x2816 ![1, 0, 0] wg slices_S2x1024x2816_S1x1024x2816_1_0_0) shapeCasts_S1x1024x2816_S1024x2816)
  let b := wide u (shapeCast _ (extractStridedSlice S1x1024x2816 ![1, 0, 0] wu slices_S2x1024x2816_S1x1024x2816_1_0_0) shapeCasts_S1x1024x2816_S1024x2816)
  extractStridedSlice S4x4096x1024 ![0, 128, 0] (normed (summed h (gated a b)
    (shapeCast _ (extractStridedSlice S1x2816x1024 ![1, 0, 0] wd slices_S2x2816x1024_S1x2816x1024_1_0_0) shapeCasts_S1x2816x1024_S2816x1024)) gf)
    slices_S4x4224x1024_S4x4096x1024_0_128_0

theorem res_eq (m : (ℓ : Loc nD τ sig) → Buf (Elt Ideal) ℓ) (c : Dev nD) :
    Value.res_out0 (F := Ideal) m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

theorem normed_at (x : FVec Ideal S4x4224x1024 .f32) (g : FVec Ideal S1024 .f32) (b : Fin 4) (s : Fin 4224) (k : Fin 1024) :
    normed x g (ix3 b s k) = Model.rms (fun k => x (ix3 b s k)) (fun k => g (ix1 k)) k := by
  pointwise [normed]
  rfl

theorem wide_at (u : FVec Ideal S4x4224x1024 .f32) (w : FVec Ideal S1024x2816 .f32) (b : Fin 4) (s : Fin 4224) (f : Fin 2816) :
    wide u w (ix3 b s f) = Model.row (fun k => u (ix3 b s k)) (fun k f => w (ix2 k f)) f := by
  pointwise [wide]
  rfl

theorem gated_at (a d : FVec Ideal S4x4224x2816 .f32) (b : Fin 4) (s : Fin 4224) (f : Fin 2816) :
    gated a d (ix3 b s f) = Model.silu (a (ix3 b s f)) * d (ix3 b s f) := by
  pointwise [gated]
  rfl

theorem summed_at (h : FVec Ideal S4x4224x1024 .f32) (y : FVec Ideal S4x4224x2816 .f32) (w : FVec Ideal S2816x1024 .f32)
    (b : Fin 4) (s : Fin 4224) (k : Fin 1024) :
    summed h y w (ix3 b s k) = h (ix3 b s k) + Model.row (fun f => y (ix3 b s f)) (fun f k => w (ix2 f k)) k := by
  pointwise [summed]
  rfl

/-- The reference's result at an index. -/
theorem result_at (h : FVec Ideal S4x4224x1024 .f32) (g : FVec Ideal S2x1024 .f32) (wg wu : FVec Ideal S2x1024x2816 .f32)
    (wd : FVec Ideal S2x2816x1024 .f32) (gf : FVec Ideal S1024 .f32) (b : Fin 4) (s : Fin 4096) (k : Fin 1024) :
    result h g wg wu wd gf (ix3 b s k)
      = Model.rms (Model.ffn (fun k => h (ix3 b ⟨128 + s, by omega⟩ k)) (fun k => g (ix2 1 k))
          (fun k f => wg (ix3 1 k f)) (fun k f => wu (ix3 1 k f)) (fun f k => wd (ix3 1 f k))) (fun k => gf (ix1 k)) k := by
  pointwise [result]
  simp only [normed_at, summed_at, gated_at, wide_at]
  pointwise
  rfl

end Cert.ReferenceIdeal.Ffn

end
-- ==== Proof.Ffn.Final.lean ====
/-
  The result array of the feed-forward kernel with the final norm: every entry is the row function of `Model` at its row
  of `h` (128 rows further on: the window of `h` starts after the meta tokens), and so is the reference's.
-/
module

public import proofs.«01_k».proof.Proof.Ffn.KernelRow
public import proofs.«01_k».proof.Proof.Ffn.RefRow
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Ffn
open Cert.KernelIdeal Cert.KernelIdeal.Gen

variable (m : (ℓ : Loc nD τ sig) → Buf (Elt Ideal) ℓ)

/-- The block each window stages at point `t`: batch `t / 8`, tile `t % 8`. -/
theorem idx : ∀ t : Fin cfg0.N, win0_6.index t = ![t.val / 8, t.val % 8, 0]
    ∧ win0_0.index t = ![t.val / 8, 128 + t.val % 8 * 512, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_6.index t = ![t.val / 8, t.val % 8, 0]
    ∧ win0_0.index t = ![t.val / 8, 128 + t.val % 8 * 512, 0] ∧ win0_1.index t = ![0, 0] ∧ win0_2.index t = ![0, 0]
    ∧ win0_3.index t = ![0, 0] ∧ win0_4.index t = ![0, 0] ∧ win0_5.index t = ![0, 0])

theorem N_le (t : Fin cfg0.N) : t.val < 32 := t.isLt

/-- The blocks, at their literal types. -/
abbrev blkH (c : Dev nD) (t : Fin cfg0.N) : Vec Ideal S1x512x1024 .f32 := iblk m c 0 t
abbrev blkG (c : Dev nD) (t : Fin cfg0.N) : Vec Ideal S1x1024 .f32 := iblk m c 1 t
abbrev blkWg (c : Dev nD) (t : Fin cfg0.N) : Vec Ideal S1024x2816 .bf16 := iblk m c 2 t
abbrev blkWu (c : Dev nD) (t : Fin cfg0.N) : Vec Ideal S1024x2816 .bf16 := iblk m c 3 t
abbrev blkWd (c : Dev nD) (t : Fin cfg0.N) : Vec Ideal S2816x1024 .bf16 := iblk m c 4 t
abbrev blkF (c : Dev nD) (t : Fin cfg0.N) : Vec Ideal S1x1024 .f32 := iblk m c 5 t

/-- The arguments, at their literal types. -/
abbrev argH (c : Dev nD) : FVec Ideal S4x4224x1024 .f32 := m ((c.tc : Thread nD τ).loc main_arg0)
abbrev argG (c : Dev nD) : FVec Ideal S2x1024 .f32 := m ((c.tc : Thread nD τ).loc main_arg1)
abbrev argWg (c : Dev nD) : FVec Ideal S2x1024x2816 .f32 := m ((c.tc : Thread nD τ).loc main_arg2)
abbrev argWu (c : Dev nD) : FVec Ideal S2x1024x2816 .f32 := m ((c.tc : Thread nD τ).loc main_arg3)
abbrev argWd (c : Dev nD) : FVec Ideal S2x2816x1024 .f32 := m ((c.tc : Thread nD τ).loc main_arg4)
abbrev argF (c : Dev nD) : FVec Ideal S1024 .f32 := m ((c.tc : Thread nD τ).loc main_arg5)

/-- The window of `h` is an element window: its block starts `128 + 512 · tile` rows into the batch. -/
theorem blkH_at (c : Dev nD) (t : Fin cfg0.N) (r : Fin 512) (k : Fin 1024) :
    blkH m c t (ix3 0 r k)
      = argH m c (ix3 ⟨t.val / 8, by have := N_le t; omega⟩ ⟨128 + (t.val % 8 * 512 + r), by omega⟩ k) := by
  show V m c main_arg0 ((win0_0.blk t).view.emb (ix3 0 r k)) = _
  rw [V_main_arg0]
  refine congrArg (argH m c) (funext fun a => Fin.ext ?_)
  have e := (idx t).2.1
  match a with
  | ⟨0, _⟩ => show win0_0.index t 0 + 1 * 0 = t.val / 8; rw [e]; rfl
  | ⟨1, _⟩ => show win0_0.index t 1 + 1 * r.val = 128 + (t.val % 8 * 512 + r); rw [e]; show 128 + t.val % 8 * 512 + 1 * r.val = _; omega
  | ⟨2, _⟩ => show win0_0.index t 2 + 1 * k.val = k; rw [e]; show 0 + 1 * k.val = _; omega

theorem blkG_at (c : Dev nD) (t : Fin cfg0.N) (k : Fin 1024) : blkG m c t (ix2 0 k) = argG m c (ix2 1 k) := by
  blk_simp [blkG, iblk, idx t]
  entry_read
  pointwise
  blk_point [idx t]
theorem blkWg_at (c : Dev nD) (t : Fin cfg0.N) (k : Fin 1024) (f : Fin 2816) :
    blkWg m c t (ix2 k f) = argWg m c (ix3 1 k f) := by
  blk_simp [blkWg, iblk, idx t]
  entry_read
  pointwise
  blk_point [idx t]
theorem blkWu_at (c : Dev nD) (t : Fin cfg0.N) (k : Fin 1024) (f : Fin 2816) :
    blkWu m c t (ix2 k f) = argWu m c (ix3 1 k f) := by
  blk_simp [blkWu, iblk, idx t]
  entry_read
  pointwise
  blk_point [idx t]
theorem blkWd_at (c : Dev nD) (t : Fin cfg0.N) (f : Fin 2816) (k : Fin 1024) :
    blkWd m c t (ix2 f k) = argWd m c (ix3 1 f k) := by
  blk_simp [blkWd, iblk, idx t]
  entry_read
  pointwise
  blk_point [idx t]
theorem blkF_at (c : Dev nD) (t : Fin cfg0.N) (k : Fin 1024) : blkF m c t (ix2 0 k) = argF m c (ix1 k) := by
  blk_simp [blkF, iblk, idx t]
  entry_read
  pointwise
  blk_point [idx t]

/-- What the reference computes from the kernel's arguments. -/
abbrev REF (c : Dev nD) : FVec Ideal S4x4096x1024 .f32 :=
  Cert.ReferenceIdeal.Ffn.result (argH m c) (argG m c) (argWg m c) (argWu m c) (argWd m c) (argF m c)

/-- The block of point `t` at row `r` is row `512 · tile + r` of the reference's batch. -/
theorem point (c : Dev nD) (t : Fin cfg0.N) (r : Fin 512) (k : Fin 1024) :
    out0_6 (F := Ideal) (blkH m c t) (blkG m c t) (blkWg m c t) (blkWu m c t) (blkWd m c t) (blkF m c t) (ix3 0 r k)
      = REF m c (ix3 ⟨t.val / 8, by have := N_le t; omega⟩ ⟨t.val % 8 * 512 + r, by omega⟩ k) := by
  rw [out_at]
  refine Eq.trans ?_ (Cert.ReferenceIdeal.Ffn.result_at _ _ _ _ _ _ _ _ _).symm
  unfold hrow grow mat
  simp only [blkH_at, blkG_at, blkWg_at, blkWu_at, blkWd_at, blkF_at]

/-- After the run the result array is the reference's. -/
theorem final (c : Dev nD) : (dats m 0 c).arrAt 6 cfg0.N = REF m c := by
  refine (dats m 0 c).arrAt_eq_of_covers 6 _ (by decide +kernel) fun t _ y => ?_
  blk_simp
  rw [after0_6]
  have hy : y = (ix3 0 (y 1) (y 2) : S1x512x1024.Idx) := by
    funext a; match a with | ⟨0, _⟩ => exact Subsingleton.elim (α := Fin 1) _ _ | ⟨1, _⟩ => rfl | ⟨2, _⟩ => rfl
  rw [hy]
  refine (point m c t (y 1) (y 2)).trans (congrArg (REF m c) (funext fun a => Fin.ext ?_))
  have e := (idx t).1
  match a with
  | ⟨0, _⟩ => show t.val / 8 = win0_6.index t 0 * 1 + 1 * 0; rw [e]; show _ = t.val / 8 * 1 + 1 * 0; omega
  | ⟨1, _⟩ => show t.val % 8 * 512 + (y 1).val = win0_6.index t 1 * 512 + 1 * (y 1).val; rw [e]; show _ = t.val % 8 * 512 + 1 * (y 1).val; omega
  | ⟨2, _⟩ => show (y 2).val = win0_6.index t 2 * 1024 + 1 * (y 2).val; rw [e]; show _ = 0 * 1024 + 1 * (y 2).val; omega

end Cert.KernelIdeal.Ffn

end
-- ==== Proof.Inner.KernelRow.lean ====
/-
  What one block of the inner feed-forward kernel computes, row by row: a row of the result block is the feed-forward
  block of the same row of the input block (`Model.ffn`). The body is the one of Proof/Ffn/KernelRow.lean at 768 rows
  and without the final norm.
-/
module

public import proofs.«01_k».proof.Proof.Gen.FfnIdeal.Frame
public import proofs.«01_k».proof.Proof.Model
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnIdeal.Inner
open Cert.FfnIdeal Cert.FfnIdeal.Gen

/-- Row `r` of the loaded block of `h`. -/
def hrow (h : FVec Ideal S1x768x1024 .f32) (r : Fin 768) (k : Fin 1024) : EReal := h (ix3 0 r k)
/-- The one row of a gain. -/
def grow (g : FVec Ideal S1x1024 .f32) (k : Fin 1024) : EReal := g (ix2 0 k)
/-- A matrix at its two coordinates. -/
def mat {s t : Nat} (w : FVec Ideal ⟨2, ![s, t]⟩ .bf16) (k : Fin s) (f : Fin t) : EReal := w (ix2 k f)

theorem pay3_at (h : FVec Ideal S1x768x1024 .f32) (g : FVec Ideal S1x1024 .f32) (r : Fin 768) (k : Fin 1024) :
    k0_pay3 (F := Ideal) h g (ix2 r k) = Model.rms (hrow h r) (grow g) k := by
  pointwise [k0_pay3, k0_pay2]
  rfl

theorem pay5_at (h : FVec Ideal S1x768x1024 .f32) (g : FVec Ideal S1x1024 .f32) (w : FVec Ideal S1024x1408 .bf16)
    (r : Fin 768) (f : Fin 1408) :
    k0_pay5 (F := Ideal) h g w (ix2 r f) = Model.silu (Model.row (Model.rms (hrow h r) (grow g)) (mat w) f) := by
  pointwise [k0_pay5]
  simp only [pay3_at]
  rfl

theorem pay4_at (h : FVec Ideal S1x768x1024 .f32) (g : FVec Ideal S1x1024 .f32) (wg wu : FVec Ideal S1024x1408 .bf16)
    (wd : FVec Ideal S1408x1024 .bf16) (r : Fin 768) (k : Fin 1024) :
    k0_pay4 (F := Ideal) h g wg wu wd (ix2 r k)
      = hrow h r k + ∑ f, Model.hidden (Model.rms (hrow h r) (grow g)) (mat wg) (mat wu) f * mat wd f k := by
  pointwise [k0_pay4, k0_pay2]
  simp only [pay3_at]
  rfl

/-- The second half's product added. -/
theorem pay1_at (u : FVec Ideal S768x1024 .bf16) (y : FVec Ideal S768x1024 .f32) (s : FVec Ideal S768x1408 .f32)
    (wu : FVec Ideal S1024x1408 .bf16) (wd : FVec Ideal S1408x1024 .bf16) (r : Fin 768) (k : Fin 1024) :
    k0_pay1 (F := Ideal) u y s wu wd (ix3 0 r k)
      = y (ix2 r k) + ∑ f, s (ix2 r f) * (∑ j, u (ix2 r j) * mat wu j f) * mat wd f k := by
  pointwise [k0_pay1]
  rfl

/-! The loads of the body: the whole blocks, and the two halves of the three matrices. -/

theorem ld_h (x : Vec Ideal S1x768x1024 .f32) : View.ld x r0_0 = x := View.ld_unit_zero (funext fun a => by fin_cases a <;> rfl) ..
theorem ld_g (x : Vec Ideal S1x1024 .f32) : View.ld x r0_1 = x := View.ld_unit_zero (funext fun a => by fin_cases a <;> rfl) ..

theorem mat_left (x : Vec Ideal S1024x2816 .bf16) (k : Fin 1024) (f : Fin 1408) :
    mat (s := 1024) (t := 1408) (View.ld x r0_2) k f = mat x k ⟨f, by omega⟩ := by
  pointwise [mat]
theorem mat_right (x : Vec Ideal S1024x2816 .bf16) (k : Fin 1024) (f : Fin 1408) :
    mat (s := 1024) (t := 1408) (View.ld x r0_4) k f = mat x k ⟨1408 + f, by omega⟩ := by
  pointwise [mat]
theorem mat_top (x : Vec Ideal S2816x1024 .bf16) (f : Fin 1408) (k : Fin 1024) :
    mat (s := 1408) (t := 1024) (View.ld x r0_3) f k = mat x ⟨f, by omega⟩ k := by
  pointwise [mat]
theorem mat_bottom (x : Vec Ideal S2816x1024 .bf16) (f : Fin 1408) (k : Fin 1024) :
    mat (s := 1408) (t := 1024) (View.ld x r0_5) f k = mat x ⟨1408 + f, by omega⟩ k := by
  pointwise [mat]

/-- A row of the block the body stores. -/
theorem out_at (x0 : Vec Ideal S1x768x1024 .f32) (x1 : Vec Ideal S1x1024 .f32) (x2 x3 : Vec Ideal S1024x2816 .bf16)
    (x4 : Vec Ideal S2816x1024 .bf16) (x5 : Vec Ideal S1x1024 .f32) (r : Fin 768) (k : Fin 1024) :
    out0_6 (F := Ideal) x0 x1 x2 x3 x4 x5 (ix3 0 r k)
      = Model.ffn (hrow x0 r) (grow x1) (mat x2) (mat x3) (mat x4) k := by
  unfold out0_6
  rw [View.canon_unit_zero (funext fun a => by fin_cases a <;> rfl), pay1_at]
  simp only [pay3_at, pay5_at, pay4_at]
  unfold Model.ffn
  rw [Model.add_row_halves]
  rw [ld_h x0, ld_g x1]
  unfold Model.hidden Model.row
  simp only [mat_left, mat_right, mat_top, mat_bottom]

end Cert.FfnIdeal.Inner

end
-- ==== Proof.Inner.RefRow.lean ====
/-
  What the reference of the inner feed-forward block computes: the same terms as Proof/Ffn/RefRow.lean without the
  final norm and with the rows of the four batches laid out one after the other.
-/
module

public import proofs.«01_k».proof.Proof.Gen.FfnReferenceIdeal.Run
public import proofs.«01_k».proof.Proof.Ffn.RefRow

@[expose] public section

set_option maxRecDepth 16384

noncomputable section

open Idealize.ShloMosaic Idealize.ShloMosaic.TcCoe Idealize.SL.Sem

namespace Cert.FfnReferenceIdeal.Inner
open Cert.FfnReferenceIdeal Cert.FfnReferenceIdeal.Gen Cert.FfnReferenceIdeal.Facts
open Cert.ReferenceIdeal.Ffn (normed wide gated summed normed_at wide_at gated_at summed_at)

/-- The block of every row. -/
def block (h : FVec Ideal S4x4224x1024 .f32) (g : FVec Ideal S1024 .f32) (wg wu : FVec Ideal S1024x2816 .f32)
    (wd : FVec Ideal S2816x1024 .f32) : FVec Ideal S4x4224x1024 .f32 :=
  summed h (gated (wide (normed h g) wg) (wide (normed h g) wu)) wd

/-- The reference's result. -/
def result (h : FVec Ideal S4x4224x1024 .f32) (g : FVec Ideal S1024 .f32) (wg wu : FVec Ideal S1024x2816 .f32)
    (wd : FVec Ideal S2816x1024 .f32) : FVec Ideal S1x16896x1024 .f32 :=
  shapeCast _ (block h g wg wu wd) shapeCasts_S4x4224x1024_S1x16896x1024

/-- The reference runs to that result and keeps its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = result (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

theorem block_at (h : FVec Ideal S4x4224x1024 .f32) (g : FVec Ideal S1024 .f32) (wg wu : FVec Ideal S1024x2816 .f32)
    (wd : FVec Ideal S2816x1024 .f32) (b : Fin 4) (s : Fin 4224) (k : Fin 1024) :
    block h g wg wu wd (ix3 b s k)
      = Model.ffn (fun k => h (ix3 b s k)) (fun k => g (ix1 k)) (fun k f => wg (ix2 k f)) (fun k f => wu (ix2 k f))
          (fun f k => wd (ix2 f k)) k := by
  unfold block
  rw [summed_at]
  simp only [gated_at, wide_at, normed_at]
  rfl

/-- The reference's result at flat row `R`: row `R % 4224` of batch `R / 4224`. -/
theorem result_at (h : FVec Ideal S4x4224x1024 .f32) (g : FVec Ideal S1024 .f32) (wg wu : FVec Ideal S1024x2816 .f32)
    (wd : FVec Ideal S2816x1024 .f32) (R : Fin 16896) (k : Fin 1024) :
    result h g wg wu wd (ix3 0 R k)
      = Model.ffn (fun k => h (ix3 ⟨R / 4224, by omega⟩ ⟨R % 4224, by omega⟩ k)) (fun k => g (ix1 k))
          (fun k f => wg (ix2 k f)) (fun k f => wu (ix2 k f)) (fun f k => wd (ix2 f k)) k := by
  rw [← block_at]
  pointwise [result]

end Cert.FfnReferenceIdeal.Inner

end
-- ==== Proof.Inner.Final.lean ====
/-
  The result array of the inner feed-forward kernel: every entry is the row function of `Model` at the same flat row of
  `h` (row `R % 4224` of batch `R / 4224`), and so is the reference's.
-/
module

public import proofs.«01_k».proof.Proof.Inner.KernelRow
public import proofs.«01_k».proof.Proof.Inner.RefRow
public import proofs.«01_k».proof.Proof.Gen.FfnIdeal.Value

@[expose] public section

set_option maxRecDepth 16384

noncomputable section

open Idealize.ShloMosaic Idealize.ShloMosaic.TcCoe Idealize.SL.Sem
open Idealize.ShloMosaic.Pipeline (Dat)

namespace Cert.FfnIdeal.Inner
open Cert.FfnIdeal Cert.FfnIdeal.Gen

variable (m : (ℓ : Loc nD τ sig) → Buf (Elt Ideal) ℓ)

/-- The block each window stages at point `t`: row tile `t`, and the whole weights. -/
theorem idx : ∀ t : Fin cfg0.N, win0_6.index t = ![0, t.val, 0]
    ∧ win0_0.index t = ![0, t.val, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_6.index t = ![0, t.val, 0]
    ∧ win0_0.index t = ![0, t.val, 0] ∧ win0_1.index t = ![0, 0] ∧ win0_2.index t = ![0, 0]
    ∧ win0_3.index t = ![0, 0] ∧ win0_4.index t = ![0, 0] ∧ win0_5.index t = ![0, 0])

theorem N_le (t : Fin cfg0.N) : t.val < 22 := t.isLt

/-- The flat row `768 t + r`. -/
abbrev flat (t : Fin cfg0.N) (r : Fin 768) : Fin 16896 := ⟨t.val * 768 + r, by have := N_le t; omega⟩

/-- The blocks, at their literal types. -/
abbrev blkH (c : Dev nD) (t : Fin cfg0.N) : Vec Ideal S1x768x1024 .f32 := iblk m c 0 t
abbrev blkG (c : Dev nD) (t : Fin cfg0.N) : Vec Ideal S1x1024 .f32 := iblk m c 1 t
abbrev blkWg (c : Dev nD) (t : Fin cfg0.N) : Vec Ideal S1024x2816 .bf16 := iblk m c 2 t
abbrev blkWu (c : Dev nD) (t : Fin cfg0.N) : Vec Ideal S1024x2816 .bf16 := iblk m c 3 t
abbrev blkWd (c : Dev nD) (t : Fin cfg0.N) : Vec Ideal S2816x1024 .bf16 := iblk m c 4 t
abbrev blkF (c : Dev nD) (t : Fin cfg0.N) : Vec Ideal S1x1024 .f32 := iblk m c 5 t

/-- The arguments, at their literal types. -/
abbrev argH (c : Dev nD) : FVec Ideal S4x4224x1024 .f32 := m ((c.tc : Thread nD τ).loc main_arg0)
abbrev argG (c : Dev nD) : FVec Ideal S1024 .f32 := m ((c.tc : Thread nD τ).loc main_arg1)
abbrev argWg (c : Dev nD) : FVec Ideal S1024x2816 .f32 := m ((c.tc : Thread nD τ).loc main_arg2)
abbrev argWu (c : Dev nD) : FVec Ideal S1024x2816 .f32 := m ((c.tc : Thread nD τ).loc main_arg3)
abbrev argWd (c : Dev nD) : FVec Ideal S2816x1024 .f32 := m ((c.tc : Thread nD τ).loc main_arg4)

theorem blkH_at (c : Dev nD) (t : Fin cfg0.N) (r : Fin 768) (k : Fin 1024) :
    blkH m c t (ix3 0 r k)
      = argH m c (ix3 ⟨(flat t r).val / 4224, by omega⟩ ⟨(flat t r).val % 4224, by omega⟩ k) := by
  have e := (idx t).2.1
  refine (congrArg (V m c main_v5 : FVec Ideal S1x16896x1024 .f32) (?_ : _ = ix3 0 (flat t r) k)).trans ?_
  · refine funext fun a => Fin.ext ?_
    match a with
    | ⟨0, _⟩ => show win0_0.index t 0 * 1 + 1 * 0 = 0; rw [e]; rfl
    | ⟨1, _⟩ => show win0_0.index t 1 * 768 + 1 * r.val = t.val * 768 + r; rw [e]; show t.val * 768 + 1 * r.val = _; omega
    | ⟨2, _⟩ => show win0_0.index t 2 * 1024 + 1 * k.val = k; rw [e]; show 0 * 1024 + 1 * k.val = _; omega
  · entry_read
    pointwise

theorem blkG_at (c : Dev nD) (t : Fin cfg0.N) (k : Fin 1024) : blkG m c t (ix2 0 k) = argG m c (ix1 k) := by
  blk_simp [blkG, iblk, idx t]
  entry_read
  pointwise
  blk_point [idx t]
theorem blkWg_at (c : Dev nD) (t : Fin cfg0.N) (k : Fin 1024) (f : Fin 2816) :
    blkWg m c t (ix2 k f) = argWg m c (ix2 k f) := by
  blk_simp [blkWg, iblk, idx t]
  entry_read
  pointwise
  blk_point [idx t]
theorem blkWu_at (c : Dev nD) (t : Fin cfg0.N) (k : Fin 1024) (f : Fin 2816) :
    blkWu m c t (ix2 k f) = argWu m c (ix2 k f) := by
  blk_simp [blkWu, iblk, idx t]
  entry_read
  pointwise
  blk_point [idx t]
theorem blkWd_at (c : Dev nD) (t : Fin cfg0.N) (f : Fin 2816) (k : Fin 1024) :
    blkWd m c t (ix2 f k) = argWd m c (ix2 f k) := by
  blk_simp [blkWd, iblk, idx t]
  entry_read
  pointwise
  blk_point [idx t]

/-- What the reference computes from the kernel's arguments. -/
abbrev REF (c : Dev nD) : FVec Ideal S1x16896x1024 .f32 :=
  Cert.FfnReferenceIdeal.Inner.result (argH m c) (argG m c) (argWg m c) (argWu m c) (argWd m c)

/-- The block of point `t` at row `r` is the reference's flat row. -/
theorem point (c : Dev nD) (t : Fin cfg0.N) (r : Fin 768) (k : Fin 1024) :
    out0_6 (F := Ideal) (blkH m c t) (blkG m c t) (blkWg m c t) (blkWu m c t) (blkWd m c t) (blkF m c t) (ix3 0 r k)
      = REF m c (ix3 0 (flat t r) k) := by
  rw [out_at]
  refine Eq.trans ?_ (Cert.FfnReferenceIdeal.Inner.result_at _ _ _ _ _ _ _).symm
  unfold hrow grow mat
  simp only [blkH_at, blkG_at, blkWg_at, blkWu_at, blkWd_at]

/-- After the run the result array is the reference's. -/
theorem final (c : Dev nD) : (dats m 0 c).arrAt 6 cfg0.N = REF m c := by
  refine (dats m 0 c).arrAt_eq_of_covers 6 _ (by decide +kernel) fun t _ y => ?_
  blk_simp
  rw [after0_6]
  have hy : y = (ix3 0 (y 1) (y 2) : S1x768x1024.Idx) := by
    funext a; match a with | ⟨0, _⟩ => exact Subsingleton.elim (α := Fin 1) _ _ | ⟨1, _⟩ => rfl | ⟨2, _⟩ => rfl
  rw [hy]
  refine (point m c t (y 1) (y 2)).trans (congrArg (REF m c) (funext fun a => Fin.ext ?_))
  have e := (idx t).1
  match a with
  | ⟨0, _⟩ => show 0 = win0_6.index t 0 * 1 + 1 * 0; rw [e]; rfl
  | ⟨1, _⟩ => show t.val * 768 + (y 1).val = win0_6.index t 1 * 768 + 1 * (y 1).val; rw [e]; show _ = t.val * 768 + 1 * (y 1).val; omega
  | ⟨2, _⟩ => show (y 2).val = win0_6.index t 2 * 1024 + 1 * (y 2).val; rw [e]; show _ = 0 * 1024 + 1 * (y 2).val; omega

end Cert.FfnIdeal.Inner

end
-- ==== Proof.Merge.Model.lean ====
/-
  The merge of the four branches for ONE row, over the extended reals: the recurrence's output norm per head, the four
  gated branch products and the output projection with the residual.
-/
module

public import proofs.«01_k».proof.Proof.Model

@[expose] public section

noncomputable section

open Idealize.ShloMosaic

namespace Cert.Model

/-- Where entry `j` of an attention branch's row stands when its four heads are stored pair by pair: head `2 a + b`
    stands where head `2 b + a` would. -/
def pair (j : Fin 256) : Fin 256 := ⟨(j.val / 64 % 2 * 2 + j.val / 128) * 64 + j.val % 64, by omega⟩

theorem pair_pair : ∀ j : Fin 256, pair (pair j) = j := by decide +kernel

/-- A product whose two factors' rows are both re-paired is the product. -/
theorem sum_pair (f : Fin 256 → EReal) : ∑ j, f (pair j) = ∑ j, f j :=
  Equiv.sum_comp (Function.Involutive.toPerm pair pair_pair) f

/-- The mean square of the head that entry `j` lies in. -/
def headMean (od : Fin 256 → EReal) (j : Fin 256) : EReal :=
  Ideal.div (∑ d : Fin 64, od ⟨j.val / 64 * 64 + d, by omega⟩ * od ⟨j.val / 64 * 64 + d, by omega⟩)
    (Ideal.ofBits .f32 0x42800000#32)

/-- The recurrence's branch: the norm of each head with gain `g`, times `silu` of its gate. -/
def headNormed (od : Fin 256 → EReal) (g : Fin 64 → EReal) (dg : Fin 256 → EReal) (j : Fin 256) : EReal :=
  od j * Ideal.rsqrt (headMean od j + Ideal.ofBits .f32 0x358637BD#32) * g ⟨j.val % 64, by omega⟩ * silu (dg j)

/-- One gated branch: `logistic (u · wgz)`, branch `n`'s columns, times `y · wb n`. -/
def gated (u : Fin 1024 → EReal) (wgz : Fin 1024 → Fin 4096 → EReal) (y : Fin 256 → EReal)
    (wb : Fin 4 → Fin 256 → Fin 1024 → EReal) (n : Fin 4) (k : Fin 1024) : EReal :=
  Ideal.logistic (row u wgz ⟨n.val * 1024 + k, by omega⟩) * row y (wb n) k

/-- The merged row: the four gated branches, projected, with the residual. -/
def merge (h g : Fin 1024 → EReal) (wgz : Fin 1024 → Fin 4096 → EReal) (ya yb yc yd : Fin 256 → EReal)
    (wb : Fin 4 → Fin 256 → Fin 1024 → EReal) (wo : Fin 1024 → Fin 1024 → EReal) (k : Fin 1024) : EReal :=
  h k + row (fun k => gated (rms h g) wgz ya wb 0 k + gated (rms h g) wgz yb wb 1 k + gated (rms h g) wgz yc wb 2 k
    + gated (rms h g) wgz yd wb 3 k) wo k

end Cert.Model

end
-- ==== Proof.Merge.KernelRow.lean ====
/-
  What one block of the merge kernel computes, row by row, when the two directions' states are finite: `Model.merge`
  of the same row of its input blocks.
-/
module

public import proofs.«01_k».proof.Proof.Gen.MergeIdeal.Frame
public import proofs.«01_k».proof.Proof.Merge.Model
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MergeIdeal.Merge
open Cert.MergeIdeal Cert.MergeIdeal.Gen

/-- Row `r` of a loaded block of 768 rows. -/
def brow {w : Nat} (h : FVec Ideal ⟨3, ![1, 768, w]⟩ .f32) (r : Fin 768) (k : Fin w) : EReal := h (ix3 0 r k)
/-- Row `r` of a loaded attention branch. -/
def yrow (y : FVec Ideal S1x768x256 .bf16) (r : Fin 768) (k : Fin 256) : EReal := y (ix3 0 r k)
/-- The one row of a gain. -/
def grow {w : Nat} (g : FVec Ideal ⟨2, ![1, w]⟩ .f32) (k : Fin w) : EReal := g (ix2 0 k)
/-- A matrix at its two coordinates. -/
def mat {s t : Nat} (w : FVec Ideal ⟨2, ![s, t]⟩ .bf16) (k : Fin s) (f : Fin t) : EReal := w (ix2 k f)
/-- One of the branch weights at its two coordinates. -/
def bmat {n : Nat} (w : FVec Ideal ⟨3, ![n, 256, 1024]⟩ .bf16) (n : Fin n) (j : Fin 256) (k : Fin 1024) : EReal := w (ix3 n j k)

theorem pay3_at (h : FVec Ideal S1x768x1024 .f32) (g : FVec Ideal S1x1024 .f32) (r : Fin 768) (k : Fin 1024) :
    k0_pay3 (F := Ideal) h g (ix2 r k) = Model.rms (brow h r) (grow g) k := by
  pointwise [k0_pay3, k0_pay2]
  rfl

/-- The mean square of the head of entry `j` as the kernel forms it: the squares and what their rounding dropped, both
    summed by the product with the 0/1 table `bd`. -/
def blockMean (od : Fin 256 → EReal) (bd : Fin 256 → Fin 256 → EReal) (j : Fin 256) : EReal :=
  ((∑ i, od i * od i * bd i j) + ∑ i, (od i * od i - od i * od i) * bd i j) * Ideal.ofBits .f32 0x3C800000#32

theorem pay4_at (f b : FVec Ideal S1x768x256 .f32) (bd : FVec Ideal S256x256 .bf16) (r : Fin 768) (j : Fin 256) :
    k0_pay4 (F := Ideal) f b bd (ix2 r j) = (brow f r j + brow b r j)
      * Ideal.rsqrt (blockMean (fun j => brow f r j + brow b r j) (mat bd) j + Ideal.ofBits .f32 0x358637BD#32) := by
  pointwise [k0_pay4]
  rfl

theorem pay5_at (x : FVec Ideal S768x256 .f32) (g : FVec Ideal S1x256 .f32) (dg : FVec Ideal S1x768x256 .f32) (r : Fin 768) (j : Fin 256) :
    k0_pay5 (F := Ideal) x g dg (ix2 r j) = x (ix2 r j) * grow g j * Model.silu (brow dg r j) := by
  pointwise [k0_pay5]
  rfl

theorem pay6_at (y : FVec Ideal S1x768x256 .bf16) (r : Fin 768) (j : Fin 256) :
    k0_pay6 (F := Ideal) y (ix2 r j) = yrow y r j := by
  pointwise [k0_pay6]
  rfl

/-- One gated branch from a gate's own columns and a branch's own weights. -/
def term (u : Fin 1024 → EReal) (wg : Fin 1024 → Fin 1024 → EReal) (y : Fin 256 → EReal) (wb : Fin 256 → Fin 1024 → EReal)
    (k : Fin 1024) : EReal := Ideal.logistic (Model.row u wg k) * Model.row y wb k

theorem pay7_at (u : FVec Ideal S768x1024 .bf16) (ya yb : FVec Ideal S1x768x256 .bf16) (w0 : FVec Ideal S1024x1024 .bf16)
    (b0 : FVec Ideal S1x256x1024 .bf16) (w1 : FVec Ideal S1024x1024 .bf16) (b1 : FVec Ideal S1x256x1024 .bf16) (r : Fin 768) (k : Fin 1024) :
    k0_pay7 (F := Ideal) u ya yb w0 b0 w1 b1 (ix2 r k)
      = term (fun k => u (ix2 r k)) (mat w0) (yrow ya r) (bmat b0 0) k + term (fun k => u (ix2 r k)) (mat w1) (yrow yb r) (bmat b1 0) k := by
  pointwise [k0_pay7]
  rfl

theorem pay1_at (h : FVec Ideal S768x1024 .f32) (u : FVec Ideal S768x1024 .bf16) (yd yc : FVec Ideal S768x256 .bf16)
    (s : FVec Ideal S768x1024 .f32) (w2 : FVec Ideal S1024x1024 .bf16) (b2 : FVec Ideal S1x256x1024 .bf16) (w3 : FVec Ideal S1024x1024 .bf16)
    (b3 : FVec Ideal S1x256x1024 .bf16) (wo : FVec Ideal S1024x1024 .bf16) (r : Fin 768) (k : Fin 1024) :
    k0_pay1 (F := Ideal) h u yd yc s w2 b2 w3 b3 wo (ix3 0 r k)
      = h (ix2 r k) + Model.row (fun k => s (ix2 r k) + term (fun k => u (ix2 r k)) (mat w2) (fun j => yc (ix2 r j)) (bmat b2 0) k
          + term (fun k => u (ix2 r k)) (mat w3) (fun j => yd (ix2 r j)) (bmat b3 0) k) (mat wo) k := by
  pointwise [k0_pay1]
  rfl

theorem pay2_at (h : FVec Ideal S1x768x1024 .f32) (r : Fin 768) (k : Fin 1024) : k0_pay2 (F := Ideal) h (ix2 r k) = brow h r k := by
  pointwise [k0_pay2]
  rfl

/-! The loads of the body. -/

theorem ld_h (x : Vec Ideal S1x768x1024 .f32) : View.ld x r0_0 = x := View.ld_unit_zero (funext fun a => by fin_cases a <;> rfl) ..
theorem ld_g (x : Vec Ideal S1x1024 .f32) : View.ld x r0_1 = x := View.ld_unit_zero (funext fun a => by fin_cases a <;> rfl) ..
theorem ld_y (x : Vec Ideal S1x768x256 .bf16) : View.ld x r0_2 = x := View.ld_unit_zero (funext fun a => by fin_cases a <;> rfl) ..
theorem ld_s (x : Vec Ideal S1x768x256 .f32) : View.ld x r0_2 = x := View.ld_unit_zero (funext fun a => by fin_cases a <;> rfl) ..
theorem ld_bd (x : Vec Ideal S256x256 .bf16) : View.ld x r0_3 = x := View.ld_unit_zero (funext fun a => by fin_cases a <;> rfl) ..
theorem ld_go (x : Vec Ideal S1x256 .f32) : View.ld x r0_4 = x := View.ld_unit_zero (funext fun a => by fin_cases a <;> rfl) ..
theorem ld_wo (x : Vec Ideal S1024x1024 .bf16) : View.ld x r0_13 = x := View.ld_unit_zero (funext fun a => by fin_cases a <;> rfl) ..

theorem gate0 (x : Vec Ideal S1024x4096 .bf16) (k f : Fin 1024) :
    mat (s := 1024) (t := 1024) (View.ld x r0_5) k f = mat x k ⟨(0 : Fin 4).val * 1024 + f, by omega⟩ := by pointwise [mat]
theorem gate1 (x : Vec Ideal S1024x4096 .bf16) (k f : Fin 1024) :
    mat (s := 1024) (t := 1024) (View.ld x r0_7) k f = mat x k ⟨(1 : Fin 4).val * 1024 + f, by omega⟩ := by pointwise [mat]
theorem gate2 (x : Vec Ideal S1024x4096 .bf16) (k f : Fin 1024) :
    mat (s := 1024) (t := 1024) (View.ld x r0_9) k f = mat x k ⟨(2 : Fin 4).val * 1024 + f, by omega⟩ := by pointwise [mat]
theorem gate3 (x : Vec Ideal S1024x4096 .bf16) (k f : Fin 1024) :
    mat (s := 1024) (t := 1024) (View.ld x r0_11) k f = mat x k ⟨(3 : Fin 4).val * 1024 + f, by omega⟩ := by pointwise [mat]
theorem wb0 (x : Vec Ideal S4x256x1024 .bf16) (j : Fin 256) (k : Fin 1024) :
    bmat (n := 1) (View.ld x r0_6) 0 j k = bmat x 0 j k := by pointwise [bmat]
theorem wb1 (x : Vec Ideal S4x256x1024 .bf16) (j : Fin 256) (k : Fin 1024) :
    bmat (n := 1) (View.ld x r0_8) 0 j k = bmat x 1 j k := by pointwise [bmat]
theorem wb2 (x : Vec Ideal S4x256x1024 .bf16) (j : Fin 256) (k : Fin 1024) :
    bmat (n := 1) (View.ld x r0_10) 0 j k = bmat x 2 j k := by pointwise [bmat]
theorem wb3 (x : Vec Ideal S4x256x1024 .bf16) (j : Fin 256) (k : Fin 1024) :
    bmat (n := 1) (View.ld x r0_12) 0 j k = bmat x 3 j k := by pointwise [bmat]

/-- A row of the block the body stores. -/
theorem out_at (x0 : Vec Ideal S1x768x1024 .f32) (x1 x2 x3 : Vec Ideal S1x768x256 .bf16) (x4 x5 x6 : Vec Ideal S1x768x256 .f32)
    (x7 : Vec Ideal S1x1024 .f32) (x8 : Vec Ideal S1x256 .f32) (x9 : Vec Ideal S256x256 .bf16) (x10 : Vec Ideal S1024x4096 .bf16)
    (x11 : Vec Ideal S4x256x1024 .bf16) (x12 : Vec Ideal S1024x1024 .bf16) (r : Fin 768) (k : Fin 1024) :
    out0_13 (F := Ideal) x0 x1 x2 x3 x4 x5 x6 x7 x8 x9 x10 x11 x12 (ix3 0 r k)
      = Model.merge (brow x0 r) (grow x7) (mat x10) (yrow x1 r) (yrow x2 r) (yrow x3 r)
          (fun j => (brow x4 r j + brow x5 r j) * Ideal.rsqrt (blockMean (fun j => brow x4 r j + brow x5 r j) (mat x9) j
            + Ideal.ofBits .f32 0x358637BD#32) * grow x8 j * Model.silu (brow x6 r j))
          (bmat x11) (mat x12) k := by
  unfold_out out0_13
  rw [View.canon_unit_zero (funext fun a => by fin_cases a <;> rfl), pay1_at]
  simp only [pay2_at, pay3_at, pay4_at, pay5_at, pay6_at, pay7_at]
  rw [ld_h x0, ld_g x7, ld_y x1, ld_y x2, ld_y x3, ld_s x4, ld_s x5, ld_s x6, ld_bd x9, ld_go x8, ld_wo x12]
  unfold Model.merge Model.gated term Model.row
  simp only [gate0, gate1, gate2, gate3, wb0, wb1, wb2, wb3]

end Cert.MergeIdeal.Merge

end
-- ==== Proof.Merge.Mean.lean ====
/-
  The mean square of a head: the kernel's product with the 0/1 table, times 1/64, is the reference's sum over the head
  divided by 64. The table's product of what the rounding dropped is 0 because the states are finite.
-/
module

public import proofs.«01_k».proof.Proof.Merge.KernelRow

@[expose] public section

noncomputable section

open Idealize.ShloMosaic

namespace Cert.MergeIdeal.Merge

/-- The table: 1 where the two entries lie in one head. -/
def same (i j : Fin 256) : EReal := if i.val / 64 = j.val / 64 then 1 else 0

/-- A sum against the table is the sum over the head. -/
theorem sum_same (f : Fin 256 → EReal) (j : Fin 256) :
    ∑ i, f i * same i j = ∑ d : Fin 64, f ⟨j.val / 64 * 64 + d, by omega⟩ := by
  rw [Fin.sum_univ_tiles 4 64 rfl]
  rw [Finset.sum_eq_single (⟨j.val / 64, by omega⟩ : Fin 4)]
  · refine Finset.sum_congr rfl fun d _ => ?_
    have e : (j.val / 64 * 64 + d.val) / 64 = j.val / 64 := by omega
    simp only [same, e, if_true, mul_one]
  · intro a _ ha
    refine Finset.sum_eq_zero fun d _ => ?_
    have e : (a.val * 64 + d.val) / 64 ≠ j.val / 64 := fun e => ha (Fin.ext (by simp only; omega))
    simp only [same, e, if_false, mul_zero]
  · intro h; exact absurd (Finset.mem_univ _) h

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

/-- With finite states the kernel's mean square is the head's. -/
theorem blockMean_eq (od : Fin 256 → EReal) (hod : ∀ i, od i ≠ ⊤ ∧ od i ≠ ⊥) (j : Fin 256) :
    blockMean od same j = Model.headMean od j := by
  have hz : ∀ i, od i * od i - od i * od i = 0 := fun i => by
    obtain ⟨r, hr⟩ : ∃ r : ℝ, od i = r := ⟨(od i).toReal, (EReal.coe_toReal (hod i).1 (hod i).2).symm⟩
    rw [hr, ← EReal.coe_mul, ← EReal.coe_sub, sub_self, EReal.coe_zero]
  unfold blockMean Model.headMean
  simp only [hz, zero_mul, Finset.sum_const_zero, add_zero]
  rw [sum_same (fun i => od i * od i), ofBits_64, ofBits_64th, Ideal.div_coe (by norm_num)]

end Cert.MergeIdeal.Merge

end
-- ==== Proof.Merge.Finite.lean ====
/-
  The precondition `finite_states` read back: no entry of the two directions' states is infinite.
-/
module

public import proofs.«01_k».proof.Proof.Gen.Pre_finite_states
public import Idealize.ShloMosaic.Lib.ReduceAll
public import Idealize.ShloMosaic.Lib.Pointwise

@[expose] public section

noncomputable section

open Idealize.ShloMosaic

namespace Cert.Pre_finite_states

theorem ofBits_inf : Ideal.ofBits .f32 0x7F800000#32 = ⊤ := by
  simp [Ideal.ofBits, Ideal.ieee]

/-- An extended real whose absolute value is below `⊤` is neither infinity. -/
theorem finite_of_abs (x : EReal) (h : max x (-x) < ⊤) : x ≠ ⊤ ∧ x ≠ ⊥ :=
  ⟨fun e => by rw [e] at h; simp at h, fun e => by rw [e] at h; simp at h⟩

/-- A comparison `|x| < inf` that came out 1 at an index. -/
theorem finite_at (x : FVec Ideal S4x4224x256 .f32) (i : S4x4224x256.Idx)
    (h : cmpf (F := Ideal) .olt (Host.absf x) (broadcastInDim S4x4224x256 ![] Facts.bcast_S_S4x4224x256 (constant S_ .f32 0x7F800000#32)) i = 1#1) :
    x i ≠ ⊤ ∧ x i ≠ ⊥ := by
  apply finite_of_abs
  pointwise at h
  rw [ofBits_inf] at h
  by_contra hc
  rw [decide_eq_false (show ¬ (FloatOps.absf (F := Ideal) (x i) : EReal) < ⊤ from hc)] at h
  exact absurd h (by decide)

/-- Where the precondition holds, every state of both directions is a real number. -/
theorem finite (a0 : FVec Ideal S4x4224x1024 .f32) (a1 a2 a3 : FVec Ideal S4x4224x256 .bf16) (f b : FVec Ideal S4x4224x256 .f32)
    (a6 : FVec Ideal S4x4224x1280 .f32) (a7 : FVec Ideal S1024 .f32) (a8 : FVec Ideal S64 .f32) (a9 : FVec Ideal S1024x6912 .f32)
    (a10 : FVec Ideal S4x256x1024 .f32) (a11 : FVec Ideal S1024x1024 .f32) (j : S_.Idx)
    (h : fn (F := Ideal) a0 a1 a2 a3 f b a6 a7 a8 a9 a10 a11 j = 1#1) (i : S4x4224x256.Idx) :
    (f i ≠ ⊤ ∧ f i ≠ ⊥) ∧ (b i ≠ ⊤ ∧ b i ≠ ⊥) := by
  have : Subsingleton S_.Idx := ⟨fun a b => funext fun k => k.elim0⟩
  obtain ⟨hf, hb⟩ := IntOp.andi_eq_one.1 h
  exact ⟨finite_at f i (Host.reduce_andi_all _ _ _ _ j hf i), finite_at b i (Host.reduce_andi_all _ _ _ _ j hb i)⟩

end Cert.Pre_finite_states

end
-- ==== Proof.Merge.RefRow.lean ====
/-
  What the reference of the merge computes: its one composed term, read through the gates, the un-paired attention
  branches, the recurrence's normed branch and the projection, holds at every row the row function `Model.merge`.
-/
module

public import proofs.«01_k».proof.Proof.Gen.MergeReferenceIdeal.Run
public import proofs.«01_k».proof.Proof.Ffn.RefRow
public import proofs.«01_k».proof.Proof.Merge.Model

@[expose] public section

set_option maxRecDepth 16384

noncomputable section

open Idealize.ShloMosaic Idealize.ShloMosaic.TcCoe Idealize.SL.Sem

namespace Cert.MergeReferenceIdeal.Merge
open Cert.MergeReferenceIdeal Cert.MergeReferenceIdeal.Gen Cert.MergeReferenceIdeal.Facts
open Cert.ReferenceIdeal.Ffn (normed normed_at)

/-- The four gates of every row. -/
def gates (u : FVec Ideal S4x4224x1024 .f32) (w : FVec Ideal S1024x6912 .f32) : FVec Ideal S4x4224x4x1024 .f32 :=
  shapeCast _ (Host.divf (broadcastInDim S4x4224x4096 ![] bcast_S_S4x4224x4096 (constant S_ .f32 0x3F800000#32))
    (addf (broadcastInDim S4x4224x4096 ![] bcast_S_S4x4224x4096 (constant S_ .f32 0x3F800000#32))
      (Host.exp (Host.negf (Host.dotGeneral dot_S4x4224x1024_S1024x4096_S4x4224x4096_2_0_01_1_n_n none u
        (extractStridedSlice S1024x4096 ![0, 2816] w slices_S1024x6912_S1024x4096_0_2816)))))) shapeCasts_S4x4224x4096_S4x4224x4x1024

/-- An attention branch with its heads in their own order. -/
def heads (y : FVec Ideal S4x4224x256 .bf16) : FVec Ideal S4x4224x256 .f32 :=
  shapeCast _ (transpose S4x4224x2x2x64 [0, 1, 3, 2, 4] (shapeCast _ (extf .f32 y bitsLt_bf16_f32)
    shapeCasts_S4x4224x256_S4x4224x2x2x64) transposes_S4x4224x2x2x64_S4x4224x2x2x64_0_1_3_2_4) shapeCasts_S4x4224x2x2x64_S4x4224x256

/-- The recurrence's state of every head. -/
def perHead (x : FVec Ideal S4x4224x256 .f32) : FVec Ideal S4x4224x4x64 .f32 := shapeCast _ x shapeCasts_S4x4224x256_S4x4224x4x64

/-- The norm of every head with gain `g`. -/
def normedHeads (x : FVec Ideal S4x4224x4x64 .f32) (g : FVec Ideal S64 .f32) : FVec Ideal S4x4224x4x64 .f32 :=
  mulf (mulf x (broadcastInDim S4x4224x4x64 ![0, 1, 2, 3] bcast_S4x4224x4x1_S4x4224x4x64_0_1_2_3 (Host.rsqrt (addf (Host.divf
    (broadcastInDim S4x4224x4x1 ![0, 1, 2] bcast_S4x4224x4_S4x4224x4x1_0_1_2 (Host.reduceAdd (mulf x x) (constant S_ .f32 0x00000000#32)
      reducesTo_S4x4224x4x64_S4x4224x4_d3 h_S_))
    (broadcastInDim S4x4224x4x1 ![] bcast_S_S4x4224x4x1 (constant S_ .f32 0x42800000#32)))
    (broadcastInDim S4x4224x4x1 ![] bcast_S_S4x4224x4x1 (constant S_ .f32 0x358637BD#32))))))
    (broadcastInDim S4x4224x4x64 ![0, 1, 2, 3] bcast_S1x1x1x64_S4x4224x4x64_0_1_2_3 (broadcastInDim S1x1x1x64 ![3] bcast_S64_S1x1x1x64_3 g))

/-- The recurrence's branch. -/
def state (od : FVec Ideal S4x4224x256 .f32) (g : FVec Ideal S64 .f32) (dproj : FVec Ideal S4x4224x1280 .f32) :
    FVec Ideal S4x4224x256 .f32 :=
  let d := perHead (extractStridedSlice S4x4224x256 ![0, 0, 1024] dproj slices_S4x4224x1280_S4x4224x256_0_0_1024)
  shapeCast _ (mulf (normedHeads (perHead od) g) (mulf d (Host.divf (broadcastInDim S4x4224x4x64 ![] bcast_S_S4x4224x4x64 (constant S_ .f32 0x3F800000#32))
    (addf (broadcastInDim S4x4224x4x64 ![] bcast_S_S4x4224x4x64 (constant S_ .f32 0x3F800000#32)) (Host.exp (Host.negf d))))))
    shapeCasts_S4x4224x4x64_S4x4224x256

/-- Branch `n`: its gate times its product. -/
def branch (G : FVec Ideal S4x4224x4x1024 .f32) (y : FVec Ideal S4x4224x256 .f32) (w : FVec Ideal S4x256x1024 .f32) (n : Fin 4)
    (hg : S4x4224x4x1024.Slices ![0, 0, n.val, 0] S4x4224x1x1024) (hw : S4x256x1024.Slices ![n.val, 0, 0] S1x256x1024) :
    FVec Ideal S4x4224x1024 .f32 :=
  mulf (shapeCast _ (extractStridedSlice S4x4224x1x1024 ![0, 0, n.val, 0] G hg) shapeCasts_S4x4224x1x1024_S4x4224x1024)
    (Host.dotGeneral dot_S4x4224x256_S256x1024_S4x4224x1024_2_0_01_1_n_n none y
      (shapeCast _ (extractStridedSlice S1x256x1024 ![n.val, 0, 0] w hw) shapeCasts_S1x256x1024_S256x1024))

/-- The merge of every row. -/
def merged (h : FVec Ideal S4x4224x1024 .f32) (ya yb yc : FVec Ideal S4x4224x256 .bf16) (f b : FVec Ideal S4x4224x256 .f32)
    (dproj : FVec Ideal S4x4224x1280 .f32) (g : FVec Ideal S1024 .f32) (gout : FVec Ideal S64 .f32) (win : FVec Ideal S1024x6912 .f32)
    (wb : FVec Ideal S4x256x1024 .f32) (wo : FVec Ideal S1024x1024 .f32) : FVec Ideal S4x4224x1024 .f32 :=
  addf h (Host.dotGeneral dot_S4x4224x1024_S1024x1024_S4x4224x1024_2_0_01_1_n_n none
    (addf (addf (addf
      (branch (gates (normed h g) win) (heads ya) wb 0 slices_S4x4224x4x1024_S4x4224x1x1024_0_0_0_0 slices_S4x256x1024_S1x256x1024_0_0_0)
      (branch (gates (normed h g) win) (heads yb) wb 1 slices_S4x4224x4x1024_S4x4224x1x1024_0_0_1_0 slices_S4x256x1024_S1x256x1024_1_0_0))
      (branch (gates (normed h g) win) (heads yc) wb 2 slices_S4x4224x4x1024_S4x4224x1x1024_0_0_2_0 slices_S4x256x1024_S1x256x1024_2_0_0))
      (branch (gates (normed h g) win) (state (addf f b) gout dproj) wb 3 slices_S4x4224x4x1024_S4x4224x1x1024_0_0_3_0 slices_S4x256x1024_S1x256x1024_3_0_0))
    wo)

/-- The reference's result: the rows of the four batches one after the other. -/
def result (h : FVec Ideal S4x4224x1024 .f32) (ya yb yc : FVec Ideal S4x4224x256 .bf16) (f b : FVec Ideal S4x4224x256 .f32)
    (dproj : FVec Ideal S4x4224x1280 .f32) (g : FVec Ideal S1024 .f32) (gout : FVec Ideal S64 .f32) (win : FVec Ideal S1024x6912 .f32)
    (wb : FVec Ideal S4x256x1024 .f32) (wo : FVec Ideal S1024x1024 .f32) : FVec Ideal S1x16896x1024 .f32 :=
  shapeCast _ (merged h ya yb yc f b dproj g gout win wb wo) shapeCasts_S4x4224x1024_S1x16896x1024

theorem res_eq (m : (ℓ : Loc nD τ sig) → Buf (Elt Ideal) ℓ) (c : Dev nD) :
    Value.res_out0 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := rfl

theorem gates_at (u : FVec Ideal S4x4224x1024 .f32) (w : FVec Ideal S1024x6912 .f32) (b : Fin 4) (s : Fin 4224) (n : Fin 4) (k : Fin 1024) :
    gates u w (ix4 b s n k) = Ideal.logistic (Model.row (fun k => u (ix3 b s k))
      (fun k (f : Fin 4096) => w (ix2 k ⟨2816 + f, by omega⟩)) ⟨n.val * 1024 + k, by omega⟩) := by
  pointwise [gates]
  rfl

theorem heads_at (y : FVec Ideal S4x4224x256 .bf16) (b : Fin 4) (s : Fin 4224) (j : Fin 256) :
    heads y (ix3 b s j) = y (ix3 b s (Model.pair j)) := by
  pointwise [heads]
  refine congrArg y (congrArg (ix3 b s) (Fin.ext ?_))
  simp only [Model.pair]
  omega

theorem normedHeads_at (x : FVec Ideal S4x4224x4x64 .f32) (g : FVec Ideal S64 .f32) (b : Fin 4) (s : Fin 4224) (a : Fin 4) (d : Fin 64) :
    normedHeads x g (ix4 b s a d) = x (ix4 b s a d) * Ideal.rsqrt (Ideal.div (∑ e, x (ix4 b s a e) * x (ix4 b s a e))
      (Ideal.ofBits .f32 0x42800000#32) + Ideal.ofBits .f32 0x358637BD#32) * g (ix1 d) := by
  pointwise [normedHeads]

theorem state_at (od : FVec Ideal S4x4224x256 .f32) (g : FVec Ideal S64 .f32) (dproj : FVec Ideal S4x4224x1280 .f32)
    (b : Fin 4) (s : Fin 4224) (j : Fin 256) :
    state od g dproj (ix3 b s j) = Model.headNormed (fun j => od (ix3 b s j)) (fun d => g (ix1 d))
      (fun j => dproj (ix3 b s ⟨1024 + j, by omega⟩)) j := by
  pointwise [state]
  simp only [normedHeads_at]
  pointwise [perHead]
  rfl

theorem branch_at (u : FVec Ideal S4x4224x1024 .f32) (win : FVec Ideal S1024x6912 .f32) (y : FVec Ideal S4x4224x256 .f32)
    (w : FVec Ideal S4x256x1024 .f32) (n : Fin 4)
    (hg : S4x4224x4x1024.Slices ![0, 0, n.val, 0] S4x4224x1x1024) (hw : S4x256x1024.Slices ![n.val, 0, 0] S1x256x1024)
    (b : Fin 4) (s : Fin 4224) (k : Fin 1024) :
    branch (gates u win) y w n hg hw (ix3 b s k) = Model.gated (fun k => u (ix3 b s k))
      (fun k (f : Fin 4096) => win (ix2 k ⟨2816 + f, by omega⟩)) (fun j => y (ix3 b s j)) (fun a j k => w (ix3 a j k)) n k := by
  pointwise [branch]
  rw [gates_at]
  rfl

theorem merged_at (h : FVec Ideal S4x4224x1024 .f32) (ya yb yc : FVec Ideal S4x4224x256 .bf16) (f b : FVec Ideal S4x4224x256 .f32)
    (dproj : FVec Ideal S4x4224x1280 .f32) (g : FVec Ideal S1024 .f32) (gout : FVec Ideal S64 .f32) (win : FVec Ideal S1024x6912 .f32)
    (wb : FVec Ideal S4x256x1024 .f32) (wo : FVec Ideal S1024x1024 .f32) (n : Fin 4) (s : Fin 4224) (k : Fin 1024) :
    merged h ya yb yc f b dproj g gout win wb wo (ix3 n s k)
      = Model.merge (fun k => h (ix3 n s k)) (fun k => g (ix1 k)) (fun k (f : Fin 4096) => win (ix2 k ⟨2816 + f, by omega⟩))
          (fun j => ya (ix3 n s (Model.pair j))) (fun j => yb (ix3 n s (Model.pair j))) (fun j => yc (ix3 n s (Model.pair j)))
          (Model.headNormed (fun j => f (ix3 n s j) + b (ix3 n s j)) (fun d => gout (ix1 d)) (fun j => dproj (ix3 n s ⟨1024 + j, by omega⟩)))
          (fun a j k => wb (ix3 a j k)) (fun j k => wo (ix2 j k)) k := by
  pointwise [merged]
  simp only [branch_at, normed_at, heads_at, state_at]
  rfl

/-- The reference's result at flat row `R`: row `R % 4224` of batch `R / 4224`. -/
theorem result_at (h : FVec Ideal S4x4224x1024 .f32) (ya yb yc : FVec Ideal S4x4224x256 .bf16) (f b : FVec Ideal S4x4224x256 .f32)
    (dproj : FVec Ideal S4x4224x1280 .f32) (g : FVec Ideal S1024 .f32) (gout : FVec Ideal S64 .f32) (win : FVec Ideal S1024x6912 .f32)
    (wb : FVec Ideal S4x256x1024 .f32) (wo : FVec Ideal S1024x1024 .f32) (R : Fin 16896) (k : Fin 1024) :
    result h ya yb yc f b dproj g gout win wb wo (ix3 0 R k)
      = merged h ya yb yc f b dproj g gout win wb wo (ix3 ⟨R / 4224, by omega⟩ ⟨R % 4224, by omega⟩ k) := by
  pointwise [result]

end Cert.MergeReferenceIdeal.Merge

end
-- ==== Proof.Merge.Final.lean ====
/-
  The result array of the merge kernel, when the states are finite: every entry is the row function `Model.merge` at the
  same flat row (row `R % 4224` of batch `R / 4224`), and so is the reference's.
-/
module

public import proofs.«01_k».proof.Proof.Merge.Mean
public import proofs.«01_k».proof.Proof.Merge.Finite
public import proofs.«01_k».proof.Proof.Merge.RefRow
public import proofs.«01_k».proof.Proof.Gen.MergeIdeal.Value

@[expose] public section

set_option maxRecDepth 16384

noncomputable section

open Idealize.ShloMosaic Idealize.ShloMosaic.TcCoe Idealize.SL.Sem
open Idealize.ShloMosaic.Pipeline (Dat)

namespace Cert.MergeIdeal.Merge
open Cert.MergeIdeal Cert.MergeIdeal.Gen

variable (m : (ℓ : Loc nD τ sig) → Buf (Elt Ideal) ℓ)

/-- The block each window stages at point `t`: row tile `t` (the gate's columns are the fifth block of `dproj`), and the
    whole weights. -/
theorem idx : ∀ t : Fin cfg0.N, win0_13.index t = ![0, t.val, 0]
    ∧ win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 4]
    ∧ win0_7.index t = ![0, 0]
    ∧ win0_8.index t = ![0, 0]
    ∧ win0_9.index t = ![0, 0]
    ∧ win0_10.index t = ![0, 0]
    ∧ win0_11.index t = ![0, 0, 0]
    ∧ win0_12.index t = ![0, 0] :=
  (by decide +kernel : ∀ t : Fin grid0.N, win0_13.index t = ![0, t.val, 0]
    ∧ win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 4]
    ∧ win0_7.index t = ![0, 0]
    ∧ win0_8.index t = ![0, 0]
    ∧ win0_9.index t = ![0, 0]
    ∧ win0_10.index t = ![0, 0]
    ∧ win0_11.index t = ![0, 0, 0]
    ∧ win0_12.index t = ![0, 0])

theorem N_le (t : Fin cfg0.N) : t.val < 22 := t.isLt

/-- The flat row `768 t + r`, its batch and its row in the batch. -/
abbrev flat (t : Fin cfg0.N) (r : Fin 768) : Fin 16896 := ⟨t.val * 768 + r, by have := N_le t; omega⟩
abbrev bat (R : Fin 16896) : Fin 4 := ⟨R / 4224, by omega⟩
abbrev pos (R : Fin 16896) : Fin 4224 := ⟨R % 4224, by omega⟩

/-- The blocks, at their literal types. -/
abbrev blkH (c : Dev nD) (t : Fin cfg0.N) : Vec Ideal S1x768x1024 .f32 := iblk m c 0 t
abbrev blkA (c : Dev nD) (t : Fin cfg0.N) : Vec Ideal S1x768x256 .bf16 := iblk m c 1 t
abbrev blkB (c : Dev nD) (t : Fin cfg0.N) : Vec Ideal S1x768x256 .bf16 := iblk m c 2 t
abbrev blkC (c : Dev nD) (t : Fin cfg0.N) : Vec Ideal S1x768x256 .bf16 := iblk m c 3 t
abbrev blkFs (c : Dev nD) (t : Fin cfg0.N) : Vec Ideal S1x768x256 .f32 := iblk m c 4 t
abbrev blkBs (c : Dev nD) (t : Fin cfg0.N) : Vec Ideal S1x768x256 .f32 := iblk m c 5 t
abbrev blkD (c : Dev nD) (t : Fin cfg0.N) : Vec Ideal S1x768x256 .f32 := iblk m c 6 t
abbrev blkG (c : Dev nD) (t : Fin cfg0.N) : Vec Ideal S1x1024 .f32 := iblk m c 7 t
abbrev blkGo (c : Dev nD) (t : Fin cfg0.N) : Vec Ideal S1x256 .f32 := iblk m c 8 t
abbrev blkBd (c : Dev nD) (t : Fin cfg0.N) : Vec Ideal S256x256 .bf16 := iblk m c 9 t
abbrev blkWg (c : Dev nD) (t : Fin cfg0.N) : Vec Ideal S1024x4096 .bf16 := iblk m c 10 t
abbrev blkWb (c : Dev nD) (t : Fin cfg0.N) : Vec Ideal S4x256x1024 .bf16 := iblk m c 11 t
abbrev blkWo (c : Dev nD) (t : Fin cfg0.N) : Vec Ideal S1024x1024 .bf16 := iblk m c 12 t

/-- The arguments, at their literal types. -/
abbrev argH (c : Dev nD) : FVec Ideal S4x4224x1024 .f32 := m ((c.tc : Thread nD τ).loc main_arg0)
abbrev argA (c : Dev nD) : FVec Ideal S4x4224x256 .bf16 := m ((c.tc : Thread nD τ).loc main_arg1)
abbrev argB (c : Dev nD) : FVec Ideal S4x4224x256 .bf16 := m ((c.tc : Thread nD τ).loc main_arg2)
abbrev argC (c : Dev nD) : FVec Ideal S4x4224x256 .bf16 := m ((c.tc : Thread nD τ).loc main_arg3)
abbrev argFs (c : Dev nD) : FVec Ideal S4x4224x256 .f32 := m ((c.tc : Thread nD τ).loc main_arg4)
abbrev argBs (c : Dev nD) : FVec Ideal S4x4224x256 .f32 := m ((c.tc : Thread nD τ).loc main_arg5)
abbrev argD (c : Dev nD) : FVec Ideal S4x4224x1280 .f32 := m ((c.tc : Thread nD τ).loc main_arg6)
abbrev argG (c : Dev nD) : FVec Ideal S1024 .f32 := m ((c.tc : Thread nD τ).loc main_arg7)
abbrev argGo (c : Dev nD) : FVec Ideal S64 .f32 := m ((c.tc : Thread nD τ).loc main_arg8)
abbrev argW (c : Dev nD) : FVec Ideal S1024x6912 .f32 := m ((c.tc : Thread nD τ).loc main_arg9)
abbrev argWb (c : Dev nD) : FVec Ideal S4x256x1024 .f32 := m ((c.tc : Thread nD τ).loc main_arg10)
abbrev argWo (c : Dev nD) : FVec Ideal S1024x1024 .f32 := m ((c.tc : Thread nD τ).loc main_arg11)

/-! What the host line leaves in the row arrays. -/

theorem V_H (c : Dev nD) : V m c main_v26 = shapeCast S1x16896x1024 (argH m c) shapeCasts_S4x4224x1024_S1x16896x1024 := by
  entry_read
  rfl
theorem V_A (c : Dev nD) : V m c main_v27 = shapeCast S1x16896x256 (argA m c) shapeCasts_S4x4224x256_S1x16896x256 := by
  entry_read
  rfl
theorem V_B (c : Dev nD) : V m c main_v28 = shapeCast S1x16896x256 (argB m c) shapeCasts_S4x4224x256_S1x16896x256 := by
  entry_read
  rfl
theorem V_C (c : Dev nD) : V m c main_v29 = shapeCast S1x16896x256 (argC m c) shapeCasts_S4x4224x256_S1x16896x256 := by
  entry_read
  rfl
theorem V_Fs (c : Dev nD) : V m c main_v30 = shapeCast S1x16896x256 (argFs m c) shapeCasts_S4x4224x256_S1x16896x256 := by
  entry_read
  rfl
theorem V_Bs (c : Dev nD) : V m c main_v31 = shapeCast S1x16896x256 (argBs m c) shapeCasts_S4x4224x256_S1x16896x256 := by
  entry_read
  rfl
theorem V_D (c : Dev nD) : V m c main_v32 = shapeCast S1x16896x1280 (argD m c) shapeCasts_S4x4224x1280_S1x16896x1280 := by
  entry_read
  rfl

/-! What each block holds. -/

theorem blkH_at (c : Dev nD) (t : Fin cfg0.N) (r : Fin 768) (k : Fin 1024) :
    blkH m c t (ix3 0 r k) = argH m c (ix3 (bat (flat t r)) (pos (flat t r)) k) := by
  have e := (idx t).2.1
  refine (congrArg (V m c main_v26 : FVec Ideal S1x16896x1024 .f32) (?_ : _ = ix3 0 (flat t r) k)).trans ?_
  · refine funext fun a => Fin.ext ?_
    match a with
    | ⟨0, _⟩ => show win0_0.index t 0 * 1 + 1 * 0 = 0; rw [e]; rfl
    | ⟨1, _⟩ => show win0_0.index t 1 * 768 + 1 * r.val = t.val * 768 + r; rw [e]; show t.val * 768 + 1 * r.val = _; omega
    | ⟨2, _⟩ => show win0_0.index t 2 * 1024 + 1 * k.val = k.val; rw [e]; show 0 * 1024 + 1 * k.val = _; omega
  · rw [V_H]
    pointwise
theorem blkA_at (c : Dev nD) (t : Fin cfg0.N) (r : Fin 768) (k : Fin 256) :
    blkA m c t (ix3 0 r k) = argA m c (ix3 (bat (flat t r)) (pos (flat t r)) k) := by
  have e := (idx t).2.2.1
  refine (congrArg (V m c main_v27 : FVec Ideal S1x16896x256 .bf16) (?_ : _ = ix3 0 (flat t r) k)).trans ?_
  · refine funext fun a => Fin.ext ?_
    match a with
    | ⟨0, _⟩ => show win0_1.index t 0 * 1 + 1 * 0 = 0; rw [e]; rfl
    | ⟨1, _⟩ => show win0_1.index t 1 * 768 + 1 * r.val = t.val * 768 + r; rw [e]; show t.val * 768 + 1 * r.val = _; omega
    | ⟨2, _⟩ => show win0_1.index t 2 * 256 + 1 * k.val = k.val; rw [e]; show 0 * 256 + 1 * k.val = _; omega
  · rw [V_A]
    pointwise
theorem blkB_at (c : Dev nD) (t : Fin cfg0.N) (r : Fin 768) (k : Fin 256) :
    blkB m c t (ix3 0 r k) = argB m c (ix3 (bat (flat t r)) (pos (flat t r)) k) := by
  have e := (idx t).2.2.2.1
  refine (congrArg (V m c main_v28 : FVec Ideal S1x16896x256 .bf16) (?_ : _ = ix3 0 (flat t r) k)).trans ?_
  · refine funext fun a => Fin.ext ?_
    match a with
    | ⟨0, _⟩ => show win0_2.index t 0 * 1 + 1 * 0 = 0; rw [e]; rfl
    | ⟨1, _⟩ => show win0_2.index t 1 * 768 + 1 * r.val = t.val * 768 + r; rw [e]; show t.val * 768 + 1 * r.val = _; omega
    | ⟨2, _⟩ => show win0_2.index t 2 * 256 + 1 * k.val = k.val; rw [e]; show 0 * 256 + 1 * k.val = _; omega
  · rw [V_B]
    pointwise
theorem blkC_at (c : Dev nD) (t : Fin cfg0.N) (r : Fin 768) (k : Fin 256) :
    blkC m c t (ix3 0 r k) = argC m c (ix3 (bat (flat t r)) (pos (flat t r)) k) := by
  have e := (idx t).2.2.2.2.1
  refine (congrArg (V m c main_v29 : FVec Ideal S1x16896x256 .bf16) (?_ : _ = ix3 0 (flat t r) k)).trans ?_
  · refine funext fun a => Fin.ext ?_
    match a with
    | ⟨0, _⟩ => show win0_3.index t 0 * 1 + 1 * 0 = 0; rw [e]; rfl
    | ⟨1, _⟩ => show win0_3.index t 1 * 768 + 1 * r.val = t.val * 768 + r; rw [e]; show t.val * 768 + 1 * r.val = _; omega
    | ⟨2, _⟩ => show win0_3.index t 2 * 256 + 1 * k.val = k.val; rw [e]; show 0 * 256 + 1 * k.val = _; omega
  · rw [V_C]
    pointwise
theorem blkFs_at (c : Dev nD) (t : Fin cfg0.N) (r : Fin 768) (k : Fin 256) :
    blkFs m c t (ix3 0 r k) = argFs m c (ix3 (bat (flat t r)) (pos (flat t r)) k) := by
  have e := (idx t).2.2.2.2.2.1
  refine (congrArg (V m c main_v30 : FVec Ideal S1x16896x256 .f32) (?_ : _ = ix3 0 (flat t r) k)).trans ?_
  · refine funext fun a => Fin.ext ?_
    match a with
    | ⟨0, _⟩ => show win0_4.index t 0 * 1 + 1 * 0 = 0; rw [e]; rfl
    | ⟨1, _⟩ => show win0_4.index t 1 * 768 + 1 * r.val = t.val * 768 + r; rw [e]; show t.val * 768 + 1 * r.val = _; omega
    | ⟨2, _⟩ => show win0_4.index t 2 * 256 + 1 * k.val = k.val; rw [e]; show 0 * 256 + 1 * k.val = _; omega
  · rw [V_Fs]
    pointwise
theorem blkBs_at (c : Dev nD) (t : Fin cfg0.N) (r : Fin 768) (k : Fin 256) :
    blkBs m c t (ix3 0 r k) = argBs m c (ix3 (bat (flat t r)) (pos (flat t r)) k) := by
  have e := (idx t).2.2.2.2.2.2.1
  refine (congrArg (V m c main_v31 : FVec Ideal S1x16896x256 .f32) (?_ : _ = ix3 0 (flat t r) k)).trans ?_
  · refine funext fun a => Fin.ext ?_
    match a with
    | ⟨0, _⟩ => show win0_5.index t 0 * 1 + 1 * 0 = 0; rw [e]; rfl
    | ⟨1, _⟩ => show win0_5.index t 1 * 768 + 1 * r.val = t.val * 768 + r; rw [e]; show t.val * 768 + 1 * r.val = _; omega
    | ⟨2, _⟩ => show win0_5.index t 2 * 256 + 1 * k.val = k.val; rw [e]; show 0 * 256 + 1 * k.val = _; omega
  · rw [V_Bs]
    pointwise
theorem blkD_at (c : Dev nD) (t : Fin cfg0.N) (r : Fin 768) (k : Fin 256) :
    blkD m c t (ix3 0 r k) = argD m c (ix3 (bat (flat t r)) (pos (flat t r)) ⟨1024 + k, by omega⟩) := by
  have e := (idx t).2.2.2.2.2.2.2.1
  refine (congrArg (V m c main_v32 : FVec Ideal S1x16896x1280 .f32) (?_ : _ = ix3 0 (flat t r) ⟨1024 + k, by omega⟩)).trans ?_
  · refine funext fun a => Fin.ext ?_
    match a with
    | ⟨0, _⟩ => show win0_6.index t 0 * 1 + 1 * 0 = 0; rw [e]; rfl
    | ⟨1, _⟩ => show win0_6.index t 1 * 768 + 1 * r.val = t.val * 768 + r; rw [e]; show t.val * 768 + 1 * r.val = _; omega
    | ⟨2, _⟩ => show win0_6.index t 2 * 256 + 1 * k.val = 1024 + k.val; rw [e]; show 4 * 256 + 1 * k.val = _; omega
  · rw [V_D]
    pointwise
theorem table (i j : Nat) (hi : i < 256) (hj : j < 256) :
    Scalar.select (IntOp.cmpi CmpIPredicate.eq (BitVec.ofNat 32 (i / 64)) (BitVec.ofNat 32 (j / 64))) (1 : EReal) 0
      = if i / 64 = j / 64 then 1 else 0 := by
  have e : BitVec.ofNat 32 (i / 64) = BitVec.ofNat 32 (j / 64) ↔ i / 64 = j / 64 := by
    rw [← BitVec.toNat_inj, BitVec.toNat_ofNat, BitVec.toNat_ofNat]
    omega
  by_cases h : i / 64 = j / 64
  · rw [if_pos h, h]; simp [Scalar.select, IntOp.cmpi]
  · rw [if_neg h]
    have h' := mt e.1 h
    unfold Scalar.select IntOp.cmpi
    simp only [beq_eq_false_iff_ne.2 h']
    rfl
theorem V_Bd (c : Dev nD) (i j : Fin 256) :
    (V m c main_v12 : FVec Ideal S256x256 .bf16) (ix2 i j) = same i j := by
  entry_read
  pointwise
  exact table i.val j.val (by omega) (by omega)
theorem blkBd_at (c : Dev nD) (t : Fin cfg0.N) (i j : Fin 256) :
    blkBd m c t (ix2 i j) = same i j := by
  have e := (idx t).2.2.2.2.2.2.2.2.2.2.1
  refine (congrArg (V m c main_v12 : FVec Ideal S256x256 .bf16) (?_ : _ = ix2 i j)).trans (V_Bd m c i j)
  refine funext fun a' => Fin.ext ?_
  match a' with
  | ⟨0, _⟩ => show win0_9.index t 0 * 256 + 1 * i.val = i.val; rw [e]; show 0 * 256 + 1 * i.val = _; omega
  | ⟨1, _⟩ => show win0_9.index t 1 * 256 + 1 * j.val = j.val; rw [e]; show 0 * 256 + 1 * j.val = _; omega
theorem pair_eq (j : Fin 256) (h : j.val / 64 % 2 * 128 + j.val / 128 * 64 + j.val % 64 < 256) :
    (⟨j.val / 64 % 2 * 128 + j.val / 128 * 64 + j.val % 64, h⟩ : Fin 256) = Model.pair j := by
  refine Fin.ext ?_
  show j.val / 64 % 2 * 128 + j.val / 128 * 64 + j.val % 64 = (j.val / 64 % 2 * 2 + j.val / 128) * 64 + j.val % 64
  omega
/-- The branch weights, re-paired for the three attention branches. -/
theorem picked (f : FVec Ideal S4x256x1024 .f32) (a : Fin 4) (j : Fin 256) (k : Fin 1024) :
    (if h : a.val < 3 then f (ix3 a ⟨j.val / 64 % 2 * 128 + j.val / 128 * 64 + j.val % 64, by omega⟩ k)
      else f (ix3 ⟨3 + (a.val - 3), by omega⟩ j k)) = f (ix3 a (if a.val < 3 then Model.pair j else j) k) := by
  by_cases h : a.val < 3
  · rw [dif_pos h, if_pos h, pair_eq]
  · have ha : (⟨3 + (a.val - 3), by omega⟩ : Fin 4) = a := Fin.ext (by show 3 + (a.val - 3) = a.val; omega)
    rw [dif_neg h, if_neg h, ha]
theorem V_Wb (c : Dev nD) (a : Fin 4) (j : Fin 256) (k : Fin 1024) :
    (V m c main_v19 : FVec Ideal S4x256x1024 .bf16) (ix3 a j k) = argWb m c (ix3 a (if a.val < 3 then Model.pair j else j) k) := by
  entry_read
  pointwise
  exact picked (argWb m c) a j k
theorem blkWb_at (c : Dev nD) (t : Fin cfg0.N) (a : Fin 4) (j : Fin 256) (k : Fin 1024) :
    blkWb m c t (ix3 a j k) = argWb m c (ix3 a (if a.val < 3 then Model.pair j else j) k) := by
  have e := (idx t).2.2.2.2.2.2.2.2.2.2.2.2.1
  refine (congrArg (V m c main_v19 : FVec Ideal S4x256x1024 .bf16) (?_ : _ = ix3 a j k)).trans (V_Wb m c a j k)
  refine funext fun a' => Fin.ext ?_
  match a' with
  | ⟨0, _⟩ => show win0_11.index t 0 * 4 + 1 * a.val = a.val; rw [e]; show 0 * 4 + 1 * a.val = _; omega
  | ⟨1, _⟩ => show win0_11.index t 1 * 256 + 1 * j.val = j.val; rw [e]; show 0 * 256 + 1 * j.val = _; omega
  | ⟨2, _⟩ => show win0_11.index t 2 * 1024 + 1 * k.val = k.val; rw [e]; show 0 * 1024 + 1 * k.val = _; omega
theorem V_Go (c : Dev nD) (j : Fin 256) :
    (V m c main_v23 : FVec Ideal S1x256 .f32) (ix2 0 j) = argGo m c (ix1 ⟨j.val % 64, by omega⟩) := by
  entry_read
  pointwise
theorem blkGo_at (c : Dev nD) (t : Fin cfg0.N) (j : Fin 256) :
    blkGo m c t (ix2 0 j) = argGo m c (ix1 ⟨j.val % 64, by omega⟩) := by
  have e := (idx t).2.2.2.2.2.2.2.2.2.1
  refine (congrArg (V m c main_v23 : FVec Ideal S1x256 .f32) (?_ : _ = ix2 0 j)).trans (V_Go m c j)
  refine funext fun a' => Fin.ext ?_
  match a' with
  | ⟨0, _⟩ => show win0_8.index t 0 * 1 + 1 * 0 = 0; rw [e]; rfl
  | ⟨1, _⟩ => show win0_8.index t 1 * 256 + 1 * j.val = j.val; rw [e]; show 0 * 256 + 1 * j.val = _; omega
theorem V_Wg (c : Dev nD) (k : Fin 1024) (f : Fin 4096) :
    (V m c main_v1 : FVec Ideal S1024x4096 .bf16) (ix2 k f) = argW m c (ix2 k ⟨2816 + f, by omega⟩) := by
  entry_read
  pointwise
theorem blkWg_at (c : Dev nD) (t : Fin cfg0.N) (k : Fin 1024) (f : Fin 4096) :
    blkWg m c t (ix2 k f) = argW m c (ix2 k ⟨2816 + f, by omega⟩) := by
  have e := (idx t).2.2.2.2.2.2.2.2.2.2.2.1
  refine (congrArg (V m c main_v1 : FVec Ideal S1024x4096 .bf16) (?_ : _ = ix2 k f)).trans (V_Wg m c k f)
  refine funext fun a' => Fin.ext ?_
  match a' with
  | ⟨0, _⟩ => show win0_10.index t 0 * 1024 + 1 * k.val = k.val; rw [e]; show 0 * 1024 + 1 * k.val = _; omega
  | ⟨1, _⟩ => show win0_10.index t 1 * 4096 + 1 * f.val = f.val; rw [e]; show 0 * 4096 + 1 * f.val = _; omega
theorem V_G (c : Dev nD) (k : Fin 1024) :
    (V m c main_v24 : FVec Ideal S1x1024 .f32) (ix2 0 k) = argG m c (ix1 k) := by
  entry_read
  pointwise
theorem blkG_at (c : Dev nD) (t : Fin cfg0.N) (k : Fin 1024) :
    blkG m c t (ix2 0 k) = argG m c (ix1 k) := by
  have e := (idx t).2.2.2.2.2.2.2.2.1
  refine (congrArg (V m c main_v24 : FVec Ideal S1x1024 .f32) (?_ : _ = ix2 0 k)).trans (V_G m c k)
  refine funext fun a' => Fin.ext ?_
  match a' with
  | ⟨0, _⟩ => show win0_7.index t 0 * 1 + 1 * 0 = 0; rw [e]; rfl
  | ⟨1, _⟩ => show win0_7.index t 1 * 1024 + 1 * k.val = k.val; rw [e]; show 0 * 1024 + 1 * k.val = _; omega
theorem V_Wo (c : Dev nD) (j k : Fin 1024) :
    (V m c main_v25 : FVec Ideal S1024x1024 .bf16) (ix2 j k) = argWo m c (ix2 j k) := by
  entry_read
  pointwise
theorem blkWo_at (c : Dev nD) (t : Fin cfg0.N) (j k : Fin 1024) :
    blkWo m c t (ix2 j k) = argWo m c (ix2 j k) := by
  have e := (idx t).2.2.2.2.2.2.2.2.2.2.2.2.2
  refine (congrArg (V m c main_v25 : FVec Ideal S1024x1024 .bf16) (?_ : _ = ix2 j k)).trans (V_Wo m c j k)
  refine funext fun a' => Fin.ext ?_
  match a' with
  | ⟨0, _⟩ => show win0_12.index t 0 * 1024 + 1 * j.val = j.val; rw [e]; show 0 * 1024 + 1 * j.val = _; omega
  | ⟨1, _⟩ => show win0_12.index t 1 * 1024 + 1 * k.val = k.val; rw [e]; show 0 * 1024 + 1 * k.val = _; omega

/-- What the reference computes from the kernel's arguments. -/
abbrev REF (c : Dev nD) : FVec Ideal S1x16896x1024 .f32 :=
  Cert.MergeReferenceIdeal.Merge.result (argH m c) (argA m c) (argB m c) (argC m c) (argFs m c) (argBs m c) (argD m c)
    (argG m c) (argGo m c) (argW m c) (argWb m c) (argWo m c)

/-- The states of the two directions are finite. -/
def Finite (c : Dev nD) : Prop := (∀ i, argFs m c i ≠ ⊤ ∧ argFs m c i ≠ ⊥) ∧ ∀ i, argBs m c i ≠ ⊤ ∧ argBs m c i ≠ ⊥

theorem add_finite {a b : EReal} (ha : a ≠ ⊤ ∧ a ≠ ⊥) (hb : b ≠ ⊤ ∧ b ≠ ⊥) : a + b ≠ ⊤ ∧ a + b ≠ ⊥ := by
  rw [← EReal.coe_toReal ha.1 ha.2, ← EReal.coe_toReal hb.1 hb.2, ← EReal.coe_add]
  exact ⟨EReal.coe_ne_top _, EReal.coe_ne_bot _⟩

/-- A branch's product does not see the re-pairing of its heads. -/
theorem row_pair (y : Fin 256 → EReal) (w : Fin 256 → Fin 1024 → EReal) (k : Fin 1024) :
    Model.row y (fun j k => w (Model.pair j) k) k = Model.row (fun j => y (Model.pair j)) w k := by
  unfold Model.row
  rw [← Model.sum_pair fun j => y (Model.pair j) * w j k]
  simp only [Model.pair_pair]

/-- The merge with the attention branches' weights re-paired is the merge of the re-paired branches. -/
theorem merge_pair (h g : Fin 1024 → EReal) (wgz : Fin 1024 → Fin 4096 → EReal) (ya yb yc yd : Fin 256 → EReal)
    (w : Fin 4 → Fin 256 → Fin 1024 → EReal) (wo : Fin 1024 → Fin 1024 → EReal) (k : Fin 1024) :
    Model.merge h g wgz ya yb yc yd (fun a j k => w a (if a.val < 3 then Model.pair j else j) k) wo k
      = Model.merge h g wgz (fun j => ya (Model.pair j)) (fun j => yb (Model.pair j)) (fun j => yc (Model.pair j)) yd w wo k := by
  have e : ∀ (y : Fin 256 → EReal) (n : Fin 4) (hn : n.val < 3) (k : Fin 1024),
      Model.row y ((fun a j k => w a (if a.val < 3 then Model.pair j else j) k) n) k
        = Model.row (fun j => y (Model.pair j)) (w n) k := fun y n hn k =>
    (congrArg (fun f => Model.row y f k) (funext fun j => funext fun k => by simp only [hn, if_true])).trans (row_pair y (w n) k)
  have e3 : (fun (a : Fin 4) j k => w a (if a.val < 3 then Model.pair j else j) k) 3 = w 3 := rfl
  unfold Model.merge Model.gated
  simp only [e _ 0 (by decide), e _ 1 (by decide), e _ 2 (by decide), e3]

/-- The block of point `t` at row `r` is the reference's flat row. -/
theorem point (c : Dev nD) (hf : Finite m c) (t : Fin cfg0.N) (r : Fin 768) (k : Fin 1024) :
    out0_13 (F := Ideal) (blkH m c t) (blkA m c t) (blkB m c t) (blkC m c t) (blkFs m c t) (blkBs m c t) (blkD m c t)
        (blkG m c t) (blkGo m c t) (blkBd m c t) (blkWg m c t) (blkWb m c t) (blkWo m c t) (ix3 0 r k)
      = REF m c (ix3 0 (flat t r) k) := by
  rw [out_at]
  refine Eq.trans ?_ ((Cert.MergeReferenceIdeal.Merge.result_at _ _ _ _ _ _ _ _ _ _ _ _ _ _).trans
    (Cert.MergeReferenceIdeal.Merge.merged_at _ _ _ _ _ _ _ _ _ _ _ _ _ _ _)).symm
  have hbd : mat (blkBd m c t) = same := funext fun i => funext fun j => blkBd_at m c t i j
  have hod : ∀ i : Fin 256, argFs m c (ix3 (bat (flat t r)) (pos (flat t r)) i) + argBs m c (ix3 (bat (flat t r)) (pos (flat t r)) i) ≠ ⊤
      ∧ argFs m c (ix3 (bat (flat t r)) (pos (flat t r)) i) + argBs m c (ix3 (bat (flat t r)) (pos (flat t r)) i) ≠ ⊥ :=
    fun i => add_finite (hf.1 _) (hf.2 _)
  rw [hbd]
  unfold brow yrow grow mat
  simp only [blkH_at, blkA_at, blkB_at, blkC_at, blkFs_at, blkBs_at, blkD_at, blkG_at, blkGo_at, blkWg_at, blkWo_at]
  rw [funext fun j => congrArg (fun x => (_ : EReal) * Ideal.rsqrt (x + _) * _ * _) (blockMean_eq _ hod j)]
  have hw : bmat (blkWb m c t) = fun a j k => argWb m c (ix3 a (if a.val < 3 then Model.pair j else j) k) :=
    funext fun a => funext fun j => funext fun k => blkWb_at m c t a j k
  rw [hw]
  exact merge_pair _ _ _ _ _ _ _ (fun a j k => argWb m c (ix3 a j k)) _ k

/-- After the run the result array is the reference's. -/
theorem final (c : Dev nD) (hf : Finite m c) : (dats m 0 c).arrAt 13 cfg0.N = REF m c := by
  refine (dats m 0 c).arrAt_eq_of_covers 13 _ (by decide +kernel) fun t _ y => ?_
  blk_simp
  rw [after0_13]
  have hy : y = (ix3 0 (y 1) (y 2) : S1x768x1024.Idx) := by
    funext a; match a with | ⟨0, _⟩ => exact Subsingleton.elim (α := Fin 1) _ _ | ⟨1, _⟩ => rfl | ⟨2, _⟩ => rfl
  rw [hy]
  refine (point m c hf t (y 1) (y 2)).trans (congrArg (REF m c) (funext fun a => Fin.ext ?_))
  have e := (idx t).1
  match a with
  | ⟨0, _⟩ => show 0 = win0_13.index t 0 * 1 + 1 * 0; rw [e]; rfl
  | ⟨1, _⟩ => show t.val * 768 + (y 1).val = win0_13.index t 1 * 768 + 1 * (y 1).val; rw [e]; show _ = t.val * 768 + 1 * (y 1).val; omega
  | ⟨2, _⟩ => show (y 2).val = win0_13.index t 2 * 1024 + 1 * (y 2).val; rw [e]; show _ = 0 * 1024 + 1 * (y 2).val; omega

end Cert.MergeIdeal.Merge

end
-- ==== Proof.InProj.Model.lean ====
/-
  The input projection for ONE row, over the extended reals: the norm of each query and key head, its rotation by the
  token's two positions, and the column where each entry of the first result comes from.
-/
module

public import proofs.«01_k».proof.Proof.Merge.Model

@[expose] public section

noncomputable section

open Idealize.ShloMosaic

namespace Cert.Model

/-- The norm of one head with gain `g`. -/
def headUnit (x g : Fin 64 → EReal) (d : Fin 64) : EReal :=
  x d * Ideal.rsqrt (Ideal.div (∑ e, x e * x e) (Ideal.ofBits .f32 0x42800000#32) + Ideal.ofBits .f32 0x358637BD#32) * g d

/-- Entry `part`, `half`, `f` of a head: the head's two axes come one after the other, and each axis's two parts. -/
def dim (half part : Fin 2) (f : Fin 16) : Fin 64 := ⟨half.val * 32 + part.val * 16 + f.val, by omega⟩

/-- The cosine, or sine, of axis `half` at frequency `f` is entry `half * 16 + f`. -/
def entry (half : Fin 2) (f : Fin 16) : Fin 32 := ⟨half.val * 16 + f.val, by omega⟩

/-- One part of a rotated axis. -/
def turned (y : Fin 64 → EReal) (co si : Fin 32 → EReal) (half part : Fin 2) (f : Fin 16) : EReal :=
  if part.val = 0 then y (dim half 0 f) * co (entry half f) - y (dim half 1 f) * si (entry half f)
  else y (dim half 1 f) * co (entry half f) + y (dim half 0 f) * si (entry half f)

/-- The rotation of one head. -/
def rotated (y : Fin 64 → EReal) (co si : Fin 32 → EReal) (d : Fin 64) : EReal :=
  turned y co si ⟨d.val / 32, by omega⟩ ⟨d.val / 16 % 2, by omega⟩ ⟨d.val % 16, by omega⟩

theorem rotated_dim (y : Fin 64 → EReal) (co si : Fin 32 → EReal) (half part : Fin 2) (f : Fin 16) :
    rotated y co si (dim half part f) = turned y co si half part f := by
  have h : (⟨(dim half part f).val / 32, by omega⟩ : Fin 2) = half := Fin.ext (by simp only [dim]; omega)
  have p : (⟨(dim half part f).val / 16 % 2, by omega⟩ : Fin 2) = part := Fin.ext (by simp only [dim]; omega)
  have q : (⟨(dim half part f).val % 16, by omega⟩ : Fin 16) = f := Fin.ext (by simp only [dim]; omega)
  unfold rotated
  rw [h, p, q]

/-- The angles of a token: the first sixteen entries are its row's, the others its column's. -/
def angles (r c : EReal) (fr : Fin 16 → EReal) (e : Fin 32) : EReal :=
  (if e.val < 16 then r else c) * fr ⟨e.val % 16, by omega⟩

theorem sub_parts (y : Fin 64 → EReal) (fr : Fin 16 → EReal) (r : EReal) {d d' e e' : Fin 64} {f f' : Fin 16}
    (hd : d.val = d'.val) (he : e.val = e'.val) (hf : f.val = f'.val) :
    y d * Ideal.cos (r * fr f) - y e * Ideal.sin (r * fr f) = y d' * Ideal.cos (r * fr f') - y e' * Ideal.sin (r * fr f') := by
  rw [Fin.ext hd, Fin.ext he, Fin.ext hf]

theorem add_parts (y : Fin 64 → EReal) (fr : Fin 16 → EReal) (r : EReal) {d d' e e' : Fin 64} {f f' : Fin 16}
    (hd : d.val = d'.val) (he : e.val = e'.val) (hf : f.val = f'.val) :
    y d * Ideal.cos (r * fr f) + y e * Ideal.sin (r * fr f) = y d' * Ideal.cos (r * fr f') + y e' * Ideal.sin (r * fr f') := by
  rw [Fin.ext hd, Fin.ext he, Fin.ext hf]

/-- The rotation written axis by axis and part by part. -/
theorem rotated_cases (y : Fin 64 → EReal) (r c : EReal) (fr : Fin 16 → EReal) (d : Fin 64) :
    (if h : d.val < 32 then
      if h1 : d.val < 16 then
        y d * Ideal.cos (r * fr ⟨d.val, h1⟩) - y ⟨16 + d.val, by omega⟩ * Ideal.sin (r * fr ⟨d.val, h1⟩)
      else
        y ⟨16 + (d.val - 16), by omega⟩ * Ideal.cos (r * fr ⟨d.val - 16, by omega⟩)
          + y ⟨d.val - 16, by omega⟩ * Ideal.sin (r * fr ⟨d.val - 16, by omega⟩)
    else
      if h1 : d.val - 32 < 16 then
        y ⟨32 + (d.val - 32), by omega⟩ * Ideal.cos (c * fr ⟨d.val - 32, h1⟩)
          - y ⟨32 + (16 + (d.val - 32)), by omega⟩ * Ideal.sin (c * fr ⟨d.val - 32, h1⟩)
      else
        y ⟨32 + (16 + (d.val - 32 - 16)), by omega⟩ * Ideal.cos (c * fr ⟨d.val - 32 - 16, by omega⟩)
          + y ⟨32 + (d.val - 32 - 16), by omega⟩ * Ideal.sin (c * fr ⟨d.val - 32 - 16, by omega⟩))
      = rotated y (fun e => Ideal.cos (angles r c fr e)) (fun e => Ideal.sin (angles r c fr e)) d := by
  unfold rotated turned angles entry dim
  dsimp only [Fin.isValue]
  by_cases h : d.val < 32
  · have e : d.val / 32 * 16 + d.val % 16 < 16 := by omega
    by_cases h1 : d.val < 16
    · have e1 : d.val / 16 % 2 = 0 := by omega
      rw [dif_pos h, dif_pos h1, if_pos e1, if_pos e]
      refine sub_parts y fr r ?_ ?_ ?_ <;> simp only [Fin.val_zero, Fin.val_one] <;> omega
    · have e1 : ¬ d.val / 16 % 2 = 0 := by omega
      rw [dif_pos h, dif_neg h1, if_neg e1, if_pos e]
      refine add_parts y fr r ?_ ?_ ?_ <;> simp only [Fin.val_zero, Fin.val_one] <;> omega
  · have e : ¬ d.val / 32 * 16 + d.val % 16 < 16 := by omega
    by_cases h1 : d.val - 32 < 16
    · have e1 : d.val / 16 % 2 = 0 := by omega
      rw [dif_neg h, dif_pos h1, if_pos e1, if_neg e]
      refine sub_parts y fr c ?_ ?_ ?_ <;> simp only [Fin.val_zero, Fin.val_one] <;> omega
    · have e1 : ¬ d.val / 16 % 2 = 0 := by omega
      rw [dif_neg h, dif_neg h1, if_neg e1, if_neg e]
      refine add_parts y fr c ?_ ?_ ?_ <;> simp only [Fin.val_zero, Fin.val_one] <;> omega

/-! A tile of 128 lanes holds two heads: the lane's part comes first, then its head, its axis and its frequency. -/

def laneHead (l : Fin 128) : Fin 2 := ⟨l.val / 32 % 2, by omega⟩
def laneDim (l : Fin 128) : Fin 64 := dim ⟨l.val / 16 % 2, by omega⟩ ⟨l.val / 64, by omega⟩ ⟨l.val % 16, by omega⟩

/-- One lane of a tile of two normed and rotated heads `x`. -/
def ropeLane (x : Fin 2 → Fin 64 → EReal) (g : Fin 64 → EReal) (co si : Fin 32 → EReal) (l : Fin 128) : EReal :=
  rotated (headUnit (x (laneHead l)) g) co si (laneDim l)

/-- The first result's row from the projection's row: paired and scaled queries, keys and values; rotated queries and
    keys and their values; paired and scaled queries, keys and values. -/
def qkv (p : Fin 2816 → EReal) (gq gk : Fin 64 → EReal) (co si : Fin 32 → EReal) (n : Fin 1536) : EReal :=
  if h : n.val < 256 then p ⟨pair ⟨n.val, h⟩, by omega⟩ * Ideal.ofBits .f32 0x3E38AA3B#32
  else if h : n.val < 512 then p ⟨n.val, by omega⟩
  else if h : n.val < 768 then
    ropeLane (fun a d => p ⟨512 + (a.val * 2 + (n.val - 512) / 128) * 64 + d.val, by omega⟩) gq co si ⟨(n.val - 512) % 128, by omega⟩
      * Ideal.ofBits .f32 0x3E38AA3B#32
  else if h : n.val < 896 then ropeLane (fun a d => p ⟨768 + a.val * 64 + d.val, by omega⟩) gk co si ⟨n.val - 768, by omega⟩
  else if h : n.val < 1024 then p ⟨n.val, by omega⟩
  else if h : n.val < 1280 then p ⟨1024 + pair ⟨n.val - 1024, by omega⟩, by omega⟩ * Ideal.ofBits .f32 0x3E8293EE#32
  else p ⟨n.val, by omega⟩

end Cert.Model

end
-- ==== Proof.InProj.Lane.lean ====
/-
  The kernel's tile of 128 lanes, which holds two heads: its norm, taken by a product with a 0/1 table, and its rotation,
  taken by turning the tile by half its width, are the heads' own.
-/
module

public import proofs.«01_k».proof.Proof.InProj.Model
public import proofs.«01_k».proof.Proof.Merge.Mean

@[expose] public section

noncomputable section

open Idealize.ShloMosaic

namespace Cert.Model
open Cert.MergeIdeal.Merge (ofBits_64 ofBits_64th)

/-- The tile's norm as the kernel takes it, with the table `t` and the lanes' gain `g`. -/
def laneNorm (z : Fin 128 → EReal) (t : Fin 128 → Fin 128 → EReal) (g : Fin 128 → EReal) (l : Fin 128) : EReal :=
  z l * Ideal.rsqrt (((∑ i, z i * z i * t i l) + ∑ i, (z i * z i - z i * z i) * t i l) * Ideal.ofBits .f32 0x3C800000#32
    + Ideal.ofBits .f32 0x358637BD#32) * g l

/-- The tile's rotation as the kernel takes it, with the lanes' cosines `co` and signed sines `si`. -/
def laneTurn (v co si : Fin 128 → EReal) (l : Fin 128) : EReal :=
  v l * co l + v ⟨(l.val + 64) % 128, by omega⟩ * si l

/-- The table: 1 where two lanes lie in one head. -/
def laneSame (i l : Fin 128) : EReal := if i.val / 32 % 2 = l.val / 32 % 2 then 1 else 0

/-- The lane of entry `d` of head `a`. -/
def laneOf (a : Fin 2) (d : Fin 64) : Fin 128 := ⟨d.val / 16 % 2 * 64 + a.val * 32 + d.val / 32 * 16 + d.val % 16, by omega⟩

theorem laneHead_laneOf : ∀ (a : Fin 2) (d : Fin 64), laneHead (laneOf a d) = a := by decide +kernel
theorem laneDim_laneOf : ∀ (a : Fin 2) (d : Fin 64), laneDim (laneOf a d) = d := by decide +kernel
theorem laneOf_lane : ∀ l : Fin 128, laneOf (laneHead l) (laneDim l) = l := by decide +kernel

/-- A sum against the table is the sum over the lane's head. -/
theorem sum_laneSame (f : Fin 128 → EReal) (l : Fin 128) :
    ∑ i, f i * laneSame i l = ∑ d : Fin 64, f (laneOf (laneHead l) d) := by
  simp only [laneSame, mul_ite, mul_one, mul_zero]
  rw [← Finset.sum_filter]
  refine Finset.sum_nbij' laneDim (fun d => laneOf (laneHead l) d) ?_ ?_ ?_ ?_ ?_
  · exact fun _ _ => Finset.mem_univ _
  · intro d _
    rw [Finset.mem_filter]
    exact ⟨Finset.mem_univ _, congrArg Fin.val (laneHead_laneOf (laneHead l) d)⟩
  · intro i hi
    rw [Finset.mem_filter] at hi
    have e : laneHead l = laneHead i := Fin.ext hi.2.symm
    rw [e, laneOf_lane]
  · intro d _; exact laneDim_laneOf _ d
  · intro i hi
    rw [Finset.mem_filter] at hi
    have e : laneHead l = laneHead i := Fin.ext hi.2.symm
    rw [e, laneOf_lane]

theorem real_of_finite {a : EReal} (h : a ≠ ⊤ ∧ a ≠ ⊥) : ∃ r : ℝ, a = r := ⟨a.toReal, (EReal.coe_toReal h.1 h.2).symm⟩

/-- With finite entries the tile's norm is each head's. -/
theorem laneNorm_eq (x : Fin 2 → Fin 64 → EReal) (hx : ∀ a d, ∃ r : ℝ, x a d = r) (g : Fin 64 → EReal) (l : Fin 128) :
    laneNorm (fun l => x (laneHead l) (laneDim l)) laneSame (fun l => g (laneDim l)) l
      = headUnit (x (laneHead l)) g (laneDim l) := by
  have hz : ∀ a d, x a d * x a d - x a d * x a d = 0 := fun a d => by
    obtain ⟨r, hr⟩ := hx a d
    rw [hr, ← EReal.coe_mul, ← EReal.coe_sub, sub_self, EReal.coe_zero]
  unfold laneNorm headUnit
  simp only [hz, zero_mul, Finset.sum_const_zero, add_zero]
  rw [sum_laneSame (fun i => x (laneHead i) (laneDim i) * x (laneHead i) (laneDim i))]
  simp only [laneHead_laneOf, laneDim_laneOf]
  rw [ofBits_64, ofBits_64th, Ideal.div_coe (by norm_num)]

/-- The tile's rotation is each head's. -/
theorem laneTurn_eq (y : Fin 2 → Fin 64 → EReal) (co si : Fin 32 → EReal) (l : Fin 128) :
    laneTurn (fun l => y (laneHead l) (laneDim l)) (fun l => co ⟨l.val % 32, by omega⟩)
      (fun l => if l.val < 64 then -si ⟨l.val % 32, by omega⟩ else si ⟨l.val % 32, by omega⟩) l
      = rotated (y (laneHead l)) co si (laneDim l) := by
  have hh : laneHead ⟨(l.val + 64) % 128, by omega⟩ = laneHead l := Fin.ext (by simp only [laneHead]; omega)
  have he : entry ⟨l.val / 16 % 2, by omega⟩ ⟨l.val % 16, by omega⟩ = ⟨l.val % 32, by omega⟩ :=
    Fin.ext (by simp only [entry]; omega)
  unfold laneTurn
  dsimp only
  rw [hh]
  conv_rhs => rw [laneDim, rotated_dim, turned, he]
  by_cases hl : l.val < 64
  · have h0 : l.val / 64 = 0 := by omega
    have d0 : laneDim l = dim ⟨l.val / 16 % 2, by omega⟩ 0 ⟨l.val % 16, by omega⟩ :=
      Fin.ext (by simp only [laneDim, dim, Fin.val_zero]; omega)
    have d1 : laneDim ⟨(l.val + 64) % 128, by omega⟩ = dim ⟨l.val / 16 % 2, by omega⟩ 1 ⟨l.val % 16, by omega⟩ :=
      Fin.ext (by simp only [laneDim, dim, Fin.val_one]; omega)
    rw [if_pos hl, if_pos h0, d0, d1, mul_neg, sub_eq_add_neg]
  · have h0 : ¬ l.val / 64 = 0 := by omega
    have d0 : laneDim l = dim ⟨l.val / 16 % 2, by omega⟩ 1 ⟨l.val % 16, by omega⟩ :=
      Fin.ext (by simp only [laneDim, dim, Fin.val_one]; omega)
    have d1 : laneDim ⟨(l.val + 64) % 128, by omega⟩ = dim ⟨l.val / 16 % 2, by omega⟩ 0 ⟨l.val % 16, by omega⟩ :=
      Fin.ext (by simp only [laneDim, dim, Fin.val_zero]; omega)
    rw [if_neg hl, if_neg h0, d0, d1]

/-- A tile normed and rotated as the kernel does it. -/
theorem lane_eq (x : Fin 2 → Fin 64 → EReal) (hx : ∀ a d, ∃ r : ℝ, x a d = r) (g : Fin 64 → EReal) (co si : Fin 32 → EReal)
    (l : Fin 128) :
    laneTurn (laneNorm (fun l => x (laneHead l) (laneDim l)) laneSame (fun l => g (laneDim l)))
      (fun l => co ⟨l.val % 32, by omega⟩)
      (fun l => if l.val < 64 then -si ⟨l.val % 32, by omega⟩ else si ⟨l.val % 32, by omega⟩) l = ropeLane x g co si l := by
  rw [show laneNorm (fun l => x (laneHead l) (laneDim l)) laneSame (fun l => g (laneDim l))
    = fun l => headUnit (x (laneHead l)) g (laneDim l) from funext (laneNorm_eq x hx g)]
  exact laneTurn_eq (fun a => headUnit (x a) g) co si l

/-- A scaled gain scales the rotated head. -/
theorem ropeLane_scaled (x : Fin 2 → Fin 64 → EReal) (g : Fin 64 → EReal) (co si : Fin 32 → EReal) (l : Fin 128)
    {c : EReal} (h0 : 0 ≤ c) (ht : c ≠ ⊤) :
    ropeLane x (fun d => g d * c) co si l = ropeLane x g co si l * c := by
  unfold ropeLane
  rw [show headUnit (x (laneHead l)) (fun d => g d * c) = fun d => headUnit (x (laneHead l)) g d * c from
    funext fun d => by unfold headUnit; rw [← mul_assoc]]
  unfold rotated turned
  dsimp only
  split
  · rw [sub_eq_add_neg, sub_eq_add_neg, EReal.right_distrib_of_nonneg_of_ne_top h0 ht, ← EReal.neg_mul, ← EReal.neg_mul,
      mul_right_comm _ c, EReal.neg_mul, EReal.neg_mul, EReal.neg_mul, mul_right_comm _ c]
  · rw [EReal.right_distrib_of_nonneg_of_ne_top h0 ht, mul_right_comm _ c, mul_right_comm _ c]

end Cert.Model

end
-- ==== Proof.InProj.KernelRow.lean ====
/-
  What one grid point of the input projection's kernel stores, in terms of its blocks.
-/
module

public import proofs.«01_k».proof.Proof.Gen.NextIdeal.Value
public import proofs.«01_k».proof.Proof.InProj.Lane

@[expose] public section

set_option maxRecDepth 16384

noncomputable section

open Idealize.ShloMosaic Idealize.ShloMosaic.TcCoe Idealize.SL.Sem

namespace Cert.NextIdeal.Project
open Cert.NextIdeal Cert.NextIdeal.Gen Cert.NextIdeal.Facts

variable (v0 : Vec Ideal S1x384x1024 .f32) (v2 : Vec Ideal S1x1024 .f32) (v17 : Vec Ideal S1024x1536 .bf16)
  (v20 : Vec Ideal S1x1536 .f32) (v23 : FVec Ideal S384x1536 .f32) (hs : Vec Ideal S128x128 .bf16)
  (gn : Vec Ideal S1x128 .f32) (co si : Vec Ideal S384x128 .f32)

theorem normed_at (r : Fin 384) (k : Fin 1024) :
    k0_pay1 v0 v2 (ix2 r k) = Model.rms (fun k => v0 (ix3 0 r k)) (fun k => v2 (ix2 0 k)) k := by
  pointwise [k0_pay1]; rfl

theorem acc_at (r : Fin 384) (n : Fin 1536) :
    k0_pay2 v0 v2 v17 v20 (ix2 r n)
      = Model.row (Model.rms (fun k => v0 (ix3 0 r k)) (fun k => v2 (ix2 0 k))) (fun k n => v17 (ix2 k n)) n * v20 (ix2 0 n) := by
  pointwise [k0_pay2]
  simp only [normed_at]
  rfl

theorem head_at (r : Fin 384) (n : Fin 512) :
    k0_pay3 v0 v2 v17 v20 (ix3 0 r n) = k0_pay2 v0 v2 v17 v20 (ix2 r ⟨n, by omega⟩) := by
  pointwise [k0_pay3]

theorem tile0_at (r : Fin 384) (l : Fin 128) :
    k0_pay10 (k0_pay4 v0 v2 v17 v20) (k0_pay6 hs) (k0_pay8 v0 v2 v17 v20) (k0_pay9 v0 v2 v17 v20 hs) gn co si (ix3 0 r l)
      = Model.laneTurn (Model.laneNorm (fun i => k0_pay2 v0 v2 v17 v20 (ix2 r ⟨512 + i, by omega⟩)) (fun i l => hs (ix2 i l)) (fun l => gn (ix2 0 l)))
          (fun l => co (ix2 r l)) (fun l => si (ix2 r l)) l := by
  pointwise [k0_pay10, k0_pay4, k0_pay5, k0_pay6, k0_pay7, k0_pay8, k0_pay9]
  rfl

theorem tile1_at (r : Fin 384) (l : Fin 128) :
    k0_pay13 (k0_pay11 v23) (k0_pay12 v23 hs) gn co si (ix3 0 r l)
      = Model.laneTurn (Model.laneNorm (fun i => v23 (ix2 r ⟨640 + i, by omega⟩)) (fun i l => hs (ix2 i l)) (fun l => gn (ix2 0 l)))
          (fun l => co (ix2 r l)) (fun l => si (ix2 r l)) l := by
  pointwise [k0_pay13, k0_pay11, k0_pay12]
  rfl

theorem tile2_at (r : Fin 384) (l : Fin 128) :
    k0_pay15 (k0_pay14 v23 hs gn) co si (ix3 0 r l)
      = Model.laneTurn (Model.laneNorm (fun i => v23 (ix2 r ⟨768 + i, by omega⟩)) (fun i l => hs (ix2 i l)) (fun l => gn (ix2 0 l)))
          (fun l => co (ix2 r l)) (fun l => si (ix2 r l)) l := by
  pointwise [k0_pay15, k0_pay14]
  rfl

theorem tail_at (r : Fin 384) (n : Fin 640) : k0_pay16 v23 (ix3 0 r n) = v23 (ix2 r ⟨896 + n, by omega⟩) := by
  pointwise [k0_pay16]
theorem vb_at (n : Fin 128) (r : Fin 384) : k0_pay17 v23 (ix3 0 n r) = v23 (ix2 r ⟨896 + n, by omega⟩) := by
  pointwise [k0_pay17]
theorem vc_at (n : Fin 128) (r : Fin 384) : k0_pay18 v23 (ix3 0 n r) = v23 (ix2 r ⟨1408 + n, by omega⟩) := by
  pointwise [k0_pay18]

theorem d_at (wd : Vec Ideal S1024x1280 .bf16) (r : Fin 384) (n : Fin 1280) :
    k0_pay19 (k0_pay1 v0 v2) wd (ix3 0 r n)
      = Model.row (Model.rms (fun k => v0 (ix3 0 r k)) (fun k => v2 (ix2 0 k))) (fun k n => wd (ix2 k n)) n := by
  pointwise [k0_pay19]
  simp only [normed_at]
  rfl

end Cert.NextIdeal.Project

end
-- ==== Proof.InProj.Columns.lean ====
/-
  The columns that the input projection's kernel multiplies, in the order of the first result: each is a column of the
  projection, scaled; and the first result's row from them.
-/
module

public import proofs.«01_k».proof.Proof.InProj.Lane

@[expose] public section

noncomputable section

open Idealize.ShloMosaic

namespace Cert.Model

/-- The column of the queries at lane `j % 128` of tile `j / 128`. -/
def queryCol (j : Fin 256) : Fin 256 :=
  ⟨((laneHead ⟨j.val % 128, by omega⟩).val * 2 + j.val / 128) * 64 + (laneDim ⟨j.val % 128, by omega⟩).val, by omega⟩
/-- The column of the keys at lane `j`. -/
def keyCol (j : Fin 128) : Fin 128 := ⟨(laneHead j).val * 64 + (laneDim j).val, by omega⟩

/-! These indices as the transposed arrays' places give them. -/

theorem pair_val : ∀ j : Fin 256, j.val / 64 % 2 * 128 + j.val / 128 * 64 + j.val % 64 = (pair j).val := by decide +kernel
theorem queryCol_val : ∀ j : Fin 256,
    j.val / 32 % 2 * 128 + j.val / 128 * 64 + j.val / 16 % 2 * 32 + j.val / 64 % 2 * 16 + j.val % 16 = (queryCol j).val := by decide +kernel
theorem keyCol_val : ∀ j : Fin 128, j.val / 32 % 2 * 64 + j.val / 16 % 2 * 32 + j.val / 64 * 16 + j.val % 16 = (keyCol j).val := by
  decide +kernel
theorem laneDim_val : ∀ l : Fin 128, l.val % 32 / 16 * 32 + l.val / 64 * 16 + l.val % 32 % 16 = (laneDim l).val := by decide +kernel

/-- The comparison of two lanes' heads. -/
theorem select_laneSame (i l : Fin 128) :
    Scalar.select (IntOp.cmpi CmpIPredicate.eq (BitVec.ofNat 32 (i.val / 32 % 2)) (BitVec.ofNat 32 (l.val / 32 % 2))) (1 : EReal) 0
      = laneSame i l := by
  have e : BitVec.ofNat 32 (i.val / 32 % 2) = BitVec.ofNat 32 (l.val / 32 % 2) ↔ i.val / 32 % 2 = l.val / 32 % 2 := by
    rw [← BitVec.toNat_inj, BitVec.toNat_ofNat, BitVec.toNat_ofNat]
    omega
  unfold laneSame
  by_cases h : i.val / 32 % 2 = l.val / 32 % 2
  · rw [if_pos h, h]; simp [Scalar.select, IntOp.cmpi]
  · rw [if_neg h]
    have h' := mt e.1 h
    unfold Scalar.select IntOp.cmpi
    simp only [beq_eq_false_iff_ne.2 h']
    rfl

/-- The projection's column that is column `n` of the kernel's product. -/
def col (n : Fin 1536) : Fin 2816 :=
  if h : n.val < 256 then ⟨pair ⟨n.val, h⟩, by omega⟩
  else if h : n.val < 512 then ⟨n.val, by omega⟩
  else if h : n.val < 768 then ⟨512 + queryCol ⟨n.val - 512, by omega⟩, by omega⟩
  else if h : n.val < 896 then ⟨768 + keyCol ⟨n.val - 768, by omega⟩, by omega⟩
  else if h : n.val < 1024 then ⟨n.val, by omega⟩
  else if h : n.val < 1280 then ⟨1024 + pair ⟨n.val - 1024, by omega⟩, by omega⟩
  else ⟨n.val, by omega⟩

/-- The scale of column `n`. -/
def scale (n : Fin 1536) : EReal :=
  if n.val < 256 then Ideal.ofBits .f32 0x3E38AA3B#32
  else if n.val < 1024 then 1
  else if n.val < 1280 then Ideal.ofBits .f32 0x3E8293EE#32
  else 1

/-- The kernel's scaled product. -/
def scaled (p : Fin 2816 → EReal) (n : Fin 1536) : EReal := p (col n) * scale n

theorem ofBits_one : Ideal.ofBits .f32 0x3F800000#32 = 1 := by
  simp [Ideal.ofBits, Ideal.ieee, -EReal.coe_mul]; norm_num

theorem ofBits_queries : 0 ≤ Ideal.ofBits .f32 0x3E38AA3B#32 ∧ Ideal.ofBits .f32 0x3E38AA3B#32 ≠ ⊤ := by
  have h : ∃ r : ℝ, 0 ≤ r ∧ Ideal.ofBits .f32 0x3E38AA3B#32 = r := by
    refine ⟨_, ?_, by simp [Ideal.ofBits, Ideal.ieee, -EReal.coe_mul]; rfl⟩
    norm_num
  obtain ⟨r, h0, h⟩ := h
  rw [h]
  exact ⟨EReal.coe_nonneg.2 h0, EReal.coe_ne_top r⟩

variable (p : Fin 2816 → EReal) (gq gk : Fin 64 → EReal) (co si : Fin 32 → EReal)

/-- The columns that the kernel stores as they are. -/
theorem qkv_plain (n : Fin 1536) (h : n.val < 512 ∨ 896 ≤ n.val) : scaled p n = qkv p gq gk co si n := by
  unfold scaled qkv scale col
  by_cases h0 : n.val < 256
  · simp only [h0, dif_pos, if_true]
  by_cases h1 : n.val < 512
  · have : n.val < 1024 := by omega
    simp only [h0, h1, this, dif_pos, dif_neg, not_false_eq_true, if_true, if_false, mul_one]
  have h2 : ¬ n.val < 768 := by omega
  have h3 : ¬ n.val < 896 := by omega
  by_cases h4 : n.val < 1024
  · simp only [h0, h1, h2, h3, h4, dif_pos, dif_neg, not_false_eq_true, if_true, if_false, mul_one]
  by_cases h5 : n.val < 1280
  · simp only [h0, h1, h2, h3, h4, h5, dif_pos, dif_neg, not_false_eq_true, if_true, if_false]
  · simp only [h0, h1, h2, h3, h4, h5, dif_neg, not_false_eq_true, if_false, mul_one]

variable (hp : ∀ n, ∃ r : ℝ, p n = r)
include hp

/-- A tile of rotated queries. -/
theorem qkv_query (t : Fin 2) (l : Fin 128) :
    laneTurn (laneNorm (fun i => scaled p ⟨512 + t.val * 128 + i.val, by omega⟩) laneSame (fun l => gq (laneDim l) * Ideal.ofBits .f32 0x3E38AA3B#32))
      (fun l => co ⟨l.val % 32, by omega⟩)
      (fun l => if l.val < 64 then -si ⟨l.val % 32, by omega⟩ else si ⟨l.val % 32, by omega⟩) l
      = qkv p gq gk co si ⟨512 + t.val * 128 + l.val, by omega⟩ := by
  have e : (fun i : Fin 128 => scaled p ⟨512 + t.val * 128 + i.val, by omega⟩)
      = fun i => p ⟨512 + ((laneHead i).val * 2 + t.val) * 64 + (laneDim i).val, by omega⟩ := by
    funext i
    have a0 : ¬ 512 + t.val * 128 + i.val < 256 := by omega
    have a1 : ¬ 512 + t.val * 128 + i.val < 512 := by omega
    have a2 : 512 + t.val * 128 + i.val < 768 := by omega
    have a3 : 512 + t.val * 128 + i.val < 1024 := by omega
    have b : (512 + t.val * 128 + i.val - 512) % 128 = i.val := by omega
    have b' : (512 + t.val * 128 + i.val - 512) / 128 = t.val := by omega
    unfold scaled scale col queryCol
    simp only [a0, a1, a2, a3, b, b', dif_pos, dif_neg, not_false_eq_true, if_true, if_false, mul_one]
    exact congrArg p (Fin.ext (by simp only [b, b', Fin.eta]; omega))
  rw [e, lane_eq (fun a d => p ⟨512 + (a.val * 2 + t.val) * 64 + d.val, by omega⟩) (fun a d => hp _) (fun d => gq d * Ideal.ofBits .f32 0x3E38AA3B#32) co si l,
    ropeLane_scaled _ gq co si l ofBits_queries.1 ofBits_queries.2]
  have a0 : ¬ 512 + t.val * 128 + l.val < 256 := by omega
  have a1 : ¬ 512 + t.val * 128 + l.val < 512 := by omega
  have a2 : 512 + t.val * 128 + l.val < 768 := by omega
  have b : (512 + t.val * 128 + l.val - 512) % 128 = l.val := by omega
  have b' : (512 + t.val * 128 + l.val - 512) / 128 = t.val := by omega
  unfold qkv
  simp only [a0, a1, a2, b, b', dif_pos, dif_neg, not_false_eq_true]

/-- The tile of rotated keys. -/
theorem qkv_key (l : Fin 128) :
    laneTurn (laneNorm (fun i => scaled p ⟨768 + i.val, by omega⟩) laneSame (fun l => gk (laneDim l)))
      (fun l => co ⟨l.val % 32, by omega⟩)
      (fun l => if l.val < 64 then -si ⟨l.val % 32, by omega⟩ else si ⟨l.val % 32, by omega⟩) l
      = qkv p gq gk co si ⟨768 + l.val, by omega⟩ := by
  have e : (fun i : Fin 128 => scaled p ⟨768 + i.val, by omega⟩)
      = fun i => p ⟨768 + (laneHead i).val * 64 + (laneDim i).val, by omega⟩ := by
    funext i
    have a0 : ¬ 768 + i.val < 256 := by omega
    have a1 : ¬ 768 + i.val < 512 := by omega
    have a2 : ¬ 768 + i.val < 768 := by omega
    have a3 : 768 + i.val < 896 := by omega
    have a4 : 768 + i.val < 1024 := by omega
    have b : 768 + i.val - 768 = i.val := by omega
    unfold scaled scale col keyCol
    simp only [a0, a1, a2, a3, a4, b, dif_pos, dif_neg, not_false_eq_true, if_true, if_false, mul_one]
    exact congrArg p (Fin.ext (by simp only [b, Fin.eta]; omega))
  rw [e, lane_eq (fun a d => p ⟨768 + a.val * 64 + d.val, by omega⟩) (fun a d => hp _) gk co si l]
  have a0 : ¬ 768 + l.val < 256 := by omega
  have a1 : ¬ 768 + l.val < 512 := by omega
  have a2 : ¬ 768 + l.val < 768 := by omega
  have a3 : 768 + l.val < 896 := by omega
  have b : 768 + l.val - 768 = l.val := by omega
  unfold qkv
  simp only [a0, a1, a2, a3, b, dif_pos, dif_neg, not_false_eq_true]

end Cert.Model

end
-- ==== Proof.InProj.Ref.lean ====
/-
  What the reference of the input projection computes: its composed terms, named piece by piece, and what each piece
  holds at every row.
-/
module

public import proofs.«01_k».proof.Proof.Gen.NextReferenceIdeal.Run
public import proofs.«01_k».proof.Proof.Ffn.RefRow
public import proofs.«01_k».proof.Proof.InProj.Model

@[expose] public section

set_option maxRecDepth 16384

noncomputable section

open Idealize.ShloMosaic Idealize.ShloMosaic.TcCoe Idealize.SL.Sem

namespace Cert.NextReferenceIdeal.Project
open Cert.NextReferenceIdeal Cert.NextReferenceIdeal.Gen Cert.NextReferenceIdeal.Facts

/-- The row position of every token: 0 for the padding, -1 for the meta tokens, the grid's row for the rest. -/
def posRow : FVec Ideal S4224 .f32 :=
  sitofp .f32 (concatenate S4224 0 [⟨S112, broadcastInDim S112 ![] bcast_S_S112 (constantI S_ 32 0#32)⟩, ⟨S16, negi (broadcastInDim S16 ![] bcast_S_S16 (constantI S_ 32 1#32))⟩, ⟨S4096, shapeCast _ (broadcastInDim S64x64 ![0] bcast_S64_S64x64_0 (iotaInDim S64 32 0)) shapeCasts_S64x64_S4096⟩] concatenates_S112_S16_S4096_S4224_d0)

/-- The column position of every token: 0 for the padding, the meta token's number, the grid's column for the rest. -/
def posCol : FVec Ideal S4224 .f32 :=
  sitofp .f32 (concatenate S4224 0 [⟨S112, broadcastInDim S112 ![] bcast_S_S112 (constantI S_ 32 0#32)⟩, ⟨S16, iotaInDim S16 32 0⟩, ⟨S4096, shapeCast _ (broadcastInDim S64x64 ![0, 1] bcast_S1x64_S64x64_0_1 (shapeCast _ (iotaInDim S64 32 0) shapeCasts_S64_S1x64)) shapeCasts_S64x64_S4096⟩] concatenates_S112_S16_S4096_S4224_d0)

/-- The sixteen frequencies. -/
def freq : FVec Ideal S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- The angles of one position. -/
def angle (p : FVec Ideal S4224 .f32) : FVec Ideal S4224x16 .f32 :=
  mulf (broadcastInDim S4224x16 ![0, 1] bcast_S4224x1_S4224x16_0_1 (broadcastInDim S4224x1 ![0] bcast_S4224_S4224x1_0 p)) (broadcastInDim S4224x16 ![0, 1] bcast_S1x16_S4224x16_0_1 (broadcastInDim S1x16 ![1] bcast_S16_S1x16_1 freq))

/-- An array of one value per token and frequency, seen by every batch and head. -/
def lift (x : FVec Ideal S4224x16 .f32) : FVec Ideal S1x4224x1x16 .f32 :=
  broadcastInDim S1x4224x1x16 ![1, 2, 3] bcast_S4224x1x16_S1x4224x1x16_1_2_3 (broadcastInDim S4224x1x16 ![0, 2] bcast_S4224x16_S4224x1x16_0_2 x)

/-- The projection of every normed row. -/
def proj (h : FVec Ideal S4x4224x1024 .f32) (g : FVec Ideal S1024 .f32) (w : FVec Ideal S1024x6912 .f32) : FVec Ideal S4x4224x2816 .f32 :=
  Host.dotGeneral dot_S4x4224x1024_S1024x2816_S4x4224x2816_2_0_01_1_n_n none (Cert.ReferenceIdeal.Ffn.normed h g) (extractStridedSlice S1024x2816 ![0, 0] w slices_S1024x6912_S1024x2816_0_0)

/-- Four heads stored pair by pair, scaled. -/
def paired (x : FVec Ideal S4x4224x256 .f32) (s : BitVec 32) : FVec Ideal S4x4224x256 .f32 :=
  mulf (shapeCast _ (transpose S4x4224x2x2x64 [0, 1, 3, 2, 4] (shapeCast _ (shapeCast _ x shapeCasts_S4x4224x256_S4x4224x4x64) shapeCasts_S4x4224x4x64_S4x4224x2x2x64) transposes_S4x4224x2x2x64_S4x4224x2x2x64_0_1_3_2_4) shapeCasts_S4x4224x2x2x64_S4x4224x256) (broadcastInDim S4x4224x256 ![] bcast_S_S4x4224x256 (constant S_ .f32 s))

/-- The norm of every one of 4 heads with gain `g`. -/
def headNorm4 (x : FVec Ideal S4x4224x4x64 .f32) (g : FVec Ideal S64 .f32) : FVec Ideal S4x4224x4x64 .f32 :=
  mulf (mulf x (broadcastInDim S4x4224x4x64 ![0, 1, 2, 3] bcast_S4x4224x4x1_S4x4224x4x64_0_1_2_3 (Host.rsqrt (addf (Host.divf (broadcastInDim S4x4224x4x1 ![0, 1, 2] bcast_S4x4224x4_S4x4224x4x1_0_1_2 (Host.reduceAdd (mulf x x) (constant S_ .f32 0x00000000#32) reducesTo_S4x4224x4x64_S4x4224x4_d3 h_S_)) (broadcastInDim S4x4224x4x1 ![] bcast_S_S4x4224x4x1 (constant S_ .f32 0x42800000#32))) (broadcastInDim S4x4224x4x1 ![] bcast_S_S4x4224x4x1 (constant S_ .f32 0x358637BD#32)))))) (broadcastInDim S4x4224x4x64 ![0, 1, 2, 3] bcast_S1x1x1x64_S4x4224x4x64_0_1_2_3 (broadcastInDim S1x1x1x64 ![3] bcast_S64_S1x1x1x64_3 g))

/-- The two rotated parts of one axis of 4 heads. -/
def rotate4 (x : FVec Ideal S4x4224x4x32 .f32) (a : FVec Ideal S4224x16 .f32) : FVec Ideal S4x4224x4x32 .f32 :=
  concatenate S4x4224x4x32 3 [⟨S4x4224x4x16, subf (mulf (extractStridedSlice S4x4224x4x16 ![0, 0, 0, 0] x slices_S4x4224x4x32_S4x4224x4x16_0_0_0_0) (broadcastInDim S4x4224x4x16 ![0, 1, 2, 3] bcast_S1x4224x1x16_S4x4224x4x16_0_1_2_3 (lift (Host.cos a)))) (mulf (extractStridedSlice S4x4224x4x16 ![0, 0, 0, 16] x slices_S4x4224x4x32_S4x4224x4x16_0_0_0_16) (broadcastInDim S4x4224x4x16 ![0, 1, 2, 3] bcast_S1x4224x1x16_S4x4224x4x16_0_1_2_3 (lift (Host.sin a))))⟩, ⟨S4x4224x4x16, addf (mulf (extractStridedSlice S4x4224x4x16 ![0, 0, 0, 16] x slices_S4x4224x4x32_S4x4224x4x16_0_0_0_16) (broadcastInDim S4x4224x4x16 ![0, 1, 2, 3] bcast_S1x4224x1x16_S4x4224x4x16_0_1_2_3 (lift (Host.cos a)))) (mulf (extractStridedSlice S4x4224x4x16 ![0, 0, 0, 0] x slices_S4x4224x4x32_S4x4224x4x16_0_0_0_0) (broadcastInDim S4x4224x4x16 ![0, 1, 2, 3] bcast_S1x4224x1x16_S4x4224x4x16_0_1_2_3 (lift (Host.sin a))))⟩] concatenates_S4x4224x4x16_S4x4224x4x16_S4x4224x4x32_d3

/-- The rotation of 4 heads by their tokens' two positions. -/
def axial4 (x : FVec Ideal S4x4224x4x64 .f32) : FVec Ideal S4x4224x4x64 .f32 :=
  concatenate S4x4224x4x64 3 [⟨S4x4224x4x32, rotate4 (extractStridedSlice S4x4224x4x32 ![0, 0, 0, 0] x slices_S4x4224x4x64_S4x4224x4x32_0_0_0_0) (angle posRow)⟩, ⟨S4x4224x4x32, rotate4 (extractStridedSlice S4x4224x4x32 ![0, 0, 0, 32] x slices_S4x4224x4x64_S4x4224x4x32_0_0_0_32) (angle posCol)⟩] concatenates_S4x4224x4x32_S4x4224x4x32_S4x4224x4x64_d3

/-- The norm of every one of 2 heads with gain `g`. -/
def headNorm2 (x : FVec Ideal S4x4224x2x64 .f32) (g : FVec Ideal S64 .f32) : FVec Ideal S4x4224x2x64 .f32 :=
  mulf (mulf x (broadcastInDim S4x4224x2x64 ![0, 1, 2, 3] bcast_S4x4224x2x1_S4x4224x2x64_0_1_2_3 (Host.rsqrt (addf (Host.divf (broadcastInDim S4x4224x2x1 ![0, 1, 2] bcast_S4x4224x2_S4x4224x2x1_0_1_2 (Host.reduceAdd (mulf x x) (constant S_ .f32 0x00000000#32) reducesTo_S4x4224x2x64_S4x4224x2_d3 h_S_)) (broadcastInDim S4x4224x2x1 ![] bcast_S_S4x4224x2x1 (constant S_ .f32 0x42800000#32))) (broadcastInDim S4x4224x2x1 ![] bcast_S_S4x4224x2x1 (constant S_ .f32 0x358637BD#32)))))) (broadcastInDim S4x4224x2x64 ![0, 1, 2, 3] bcast_S1x1x1x64_S4x4224x2x64_0_1_2_3 (broadcastInDim S1x1x1x64 ![3] bcast_S64_S1x1x1x64_3 g))

/-- The two rotated parts of one axis of 2 heads. -/
def rotate2 (x : FVec Ideal S4x4224x2x32 .f32) (a : FVec Ideal S4224x16 .f32) : FVec Ideal S4x4224x2x32 .f32 :=
  concatenate S4x4224x2x32 3 [⟨S4x4224x2x16, subf (mulf (extractStridedSlice S4x4224x2x16 ![0, 0, 0, 0] x slices_S4x4224x2x32_S4x4224x2x16_0_0_0_0) (broadcastInDim S4x4224x2x16 ![0, 1, 2, 3] bcast_S1x4224x1x16_S4x4224x2x16_0_1_2_3 (lift (Host.cos a)))) (mulf (extractStridedSlice S4x4224x2x16 ![0, 0, 0, 16] x slices_S4x4224x2x32_S4x4224x2x16_0_0_0_16) (broadcastInDim S4x4224x2x16 ![0, 1, 2, 3] bcast_S1x4224x1x16_S4x4224x2x16_0_1_2_3 (lift (Host.sin a))))⟩, ⟨S4x4224x2x16, addf (mulf (extractStridedSlice S4x4224x2x16 ![0, 0, 0, 16] x slices_S4x4224x2x32_S4x4224x2x16_0_0_0_16) (broadcastInDim S4x4224x2x16 ![0, 1, 2, 3] bcast_S1x4224x1x16_S4x4224x2x16_0_1_2_3 (lift (Host.cos a)))) (mulf (extractStridedSlice S4x4224x2x16 ![0, 0, 0, 0] x slices_S4x4224x2x32_S4x4224x2x16_0_0_0_0) (broadcastInDim S4x4224x2x16 ![0, 1, 2, 3] bcast_S1x4224x1x16_S4x4224x2x16_0_1_2_3 (lift (Host.sin a))))⟩] concatenates_S4x4224x2x16_S4x4224x2x16_S4x4224x2x32_d3

/-- The rotation of 2 heads by their tokens' two positions. -/
def axial2 (x : FVec Ideal S4x4224x2x64 .f32) : FVec Ideal S4x4224x2x64 .f32 :=
  concatenate S4x4224x2x64 3 [⟨S4x4224x2x32, rotate2 (extractStridedSlice S4x4224x2x32 ![0, 0, 0, 0] x slices_S4x4224x2x64_S4x4224x2x32_0_0_0_0) (angle posRow)⟩, ⟨S4x4224x2x32, rotate2 (extractStridedSlice S4x4224x2x32 ![0, 0, 0, 32] x slices_S4x4224x2x64_S4x4224x2x32_0_0_0_32) (angle posCol)⟩] concatenates_S4x4224x2x32_S4x4224x2x32_S4x4224x2x64_d3

/-- The rotated queries, their parts apart. -/
def ropeQ (p : FVec Ideal S4x4224x2816 .f32) (g : FVec Ideal S64 .f32) : FVec Ideal S4x4224x256 .f32 :=
  shapeCast _ (transpose S4x4224x2x2x2x2x16 [0, 1, 3, 5, 2, 4, 6] (shapeCast _ (mulf (axial4 (headNorm4 (shapeCast _ (extractStridedSlice S4x4224x256 ![0, 0, 512] p slices_S4x4224x2816_S4x4224x256_0_0_512) shapeCasts_S4x4224x256_S4x4224x4x64) g)) (broadcastInDim S4x4224x4x64 ![] bcast_S_S4x4224x4x64 (constant S_ .f32 0x3E38AA3B#32))) shapeCasts_S4x4224x4x64_S4x4224x2x2x2x2x16) transposes_S4x4224x2x2x2x2x16_S4x4224x2x2x2x2x16_0_1_3_5_2_4_6) shapeCasts_S4x4224x2x2x2x2x16_S4x4224x256

/-- The rotated keys, their parts apart. -/
def ropeK (p : FVec Ideal S4x4224x2816 .f32) (g : FVec Ideal S64 .f32) : FVec Ideal S4x4224x128 .f32 :=
  shapeCast _ (transpose S4x4224x1x2x2x2x16 [0, 1, 3, 5, 2, 4, 6] (shapeCast _ (axial2 (headNorm2 (shapeCast _ (extractStridedSlice S4x4224x128 ![0, 0, 768] p slices_S4x4224x2816_S4x4224x128_0_0_768) shapeCasts_S4x4224x128_S4x4224x2x64) g)) shapeCasts_S4x4224x2x64_S4x4224x2x1x2x2x16) transposes_S4x4224x2x1x2x2x16_S4x4224x1x2x2x2x16_0_1_3_5_2_4_6) shapeCasts_S4x4224x1x2x2x2x16_S4x4224x128

/-- The first result, from the projection. -/
def qkv (p : FVec Ideal S4x4224x2816 .f32) (gq gk : FVec Ideal S64 .f32) : FVec Ideal S4x4224x1536 .f32 :=
  concatenate S4x4224x1536 2 [⟨S4x4224x256, paired (extractStridedSlice S4x4224x256 ![0, 0, 0] p slices_S4x4224x2816_S4x4224x256_0_0_0) 0x3E38AA3B#32⟩, ⟨S4x4224x256, extractStridedSlice S4x4224x256 ![0, 0, 256] p slices_S4x4224x2816_S4x4224x256_0_0_256⟩, ⟨S4x4224x256, ropeQ p gq⟩, ⟨S4x4224x128, ropeK p gk⟩, ⟨S4x4224x128, extractStridedSlice S4x4224x128 ![0, 0, 896] p slices_S4x4224x2816_S4x4224x128_0_0_896⟩, ⟨S4x4224x256, paired (extractStridedSlice S4x4224x256 ![0, 0, 1024] p slices_S4x4224x2816_S4x4224x256_0_0_1024) 0x3E8293EE#32⟩, ⟨S4x4224x256, extractStridedSlice S4x4224x256 ![0, 0, 1280] p slices_S4x4224x2816_S4x4224x256_0_0_1280⟩] concatenates_S4x4224x256_S4x4224x256_S4x4224x256_S4x4224x128_S4x4224x128_S4x4224x256_S4x4224x256_S4x4224x1536_d2

/-! The four results. -/

def outQkv (h : FVec Ideal S4x4224x1024 .f32) (g : FVec Ideal S1024 .f32) (w : FVec Ideal S1024x6912 .f32) (gq gk : FVec Ideal S64 .f32) : FVec Ideal S4x4224x1536 .bf16 :=
  truncf .bf16 (qkv (proj h g w) gq gk) bitsLt_bf16_f32
def outD (h : FVec Ideal S4x4224x1024 .f32) (g : FVec Ideal S1024 .f32) (w : FVec Ideal S1024x6912 .f32) : FVec Ideal S4x4224x1280 .f32 :=
  extractStridedSlice S4x4224x1280 ![0, 0, 1536] (proj h g w) slices_S4x4224x2816_S4x4224x1280_0_0_1536
def outVb (h : FVec Ideal S4x4224x1024 .f32) (g : FVec Ideal S1024 .f32) (w : FVec Ideal S1024x6912 .f32) : FVec Ideal S4x128x4224 .bf16 :=
  truncf .bf16 (transpose S4x128x4224 [0, 2, 1] (extractStridedSlice S4x4224x128 ![0, 0, 896] (proj h g w) slices_S4x4224x2816_S4x4224x128_0_0_896) transposes_S4x4224x128_S4x128x4224_0_2_1) bitsLt_bf16_f32
def outVc (h : FVec Ideal S4x4224x1024 .f32) (g : FVec Ideal S1024 .f32) (w : FVec Ideal S1024x6912 .f32) : FVec Ideal S4x128x4224 .bf16 :=
  truncf .bf16 (transpose S4x128x4224 [0, 2, 1] (extractStridedSlice S4x4224x128 ![0, 0, 1408] (proj h g w) slices_S4x4224x2816_S4x4224x128_0_0_1408) transposes_S4x4224x128_S4x128x4224_0_2_1) bitsLt_bf16_f32

theorem proj_at (h : FVec Ideal S4x4224x1024 .f32) (g : FVec Ideal S1024 .f32) (w : FVec Ideal S1024x6912 .f32) (b : Fin 4) (s : Fin 4224) (n : Fin 2816) :
    proj h g w (ix3 b s n) = Model.row (Model.rms (fun k => h (ix3 b s k)) (fun k => g (ix1 k)))
      (fun k (n : Fin 2816) => w (ix2 k ⟨n, by omega⟩)) n := by
  pointwise [proj]
  simp only [Cert.ReferenceIdeal.Ffn.normed_at]
  rfl

theorem paired_at (x : FVec Ideal S4x4224x256 .f32) (c : BitVec 32) (b : Fin 4) (s : Fin 4224) (j : Fin 256) :
    paired x c (ix3 b s j) = x (ix3 b s (Model.pair j)) * Ideal.ofBits .f32 c := by
  pointwise [paired]
  refine congrArg (· * _) (congrArg x (congrArg (ix3 b s) (Fin.ext ?_)))
  simp only [Model.pair]
  omega

/-- The angles of token `s`. -/
def ang (s : Fin 4224) (e : Fin 32) : EReal := Model.angles (posRow (ix1 s)) (posCol (ix1 s)) (fun f => freq (ix1 f)) e

theorem headNorm4_at (x : FVec Ideal S4x4224x4x64 .f32) (g : FVec Ideal S64 .f32) (b : Fin 4) (s : Fin 4224) (a : Fin 4) (d : Fin 64) :
    headNorm4 x g (ix4 b s a d) = Model.headUnit (fun d => x (ix4 b s a d)) (fun d => g (ix1 d)) d := by
  pointwise [headNorm4]
  rfl

theorem axial4_at (x : FVec Ideal S4x4224x4x64 .f32) (b : Fin 4) (s : Fin 4224) (a : Fin 4) (d : Fin 64) :
    axial4 x (ix4 b s a d) = Model.rotated (fun d => x (ix4 b s a d)) (fun e => Ideal.cos (ang s e)) (fun e => Ideal.sin (ang s e)) d := by
  pointwise [axial4, rotate4, lift, angle]
  exact Model.rotated_cases (fun d => x (ix4 b s a d)) (posRow (ix1 s)) (posCol (ix1 s)) (fun f => freq (ix1 f)) d

theorem headNorm2_at (x : FVec Ideal S4x4224x2x64 .f32) (g : FVec Ideal S64 .f32) (b : Fin 4) (s : Fin 4224) (a : Fin 2) (d : Fin 64) :
    headNorm2 x g (ix4 b s a d) = Model.headUnit (fun d => x (ix4 b s a d)) (fun d => g (ix1 d)) d := by
  pointwise [headNorm2]
  rfl

theorem axial2_at (x : FVec Ideal S4x4224x2x64 .f32) (b : Fin 4) (s : Fin 4224) (a : Fin 2) (d : Fin 64) :
    axial2 x (ix4 b s a d) = Model.rotated (fun d => x (ix4 b s a d)) (fun e => Ideal.cos (ang s e)) (fun e => Ideal.sin (ang s e)) d := by
  pointwise [axial2, rotate2, lift, angle]
  exact Model.rotated_cases (fun d => x (ix4 b s a d)) (posRow (ix1 s)) (posCol (ix1 s)) (fun f => freq (ix1 f)) d

theorem headsQ_at (p : FVec Ideal S4x4224x2816 .f32) (b : Fin 4) (s : Fin 4224) (a : Fin 4) (d : Fin 64) :
    shapeCast S4x4224x4x64 (extractStridedSlice S4x4224x256 ![0, 0, 512] p slices_S4x4224x2816_S4x4224x256_0_0_512)
      shapeCasts_S4x4224x256_S4x4224x4x64 (ix4 b s a d) = p (ix3 b s ⟨512 + (a.val * 64 + d.val), by omega⟩) := by
  pointwise

theorem headsK_at (p : FVec Ideal S4x4224x2816 .f32) (b : Fin 4) (s : Fin 4224) (a : Fin 2) (d : Fin 64) :
    shapeCast S4x4224x2x64 (extractStridedSlice S4x4224x128 ![0, 0, 768] p slices_S4x4224x2816_S4x4224x128_0_0_768)
      shapeCasts_S4x4224x128_S4x4224x2x64 (ix4 b s a d) = p (ix3 b s ⟨768 + (a.val * 64 + d.val), by omega⟩) := by
  pointwise

theorem ropeQ_at (p : FVec Ideal S4x4224x2816 .f32) (g : FVec Ideal S64 .f32) (b : Fin 4) (s : Fin 4224) (j : Fin 256) :
    ropeQ p g (ix3 b s j)
      = Model.ropeLane (fun a d => p (ix3 b s ⟨512 + (a.val * 2 + j.val / 128) * 64 + d.val, by omega⟩)) (fun d => g (ix1 d))
          (fun e => Ideal.cos (ang s e)) (fun e => Ideal.sin (ang s e)) ⟨j.val % 128, by omega⟩ * Ideal.ofBits .f32 0x3E38AA3B#32 := by
  pointwise [ropeQ]
  rw [axial4_at]
  simp only [headNorm4_at]
  unfold Model.ropeLane
  refine congrArg₂ (· * ·) (congrArg₂ (fun x d => Model.rotated (Model.headUnit x (fun d => g (ix1 d))) (fun e => Ideal.cos (ang s e))
    (fun e => Ideal.sin (ang s e)) d) (funext fun d => ?_) (Fin.ext ?_)) rfl
  · refine (headsQ_at p b s _ d).trans (congrArg p (congrArg (ix3 b s) (Fin.ext ?_)))
    simp only [Model.laneHead]
    omega
  · simp only [Model.laneDim, Model.dim]
    omega

theorem ropeK_at (p : FVec Ideal S4x4224x2816 .f32) (g : FVec Ideal S64 .f32) (b : Fin 4) (s : Fin 4224) (l : Fin 128) :
    ropeK p g (ix3 b s l)
      = Model.ropeLane (fun a d => p (ix3 b s ⟨768 + a.val * 64 + d.val, by omega⟩)) (fun d => g (ix1 d))
          (fun e => Ideal.cos (ang s e)) (fun e => Ideal.sin (ang s e)) l := by
  pointwise [ropeK]
  rw [axial2_at]
  simp only [headNorm2_at]
  unfold Model.ropeLane
  refine congrArg₂ (fun x d => Model.rotated (Model.headUnit x (fun d => g (ix1 d))) (fun e => Ideal.cos (ang s e))
    (fun e => Ideal.sin (ang s e)) d) (funext fun d => ?_) (Fin.ext ?_)
  · refine (headsK_at p b s _ d).trans (congrArg p (congrArg (ix3 b s) (Fin.ext ?_)))
    simp only [Model.laneHead]
    omega
  · simp only [Model.laneDim, Model.dim]

theorem qkv_at (p : FVec Ideal S4x4224x2816 .f32) (gq gk : FVec Ideal S64 .f32) (b : Fin 4) (s : Fin 4224) (n : Fin 1536) :
    qkv p gq gk (ix3 b s n) = Model.qkv (fun n => p (ix3 b s n)) (fun d => gq (ix1 d)) (fun d => gk (ix1 d))
      (fun e => Ideal.cos (ang s e)) (fun e => Ideal.sin (ang s e)) n := by
  pointwise [qkv]
  simp only [paired_at, ropeQ_at, ropeK_at]
  unfold Model.qkv
  by_cases h0 : n.val < 256
  · rw [dif_pos h0, dif_pos h0]
    pointwise
  rw [dif_neg h0, dif_neg h0]
  by_cases h1 : n.val < 512
  · rw [dif_pos (show n.val - 256 < 256 by omega), dif_pos h1]
    exact congrArg p (congrArg (ix3 b s) (Fin.ext (by simp only; omega)))
  rw [dif_neg (show ¬ n.val - 256 < 256 by omega), dif_neg h1]
  by_cases h2 : n.val < 768
  · rw [dif_pos (show n.val - 256 - 256 < 256 by omega), dif_pos h2]
    have e : n.val - 256 - 256 = n.val - 512 := by omega
    simp only [e]
  rw [dif_neg (show ¬ n.val - 256 - 256 < 256 by omega), dif_neg h2]
  by_cases h3 : n.val < 896
  · rw [dif_pos (show n.val - 256 - 256 - 256 < 128 by omega), dif_pos h3]
    have e : n.val - 256 - 256 - 256 = n.val - 768 := by omega
    simp only [e]
  rw [dif_neg (show ¬ n.val - 256 - 256 - 256 < 128 by omega), dif_neg h3]
  by_cases h4 : n.val < 1024
  · rw [dif_pos (show n.val - 256 - 256 - 256 - 128 < 128 by omega), dif_pos h4]
    exact congrArg p (congrArg (ix3 b s) (Fin.ext (by simp only; omega)))
  rw [dif_neg (show ¬ n.val - 256 - 256 - 256 - 128 < 128 by omega), dif_neg h4]
  by_cases h5 : n.val < 1280
  · rw [dif_pos (show n.val - 256 - 256 - 256 - 128 - 128 < 256 by omega), dif_pos h5]
    have e : n.val - 256 - 256 - 256 - 128 - 128 = n.val - 1024 := by omega
    simp only [e]
    pointwise
  · rw [dif_neg (show ¬ n.val - 256 - 256 - 256 - 128 - 128 < 256 by omega), dif_neg h5]
    exact congrArg p (congrArg (ix3 b s) (Fin.ext (by simp only; omega)))

theorem outD_at (h : FVec Ideal S4x4224x1024 .f32) (g : FVec Ideal S1024 .f32) (w : FVec Ideal S1024x6912 .f32) (b : Fin 4) (s : Fin 4224) (n : Fin 1280) :
    outD h g w (ix3 b s n) = proj h g w (ix3 b s ⟨1536 + n, by omega⟩) := by
  pointwise [outD]
theorem outVb_at (h : FVec Ideal S4x4224x1024 .f32) (g : FVec Ideal S1024 .f32) (w : FVec Ideal S1024x6912 .f32) (b : Fin 4) (n : Fin 128) (s : Fin 4224) :
    outVb h g w (ix3 b n s) = proj h g w (ix3 b s ⟨896 + n, by omega⟩) := by
  pointwise [outVb]
theorem outVc_at (h : FVec Ideal S4x4224x1024 .f32) (g : FVec Ideal S1024 .f32) (w : FVec Ideal S1024x6912 .f32) (b : Fin 4) (n : Fin 128) (s : Fin 4224) :
    outVc h g w (ix3 b n s) = proj h g w (ix3 b s ⟨1408 + n, by omega⟩) := by
  pointwise [outVc]
theorem outQkv_at (h : FVec Ideal S4x4224x1024 .f32) (g : FVec Ideal S1024 .f32) (w : FVec Ideal S1024x6912 .f32) (gq gk : FVec Ideal S64 .f32)
    (b : Fin 4) (s : Fin 4224) (n : Fin 1536) : outQkv h g w gq gk (ix3 b s n) = qkv (proj h g w) gq gk (ix3 b s n) := rfl

/-! The printed results are these. -/

variable (V0 : Valuation τ sig (Elt Ideal))

theorem res_proj : Value.res_main_v30 V0 = proj (V0 (Proc.devRef .tc main_arg0)) (V0 (Proc.devRef .tc main_arg1)) (V0 (Proc.devRef .tc main_arg2)) := rfl
theorem res_qkv : Value.res_main_v216 V0 = qkv (Value.res_main_v30 V0) (V0 (Proc.devRef .tc main_arg3)) (V0 (Proc.devRef .tc main_arg4)) := rfl

/-! The results of the run, of the arguments. -/

variable (m : (ℓ : Loc nD τ sig) → Buf (Elt Ideal) ℓ) (c : Dev nD)

theorem res_out_qkv : truncf .bf16 (Value.res_main_v216 (StableHlo.launchContents m c)) bitsLt_bf16_f32
    = outQkv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [res_qkv, res_proj]
  rfl
theorem res_out_d : extractStridedSlice S4x4224x1280 ![0, 0, 1536] (Value.res_main_v30 (StableHlo.launchContents m c)) slices_S4x4224x2816_S4x4224x1280_0_0_1536
    = outD (m ((c.tc : Thread nD τ).loc main_arg0)) (m ((c.tc : Thread nD τ).loc main_arg1)) (m ((c.tc : Thread nD τ).loc main_arg2)) := by
  rw [res_proj]
  rfl
theorem res_out_vb : truncf .bf16 (transpose S4x128x4224 [0, 2, 1] (extractStridedSlice S4x4224x128 ![0, 0, 896] (Value.res_main_v30 (StableHlo.launchContents m c)) slices_S4x4224x2816_S4x4224x128_0_0_896) transposes_S4x4224x128_S4x128x4224_0_2_1) bitsLt_bf16_f32
    = outVb (m ((c.tc : Thread nD τ).loc main_arg0)) (m ((c.tc : Thread nD τ).loc main_arg1)) (m ((c.tc : Thread nD τ).loc main_arg2)) := by
  rw [res_proj]
  rfl
theorem res_out_vc : truncf .bf16 (transpose S4x128x4224 [0, 2, 1] (extractStridedSlice S4x4224x128 ![0, 0, 1408] (Value.res_main_v30 (StableHlo.launchContents m c)) slices_S4x4224x2816_S4x4224x128_0_0_1408) transposes_S4x4224x128_S4x128x4224_0_2_1) bitsLt_bf16_f32
    = outVc (m ((c.tc : Thread nD τ).loc main_arg0)) (m ((c.tc : Thread nD τ).loc main_arg1)) (m ((c.tc : Thread nD τ).loc main_arg2)) := by
  rw [res_proj]
  rfl

end Cert.NextReferenceIdeal.Project

end
-- ==== Proof.InProj.Tables.lean ====
/-
  The tables and weights that the host line prepares for the input projection's kernel, and what they hold.
-/
module

public import proofs.«01_k».proof.Proof.InProj.KernelRow
public import proofs.«01_k».proof.Proof.InProj.Columns
public import proofs.«01_k».proof.Proof.InProj.Ref

@[expose] public section

set_option maxRecDepth 16384

noncomputable section

open Idealize.ShloMosaic Idealize.ShloMosaic.TcCoe Idealize.SL.Sem

namespace Cert.NextIdeal.Project
open Cert.NextIdeal Cert.NextIdeal.Gen Cert.NextIdeal.Facts
open Cert.NextReferenceIdeal.Project (posRow posCol freq ang)

/-- The products of one position with every frequency. -/
def turns (p : FVec Ideal S4224 .f32) : FVec Ideal S4224x16 .f32 :=
  mulf (broadcastInDim S4224x16 ![0, 1] bcast_S4224x1_S4224x16_0_1 (broadcastInDim S4224x1 ![0] bcast_S4224_S4224x1_0 p)) (broadcastInDim S4224x16 ![0, 1] bcast_S1x16_S4224x16_0_1 (broadcastInDim S1x16 ![1] bcast_S16_S1x16_1 freq))

/-- The angles of every token. -/
def angTab : FVec Ideal S4224x32 .f32 :=
  concatenate S4224x32 1 [⟨S4224x16, turns posRow⟩, ⟨S4224x16, turns posCol⟩] concatenates_S4224x16_S4224x16_S4224x32_d1

/-- The cosines, four times over. -/
def cosTab : FVec Ideal S4224x128 .f32 :=
  shapeCast _ (broadcastInDim S1x4224x4x32 ![0, 1, 2, 3] bcast_S1x4224x1x32_S1x4224x4x32_0_1_2_3 (shapeCast _ (Host.cos angTab) shapeCasts_S4224x32_S1x4224x1x32)) shapeCasts_S1x4224x4x32_S4224x128

/-- The sines, twice over. -/
def sinHalf : FVec Ideal S4224x64 .f32 :=
  shapeCast _ (broadcastInDim S1x4224x2x32 ![0, 1, 2, 3] bcast_S1x4224x1x32_S1x4224x2x32_0_1_2_3 (shapeCast _ (Host.sin angTab) shapeCasts_S4224x32_S1x4224x1x32)) shapeCasts_S1x4224x2x32_S4224x64

/-- The sines, negated in the first half. -/
def sinTab : FVec Ideal S4224x128 .f32 :=
  concatenate S4224x128 1 [⟨S4224x64, Host.negf sinHalf⟩, ⟨S4224x64, sinHalf⟩] concatenates_S4224x64_S4224x64_S4224x128_d1

/-- The head of every lane. -/
def laneTab : (⟨S128, .i32⟩ : BufTy).Contents (Elt Ideal) := shapeCast _ (iotaInDim S2x2x32 32 1) shapeCasts_S2x2x32_S128

/-- 1 where two lanes lie in one head. -/
def sameTab : FVec Ideal S128x128 .bf16 :=
  truncf .bf16 (select (cmpi .eq (broadcastInDim S128x128 ![0, 1] bcast_S128x1_S128x128_0_1 (broadcastInDim S128x1 ![0] bcast_S128_S128x1_0 laneTab)) (broadcastInDim S128x128 ![0, 1] bcast_S1x128_S128x128_0_1 (broadcastInDim S1x128 ![1] bcast_S128_S1x128_1 laneTab)))
    (broadcastInDim S128x128 ![] bcast_S_S128x128 (constant S_ .f32 0x3F800000#32)) (broadcastInDim S128x128 ![] bcast_S_S128x128 (constant S_ .f32 0x00000000#32)) : FVec Ideal S128x128 .f32) bitsLt_bf16_f32

/-- The scale of every column. -/
def scaleTab : FVec Ideal S1x1536 .f32 :=
  concatenate S1x1536 1 [⟨S1x256, broadcastInDim S1x256 ![] bcast_S_S1x256 (constant S_ .f32 0x3E38AA3B#32)⟩, ⟨S1x768, broadcastInDim S1x768 ![] bcast_S_S1x768 (constant S_ .f32 0x3F800000#32)⟩, ⟨S1x256, broadcastInDim S1x256 ![] bcast_S_S1x256 (constant S_ .f32 0x3E8293EE#32)⟩, ⟨S1x256, broadcastInDim S1x256 ![] bcast_S_S1x256 (constant S_ .f32 0x3F800000#32)⟩] concatenates_S1x256_S1x768_S1x256_S1x256_S1x1536_d1

/-- Four heads' columns, pair by pair. -/
def pairTab (w : FVec Ideal S1024x256 .f32) : FVec Ideal S1024x256 .f32 :=
  shapeCast _ (transpose S1024x2x2x64 [0, 2, 1, 3] (shapeCast _ w shapeCasts_S1024x256_S1024x2x2x64) transposes_S1024x2x2x64_S1024x2x2x64_0_2_1_3) shapeCasts_S1024x2x2x64_S1024x256

/-- The rotated queries' columns, their parts apart. -/
def queryTab (w : FVec Ideal S1024x256 .f32) : FVec Ideal S1024x256 .f32 :=
  shapeCast _ (transpose S1024x2x2x2x2x16 [0, 2, 4, 1, 3, 5] (shapeCast _ w shapeCasts_S1024x256_S1024x2x2x2x2x16) transposes_S1024x2x2x2x2x16_S1024x2x2x2x2x16_0_2_4_1_3_5) shapeCasts_S1024x2x2x2x2x16_S1024x256

/-- The rotated keys' columns, their parts apart. -/
def keyTab (w : FVec Ideal S1024x128 .f32) : FVec Ideal S1024x128 .f32 :=
  shapeCast _ (transpose S1024x1x2x2x2x16 [0, 1, 4, 2, 3, 5] (shapeCast _ w shapeCasts_S1024x128_S1024x1x2x2x2x16) transposes_S1024x1x2x2x2x16_S1024x1x2x2x2x16_0_1_4_2_3_5) shapeCasts_S1024x1x2x2x2x16_S1024x128

/-- The first product's weights. -/
def weightTab (w : FVec Ideal S1024x6912 .f32) : FVec Ideal S1024x1536 .bf16 :=
  truncf .bf16 (concatenate S1024x1536 1 [
    ⟨S1024x256, pairTab (extractStridedSlice S1024x256 ![0, 0] (extractStridedSlice S1024x512 ![0, 0] w slices_S1024x6912_S1024x512_0_0) slices_S1024x512_S1024x256_0_0)⟩,
    ⟨S1024x256, extractStridedSlice S1024x256 ![0, 256] (extractStridedSlice S1024x512 ![0, 0] w slices_S1024x6912_S1024x512_0_0) slices_S1024x512_S1024x256_0_256⟩,
    ⟨S1024x256, queryTab (extractStridedSlice S1024x256 ![0, 0] (extractStridedSlice S1024x512 ![0, 512] w slices_S1024x6912_S1024x512_0_512) slices_S1024x512_S1024x256_0_0)⟩,
    ⟨S1024x128, keyTab (extractStridedSlice S1024x128 ![0, 256] (extractStridedSlice S1024x512 ![0, 512] w slices_S1024x6912_S1024x512_0_512) slices_S1024x512_S1024x128_0_256)⟩,
    ⟨S1024x128, extractStridedSlice S1024x128 ![0, 384] (extractStridedSlice S1024x512 ![0, 512] w slices_S1024x6912_S1024x512_0_512) slices_S1024x512_S1024x128_0_384⟩,
    ⟨S1024x256, pairTab (extractStridedSlice S1024x256 ![0, 0] (extractStridedSlice S1024x512 ![0, 1024] w slices_S1024x6912_S1024x512_0_1024) slices_S1024x512_S1024x256_0_0)⟩,
    ⟨S1024x256, extractStridedSlice S1024x256 ![0, 256] (extractStridedSlice S1024x512 ![0, 1024] w slices_S1024x6912_S1024x512_0_1024) slices_S1024x512_S1024x256_0_256⟩]
    concatenates_S1024x256_S1024x256_S1024x256_S1024x128_S1024x128_S1024x256_S1024x256_S1024x1536_d1 : FVec Ideal S1024x1536 .f32) bitsLt_bf16_f32

/-- The second product's weights. -/
def weightD (w : FVec Ideal S1024x6912 .f32) : FVec Ideal S1024x1280 .bf16 :=
  truncf .bf16 (extractStridedSlice S1024x1280 ![0, 1536] w slices_S1024x6912_S1024x1280_0_1536) bitsLt_bf16_f32

/-- One head's gain laid out over the lanes. -/
def gainTab (g : FVec Ideal S64 .f32) : FVec Ideal S128 .f32 :=
  shapeCast _ (broadcastInDim S2x2x32 ![0, 1, 2] bcast_S2x1x32_S2x2x32_0_1_2 (shapeCast _ (transpose S2x2x16 [1, 0, 2] (shapeCast _ g shapeCasts_S64_S2x2x16) transposes_S2x2x16_S2x2x16_1_0_2) shapeCasts_S2x2x16_S2x1x32)) shapeCasts_S2x2x32_S128

/-- The three tiles' gains. -/
def gains (gq gk : FVec Ideal S64 .f32) : FVec Ideal S3x128 .f32 :=
  concatenate S3x128 0 [⟨S1x128, broadcastInDim S1x128 ![1] bcast_S128_S1x128_1 (mulf (gainTab gq) (broadcastInDim S128 ![] bcast_S_S128 (constant S_ .f32 0x3E38AA3B#32)))⟩, ⟨S1x128, broadcastInDim S1x128 ![1] bcast_S128_S1x128_1 (mulf (gainTab gq) (broadcastInDim S128 ![] bcast_S_S128 (constant S_ .f32 0x3E38AA3B#32)))⟩, ⟨S1x128, broadcastInDim S1x128 ![1] bcast_S128_S1x128_1 (gainTab gk)⟩] concatenates_S1x128_S1x128_S1x128_S3x128_d0

theorem angTab_at (s : Fin 4224) (e : Fin 32) : angTab (ix2 s e) = ang s e := by
  pointwise [angTab, turns]
  unfold ang Model.angles
  by_cases h : e.val < 16
  · have e' : (⟨e.val % 16, by omega⟩ : Fin 16) = ⟨e.val, h⟩ := Fin.ext (by simp only; omega)
    rw [dif_pos h, if_pos h, e']
  · have e' : (⟨e.val % 16, by omega⟩ : Fin 16) = ⟨e.val - 16, by omega⟩ := Fin.ext (by simp only; omega)
    rw [dif_neg h, if_neg h, e']

theorem cosTab_at (s : Fin 4224) (l : Fin 128) : cosTab (ix2 s l) = Ideal.cos (ang s ⟨l.val % 32, by omega⟩) := by
  pointwise [cosTab]
  simp only [angTab_at]

theorem sinHalf_at (s : Fin 4224) (l : Fin 64) : sinHalf (ix2 s l) = Ideal.sin (ang s ⟨l.val % 32, by omega⟩) := by
  pointwise [sinHalf]
  simp only [angTab_at]

theorem sinTab_at (s : Fin 4224) (l : Fin 128) :
    sinTab (ix2 s l) = if l.val < 64 then -Ideal.sin (ang s ⟨l.val % 32, by omega⟩) else Ideal.sin (ang s ⟨l.val % 32, by omega⟩) := by
  pointwise [sinTab]
  simp only [sinHalf_at]
  by_cases h : l.val < 64
  · rw [dif_pos h, if_pos h]
  · have e : (l.val - 64) % 32 = l.val % 32 := by omega
    simp only [h, dif_neg, not_false_eq_true, if_false, e]

theorem sameTab_at (i l : Fin 128) : sameTab (ix2 i l) = Model.laneSame i l := by
  pointwise [sameTab, laneTab]
  exact Model.select_laneSame i l

theorem scaleTab_at (n : Fin 1536) : scaleTab (ix2 0 n) = Model.scale n := by
  pointwise [scaleTab]
  unfold Model.scale
  by_cases h0 : n.val < 256
  · rw [dif_pos h0, if_pos h0]
  by_cases h1 : n.val < 1024
  · rw [dif_neg h0, if_neg h0, dif_pos (by omega), if_pos h1]
  by_cases h2 : n.val < 1280
  · rw [dif_neg h0, if_neg h0, dif_neg (by omega), if_neg h1, dif_pos (by omega), if_pos h2]
  · rw [dif_neg h0, if_neg h0, dif_neg (by omega), if_neg h1, dif_neg (by omega), if_neg h2]

theorem pairTab_at (w : FVec Ideal S1024x256 .f32) (k : Fin 1024) (j : Fin 256) : pairTab w (ix2 k j) = w (ix2 k (Model.pair j)) := by
  pointwise [pairTab]
  exact congrArg w (congrArg (ix2 k) (Fin.ext (Model.pair_val j)))

theorem queryTab_at (w : FVec Ideal S1024x256 .f32) (k : Fin 1024) (j : Fin 256) : queryTab w (ix2 k j) = w (ix2 k (Model.queryCol j)) := by
  pointwise [queryTab]
  exact congrArg w (congrArg (ix2 k) (Fin.ext (Model.queryCol_val j)))

theorem keyTab_at (w : FVec Ideal S1024x128 .f32) (k : Fin 1024) (j : Fin 128) : keyTab w (ix2 k j) = w (ix2 k (Model.keyCol j)) := by
  pointwise [keyTab]
  exact congrArg w (congrArg (ix2 k) (Fin.ext (Model.keyCol_val j)))

/-- The columns piece by piece are the columns that `Model.col` names. -/
theorem weight_cases (f : Fin 6912 → EReal) (n : Fin 1536) :
    (if h : n.val < 256 then f ⟨(Model.pair ⟨n.val, h⟩).val, by omega⟩
    else if h : n.val - 256 < 256 then f ⟨256 + (n.val - 256), by omega⟩
    else if h : n.val - 256 - 256 < 256 then f ⟨512 + (Model.queryCol ⟨n.val - 256 - 256, h⟩).val, by omega⟩
    else if h : n.val - 256 - 256 - 256 < 128 then f ⟨512 + (256 + (Model.keyCol ⟨n.val - 256 - 256 - 256, h⟩).val), by omega⟩
    else if h : n.val - 256 - 256 - 256 - 128 < 128 then f ⟨512 + (384 + (n.val - 256 - 256 - 256 - 128)), by omega⟩
    else if h : n.val - 256 - 256 - 256 - 128 - 128 < 256 then
      f ⟨1024 + (Model.pair ⟨n.val - 256 - 256 - 256 - 128 - 128, h⟩).val, by omega⟩
    else f ⟨1024 + (256 + (n.val - 256 - 256 - 256 - 128 - 128 - 256)), by omega⟩) = f ⟨(Model.col n).val, by omega⟩ := by
  by_cases h0 : n.val < 256
  · rw [dif_pos h0]; unfold Model.col; simp only [h0, dif_pos]
  by_cases h1 : n.val < 512
  · rw [dif_neg h0, dif_pos (by omega)]
    unfold Model.col; simp only [h0, h1, dif_pos, dif_neg, not_false_eq_true]
    exact congrArg f (Fin.ext (by simp only; omega))
  by_cases h2 : n.val < 768
  · rw [dif_neg h0, dif_neg (by omega), dif_pos (by omega)]
    have e : n.val - 256 - 256 = n.val - 512 := by omega
    unfold Model.col; simp only [h0, h1, h2, dif_pos, dif_neg, not_false_eq_true, e]
  by_cases h3 : n.val < 896
  · rw [dif_neg h0, dif_neg (by omega), dif_neg (by omega), dif_pos (by omega)]
    have e : n.val - 256 - 256 - 256 = n.val - 768 := by omega
    unfold Model.col; simp only [h0, h1, h2, h3, dif_pos, dif_neg, not_false_eq_true, e]
    exact congrArg f (Fin.ext (by simp only; omega))
  by_cases h4 : n.val < 1024
  · rw [dif_neg h0, dif_neg (by omega), dif_neg (by omega), dif_neg (by omega), dif_pos (by omega)]
    unfold Model.col; simp only [h0, h1, h2, h3, h4, dif_pos, dif_neg, not_false_eq_true]
    exact congrArg f (Fin.ext (by simp only; omega))
  by_cases h5 : n.val < 1280
  · rw [dif_neg h0, dif_neg (by omega), dif_neg (by omega), dif_neg (by omega), dif_neg (by omega), dif_pos (by omega)]
    have e : n.val - 256 - 256 - 256 - 128 - 128 = n.val - 1024 := by omega
    unfold Model.col; simp only [h0, h1, h2, h3, h4, h5, dif_pos, dif_neg, not_false_eq_true, e]
  · rw [dif_neg h0, dif_neg (by omega), dif_neg (by omega), dif_neg (by omega), dif_neg (by omega), dif_neg (by omega)]
    unfold Model.col; simp only [h0, h1, h2, h3, h4, h5, dif_neg, not_false_eq_true]
    exact congrArg f (Fin.ext (by simp only; omega))

theorem weightTab_at (w : FVec Ideal S1024x6912 .f32) (k : Fin 1024) (n : Fin 1536) :
    weightTab w (ix2 k n) = w (ix2 k ⟨(Model.col n).val, by omega⟩) := by
  pointwise [weightTab]
  simp only [pairTab_at, queryTab_at, keyTab_at]
  pointwise
  exact weight_cases (fun n => w (ix2 k n)) n

theorem weightD_at (w : FVec Ideal S1024x6912 .f32) (k : Fin 1024) (n : Fin 1280) :
    weightD w (ix2 k n) = w (ix2 k ⟨1536 + n, by omega⟩) := by
  pointwise [weightD]

theorem gainTab_at (g : FVec Ideal S64 .f32) (l : Fin 128) : gainTab g (ix1 l) = g (ix1 (Model.laneDim l)) := by
  pointwise [gainTab]
  exact congrArg g (congrArg ix1 (Fin.ext (Model.laneDim_val l)))

theorem gains_q (gq gk : FVec Ideal S64 .f32) (a : Fin 3) (ha : a.val < 2) (l : Fin 128) :
    gains gq gk (ix2 a l) = gq (ix1 (Model.laneDim l)) * Ideal.ofBits .f32 0x3E38AA3B#32 := by
  pointwise [gains]
  simp only [gainTab_at]
  by_cases h : a.val < 1
  · rw [dif_pos h]
  · rw [dif_neg h, dif_pos (by omega)]

theorem gains_k (gq gk : FVec Ideal S64 .f32) (l : Fin 128) :
    gains gq gk (ix2 2 l) = gk (ix1 (Model.laneDim l)) := by
  pointwise [gains]
  simp only [gainTab_at]

end Cert.NextIdeal.Project

end
-- ==== Proof.InProj.Real.lean ====
/-
  With finite rows, gains and weights the projection's entries are real numbers.
-/
module

public import proofs.«01_k».proof.Proof.Model
public import proofs.«01_k».proof.Proof.InProj.Columns

@[expose] public section

noncomputable section

open Idealize.ShloMosaic

namespace Cert.Model

/-- A value that is a real number. -/
def IsReal (a : EReal) : Prop := ∃ r : ℝ, a = r

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.sum {n : Nat} {f : Fin n → EReal} (h : ∀ i, IsReal (f i)) : IsReal (∑ i, f i) := by
  choose r hr using h
  refine ⟨∑ i, r i, ?_⟩
  simp only [hr]
  exact (map_sum (⟨⟨Real.toEReal, EReal.coe_zero⟩, EReal.coe_add⟩ : ℝ →+ EReal) r Finset.univ).symm

theorem ofBits_1024 : Ideal.ofBits .f32 0x44800000#32 = ((1024 : ℝ) : EReal) := by
  simp [Ideal.ofBits, Ideal.ieee, -EReal.coe_mul]; norm_num

theorem ofBits_eps : ∃ r : ℝ, 0 < r ∧ Ideal.ofBits .f32 0x358637BD#32 = r := by
  refine ⟨_, ?_, by simp [Ideal.ofBits, Ideal.ieee, -EReal.coe_mul]; rfl⟩
  norm_num

theorem rmsScale_real {x : Fin 1024 → EReal} (hx : ∀ k, IsReal (x k)) : IsReal (rmsScale x) := by
  choose r hr using hx
  obtain ⟨e, he, hb⟩ := ofBits_eps
  have hs : (∑ j, x j * x j) = ((∑ j, r j * r j : ℝ) : EReal) := by
    simp only [hr, ← EReal.coe_mul]
    exact (map_sum (⟨⟨Real.toEReal, EReal.coe_zero⟩, EReal.coe_add⟩ : ℝ →+ EReal) (fun j => r j * r j) Finset.univ).symm
  have h0 : 0 ≤ ∑ j, r j * r j := Finset.sum_nonneg fun j _ => mul_self_nonneg _
  unfold rmsScale
  rw [hs, ofBits_1024, hb, Ideal.div_coe (by norm_num), ← EReal.coe_mul, ← EReal.coe_add, Ideal.rsqrt_coe]
  have hpos : 0 < (∑ j, r j * r j) * (1 / 1024) + e := by positivity
  rw [if_neg (not_lt.2 hpos.le), if_neg hpos.ne']
  exact ⟨_, rfl⟩

theorem row_real {x g : Fin 1024 → EReal} {p : Nat} {w : Fin 1024 → Fin p → EReal} (hx : ∀ k, IsReal (x k)) (hg : ∀ k, IsReal (g k))
    (hw : ∀ k n, IsReal (w k n)) (n : Fin p) : IsReal (row (rms x g) w n) := by
  unfold row rms
  exact IsReal.sum fun k => (((hx k).mul (rmsScale_real hx)).mul (hg k)).mul (hw k n)

/-- The values' columns stay in place, unscaled. -/
theorem scaled_vb (p : Fin 2816 → EReal) (n : Fin 128) : scaled p ⟨896 + n.val, by omega⟩ = p ⟨896 + n.val, by omega⟩ := by
  have h : n.val < 128 := n.isLt
  have e : col ⟨896 + n.val, by omega⟩ = ⟨896 + n.val, by omega⟩ := by
    unfold col
    rw [dif_neg (by show ¬ 896 + n.val < 256; omega), dif_neg (by show ¬ 896 + n.val < 512; omega), dif_neg (by show ¬ 896 + n.val < 768; omega),
      dif_neg (by show ¬ 896 + n.val < 896; omega), dif_pos (by show 896 + n.val < 1024; omega)]
  unfold scaled scale
  rw [e, if_neg (by show ¬ 896 + n.val < 256; omega), if_pos (by show 896 + n.val < 1024; omega), mul_one]

theorem scaled_vc (p : Fin 2816 → EReal) (n : Fin 128) : scaled p ⟨1408 + n.val, by omega⟩ = p ⟨1408 + n.val, by omega⟩ := by
  have h : n.val < 128 := n.isLt
  have e : col ⟨1408 + n.val, by omega⟩ = ⟨1408 + n.val, by omega⟩ := by
    unfold col
    rw [dif_neg (by show ¬ 1408 + n.val < 256; omega), dif_neg (by show ¬ 1408 + n.val < 512; omega), dif_neg (by show ¬ 1408 + n.val < 768; omega),
      dif_neg (by show ¬ 1408 + n.val < 896; omega), dif_neg (by show ¬ 1408 + n.val < 1024; omega), dif_neg (by show ¬ 1408 + n.val < 1280; omega)]
  unfold scaled scale
  rw [e, if_neg (by show ¬ 1408 + n.val < 256; omega), if_neg (by show ¬ 1408 + n.val < 1024; omega), if_neg (by show ¬ 1408 + n.val < 1280; omega), mul_one]

end Cert.Model

end
-- ==== Proof.InProj.Entry.lean ====
/-
  The arrays that the input projection's kernel is given: the arguments, and the tables and weights of the host line.
-/
module

public import proofs.«01_k».proof.Proof.InProj.Tables
public import proofs.«01_k».proof.Proof.InProj.Real

@[expose] public section

set_option maxRecDepth 16384

noncomputable section

open Idealize.ShloMosaic Idealize.ShloMosaic.TcCoe Idealize.SL.Sem
open Idealize.ShloMosaic.Pipeline (Dat)

namespace Cert.NextIdeal.Project
open Cert.NextIdeal Cert.NextIdeal.Gen
open Cert.NextReferenceIdeal.Project (ang proj proj_at)

variable (m : (ℓ : Loc nD τ sig) → Buf (Elt Ideal) ℓ)

/-- The block each window stages at point `t`: tile `t % 11` of batch `t / 11`, and the whole weights and tables. -/
theorem idx : ∀ t : Fin cfg0.N, win0_9.index t = ![t.val / 11, t.val % 11, 0]
    ∧ win0_10.index t = ![t.val / 11, t.val % 11, 0]
    ∧ win0_11.index t = ![t.val / 11, 0, t.val % 11]
    ∧ win0_12.index t = ![t.val / 11, 0, t.val % 11]
    ∧ win0_0.index t = ![t.val / 11, t.val % 11, 0]
    ∧ win0_1.index t = ![0, 0]
    ∧ win0_2.index t = ![0, 0]
    ∧ win0_3.index t = ![0, 0]
    ∧ win0_4.index t = ![0, 0]
    ∧ win0_5.index t = ![t.val % 11, 0]
    ∧ win0_6.index t = ![t.val % 11, 0]
    ∧ win0_7.index t = ![0, 0]
    ∧ win0_8.index t = ![0, 0] :=
  (by decide +kernel : ∀ t : Fin grid0.N, win0_9.index t = ![t.val / 11, t.val % 11, 0]
    ∧ win0_10.index t = ![t.val / 11, t.val % 11, 0]
    ∧ win0_11.index t = ![t.val / 11, 0, t.val % 11]
    ∧ win0_12.index t = ![t.val / 11, 0, t.val % 11]
    ∧ win0_0.index t = ![t.val / 11, t.val % 11, 0]
    ∧ win0_1.index t = ![0, 0]
    ∧ win0_2.index t = ![0, 0]
    ∧ win0_3.index t = ![0, 0]
    ∧ win0_4.index t = ![0, 0]
    ∧ win0_5.index t = ![t.val % 11, 0]
    ∧ win0_6.index t = ![t.val % 11, 0]
    ∧ win0_7.index t = ![0, 0]
    ∧ win0_8.index t = ![0, 0])

theorem N_le (t : Fin cfg0.N) : t.val < 44 := t.isLt

/-- The batch of point `t`, and the token of its row `r`. -/
abbrev bat (t : Fin cfg0.N) : Fin 4 := ⟨t.val / 11, by have := N_le t; omega⟩
abbrev tok (t : Fin cfg0.N) (r : Fin 384) : Fin 4224 := ⟨t.val % 11 * 384 + r.val, by have := N_le t; omega⟩

/-- The arguments, at their literal types. -/
abbrev argH (c : Dev nD) : FVec Ideal S4x4224x1024 .f32 := m ((c.tc : Thread nD τ).loc main_arg0)
abbrev argG (c : Dev nD) : FVec Ideal S1024 .f32 := m ((c.tc : Thread nD τ).loc main_arg1)
abbrev argW (c : Dev nD) : FVec Ideal S1024x6912 .f32 := m ((c.tc : Thread nD τ).loc main_arg2)
abbrev argQ (c : Dev nD) : FVec Ideal S64 .f32 := m ((c.tc : Thread nD τ).loc main_arg3)
abbrev argK (c : Dev nD) : FVec Ideal S64 .f32 := m ((c.tc : Thread nD τ).loc main_arg4)

/-- The blocks, at their literal types. -/
abbrev blkH (c : Dev nD) (t : Fin cfg0.N) : Vec Ideal S1x384x1024 .f32 := iblk m c 0 t
abbrev blkCo (c : Dev nD) (t : Fin cfg0.N) : Vec Ideal S384x128 .f32 := iblk m c 5 t
abbrev blkSi (c : Dev nD) (t : Fin cfg0.N) : Vec Ideal S384x128 .f32 := iblk m c 6 t
abbrev blkG (c : Dev nD) (t : Fin cfg0.N) : Vec Ideal S1x1024 .f32 := iblk m c 1 t
abbrev blkW (c : Dev nD) (t : Fin cfg0.N) : Vec Ideal S1024x1536 .bf16 := iblk m c 2 t
abbrev blkD (c : Dev nD) (t : Fin cfg0.N) : Vec Ideal S1024x1280 .bf16 := iblk m c 3 t
abbrev blkCs (c : Dev nD) (t : Fin cfg0.N) : Vec Ideal S1x1536 .f32 := iblk m c 4 t
abbrev blkGn (c : Dev nD) (t : Fin cfg0.N) : Vec Ideal S3x128 .f32 := iblk m c 7 t
abbrev blkHs (c : Dev nD) (t : Fin cfg0.N) : Vec Ideal S128x128 .bf16 := iblk m c 8 t

/-! What the host line leaves in the tables and weights. -/

set_option maxHeartbeats 4000000 in
theorem V_Co (c : Dev nD) : V m c main_v40 = cosTab := by
  unfold V
  after_results
  repeat
    dsimp only [Matrix.cons_val]
    simp -zeta -beta -eta -iota -proj only [↓ StableHlo.readResult, ↓ StableHlo.readPieces, -eq_self]
  rfl
set_option maxHeartbeats 4000000 in
theorem V_Si (c : Dev nD) : V m c main_v50 = sinTab := by
  unfold V
  after_results
  repeat
    dsimp only [Matrix.cons_val]
    simp -zeta -beta -eta -iota -proj only [↓ StableHlo.readResult, ↓ StableHlo.readPieces, -eq_self]
  rfl
set_option maxHeartbeats 4000000 in
theorem V_Hs (c : Dev nD) : V m c main_v61 = sameTab := by
  entry_read
  rfl
set_option maxHeartbeats 4000000 in
theorem V_Cs (c : Dev nD) : V m c main_v66 = scaleTab := by
  unfold V
  after_results
  repeat
    dsimp only [Matrix.cons_val]
    simp -zeta -beta -eta -iota -proj only [↓ StableHlo.readResult, ↓ StableHlo.readPieces, -eq_self]
  rfl
set_option maxHeartbeats 4000000 in
theorem V_W (c : Dev nD) : V m c main_v90 = weightTab (argW m c) := by
  unfold V
  after_results
  repeat
    dsimp only [Matrix.cons_val]
    simp -zeta -beta -eta -iota -proj only [↓ StableHlo.readResult, ↓ StableHlo.readPieces, -eq_self]
  rfl
set_option maxHeartbeats 4000000 in
theorem V_D (c : Dev nD) : V m c main_v92 = weightD (argW m c) := by
  entry_read
  rfl
set_option maxHeartbeats 4000000 in
theorem V_Gn (c : Dev nD) : V m c main_v108 = gains (argQ m c) (argK m c) := by
  unfold V
  after_results
  repeat
    dsimp only [Matrix.cons_val]
    simp -zeta -beta -eta -iota -proj only [↓ StableHlo.readResult, ↓ StableHlo.readPieces, -eq_self]
  rfl
set_option maxHeartbeats 4000000 in
theorem V_G (c : Dev nD) : V m c main_v109 = broadcastInDim S1x1024 ![1] bcast_S1024_S1x1024_1 (argG m c) := by
  entry_read
  rfl
theorem V_H (c : Dev nD) : V m c main_arg0 = argH m c := by
  rfl

end Cert.NextIdeal.Project

end
-- ==== Proof.InProj.Blocks.lean ====
/-
  The blocks that the input projection reads at a point, and its projections and finite rows.
-/
module

public import proofs.«01_k».proof.Proof.InProj.Entry

@[expose] public section

set_option maxRecDepth 16384

noncomputable section

open Idealize.ShloMosaic Idealize.ShloMosaic.TcCoe Idealize.SL.Sem
open Idealize.ShloMosaic.Pipeline (Dat)

namespace Cert.NextIdeal.Project
open Cert.NextIdeal Cert.NextIdeal.Gen
open Cert.NextReferenceIdeal.Project (ang proj proj_at)

variable (m : (ℓ : Loc nD τ sig) → Buf (Elt Ideal) ℓ)

/-! What each block holds. -/

theorem blkH_at (c : Dev nD) (t : Fin cfg0.N) (r : Fin 384) (k : Fin 1024) :
    blkH m c t (ix3 0 r k) = argH m c (ix3 (bat t) (tok t r) k) := by
  have e := (idx t).2.2.2.2.1
  refine (congrArg (V m c main_arg0 : FVec Ideal S4x4224x1024 .f32) (?_ : _ = ix3 (bat t) (tok t r) k)).trans ?_
  · refine funext fun a => Fin.ext ?_
    match a with
    | ⟨0, _⟩ => show win0_0.index t 0 * 1 + 1 * 0 = t.val / 11; rw [e]; show t.val / 11 * 1 + 1 * 0 = _; omega
    | ⟨1, _⟩ => show win0_0.index t 1 * 384 + 1 * r.val = t.val % 11 * 384 + r.val; rw [e]; show t.val % 11 * 384 + 1 * r.val = _; omega
    | ⟨2, _⟩ => show win0_0.index t 2 * 1024 + 1 * k.val = k.val; rw [e]; show 0 * 1024 + 1 * k.val = _; omega
  · rw [V_H]
theorem blkCo_at (c : Dev nD) (t : Fin cfg0.N) (r : Fin 384) (l : Fin 128) :
    blkCo m c t (ix2 r l) = Ideal.cos (ang (tok t r) ⟨l.val % 32, by omega⟩) := by
  have e := (idx t).2.2.2.2.2.2.2.2.2.1
  refine (congrArg (V m c main_v40 : FVec Ideal S4224x128 .f32) (?_ : _ = ix2 (tok t r) l)).trans ?_
  · refine funext fun a => Fin.ext ?_
    match a with
    | ⟨0, _⟩ => show win0_5.index t 0 * 384 + 1 * r.val = t.val % 11 * 384 + r.val; rw [e]; show t.val % 11 * 384 + 1 * r.val = _; omega
    | ⟨1, _⟩ => show win0_5.index t 1 * 128 + 1 * l.val = l.val; rw [e]; show 0 * 128 + 1 * l.val = _; omega
  · rw [V_Co]
    exact cosTab_at (tok t r) l
theorem blkSi_at (c : Dev nD) (t : Fin cfg0.N) (r : Fin 384) (l : Fin 128) :
    blkSi m c t (ix2 r l) = if l.val < 64 then -Ideal.sin (ang (tok t r) ⟨l.val % 32, by omega⟩) else Ideal.sin (ang (tok t r) ⟨l.val % 32, by omega⟩) := by
  have e := (idx t).2.2.2.2.2.2.2.2.2.2.1
  refine (congrArg (V m c main_v50 : FVec Ideal S4224x128 .f32) (?_ : _ = ix2 (tok t r) l)).trans ?_
  · refine funext fun a => Fin.ext ?_
    match a with
    | ⟨0, _⟩ => show win0_6.index t 0 * 384 + 1 * r.val = t.val % 11 * 384 + r.val; rw [e]; show t.val % 11 * 384 + 1 * r.val = _; omega
    | ⟨1, _⟩ => show win0_6.index t 1 * 128 + 1 * l.val = l.val; rw [e]; show 0 * 128 + 1 * l.val = _; omega
  · rw [V_Si]
    exact sinTab_at (tok t r) l
theorem blkG_at (c : Dev nD) (t : Fin cfg0.N) (j : Fin 1024) :
    blkG m c t (ix2 0 j) = argG m c (ix1 j) := by
  have e := (idx t).2.2.2.2.2.1
  refine (congrArg (V m c main_v109 : FVec Ideal S1x1024 .f32) (?_ : _ = ix2 0 j)).trans ?_
  · refine funext fun a => Fin.ext ?_
    match a with
    | ⟨0, _⟩ => show win0_1.index t 0 * 1 + 1 * 0 = 0; rw [e]; show 0 * 1 + 1 * 0 = _; omega
    | ⟨1, _⟩ => show win0_1.index t 1 * 1024 + 1 * j.val = j.val; rw [e]; show 0 * 1024 + 1 * j.val = _; omega
  · rw [V_G]
    pointwise
theorem blkW_at (c : Dev nD) (t : Fin cfg0.N) (i : Fin 1024) (j : Fin 1536) :
    blkW m c t (ix2 i j) = argW m c (ix2 i ⟨(Model.col j).val, by omega⟩) := by
  have e := (idx t).2.2.2.2.2.2.1
  refine (congrArg (V m c main_v90 : FVec Ideal S1024x1536 .bf16) (?_ : _ = ix2 i j)).trans ?_
  · refine funext fun a => Fin.ext ?_
    match a with
    | ⟨0, _⟩ => show win0_2.index t 0 * 1024 + 1 * i.val = i.val; rw [e]; show 0 * 1024 + 1 * i.val = _; omega
    | ⟨1, _⟩ => show win0_2.index t 1 * 1536 + 1 * j.val = j.val; rw [e]; show 0 * 1536 + 1 * j.val = _; omega
  · rw [V_W]
    exact weightTab_at (argW m c) i j
theorem blkD_at (c : Dev nD) (t : Fin cfg0.N) (i : Fin 1024) (j : Fin 1280) :
    blkD m c t (ix2 i j) = argW m c (ix2 i ⟨1536 + j.val, by omega⟩) := by
  have e := (idx t).2.2.2.2.2.2.2.1
  refine (congrArg (V m c main_v92 : FVec Ideal S1024x1280 .bf16) (?_ : _ = ix2 i j)).trans ?_
  · refine funext fun a => Fin.ext ?_
    match a with
    | ⟨0, _⟩ => show win0_3.index t 0 * 1024 + 1 * i.val = i.val; rw [e]; show 0 * 1024 + 1 * i.val = _; omega
    | ⟨1, _⟩ => show win0_3.index t 1 * 1280 + 1 * j.val = j.val; rw [e]; show 0 * 1280 + 1 * j.val = _; omega
  · rw [V_D]
    exact weightD_at (argW m c) i j
theorem blkCs_at (c : Dev nD) (t : Fin cfg0.N) (j : Fin 1536) :
    blkCs m c t (ix2 0 j) = Model.scale j := by
  have e := (idx t).2.2.2.2.2.2.2.2.1
  refine (congrArg (V m c main_v66 : FVec Ideal S1x1536 .f32) (?_ : _ = ix2 0 j)).trans ?_
  · refine funext fun a => Fin.ext ?_
    match a with
    | ⟨0, _⟩ => show win0_4.index t 0 * 1 + 1 * 0 = 0; rw [e]; show 0 * 1 + 1 * 0 = _; omega
    | ⟨1, _⟩ => show win0_4.index t 1 * 1536 + 1 * j.val = j.val; rw [e]; show 0 * 1536 + 1 * j.val = _; omega
  · rw [V_Cs]
    exact scaleTab_at j
theorem blkGn_at (c : Dev nD) (t : Fin cfg0.N) (i : Fin 3) (j : Fin 128) :
    blkGn m c t (ix2 i j) = gains (argQ m c) (argK m c) (ix2 i j) := by
  have e := (idx t).2.2.2.2.2.2.2.2.2.2.2.1
  refine (congrArg (V m c main_v108 : FVec Ideal S3x128 .f32) (?_ : _ = ix2 i j)).trans ?_
  · refine funext fun a => Fin.ext ?_
    match a with
    | ⟨0, _⟩ => show win0_7.index t 0 * 3 + 1 * i.val = i.val; rw [e]; show 0 * 3 + 1 * i.val = _; omega
    | ⟨1, _⟩ => show win0_7.index t 1 * 128 + 1 * j.val = j.val; rw [e]; show 0 * 128 + 1 * j.val = _; omega
  · rw [V_Gn]

theorem blkHs_at (c : Dev nD) (t : Fin cfg0.N) (i : Fin 128) (j : Fin 128) :
    blkHs m c t (ix2 i j) = Model.laneSame i j := by
  have e := (idx t).2.2.2.2.2.2.2.2.2.2.2.2
  refine (congrArg (V m c main_v61 : FVec Ideal S128x128 .bf16) (?_ : _ = ix2 i j)).trans ?_
  · refine funext fun a => Fin.ext ?_
    match a with
    | ⟨0, _⟩ => show win0_8.index t 0 * 128 + 1 * i.val = i.val; rw [e]; show 0 * 128 + 1 * i.val = _; omega
    | ⟨1, _⟩ => show win0_8.index t 1 * 128 + 1 * j.val = j.val; rw [e]; show 0 * 128 + 1 * j.val = _; omega
  · rw [V_Hs]
    exact sameTab_at i j

/-- The projection of the row `r` of point `t`. -/
def prow (c : Dev nD) (t : Fin cfg0.N) (r : Fin 384) (n : Fin 2816) : EReal :=
  proj (argH m c) (argG m c) (argW m c) (ix3 (bat t) (tok t r) n)

theorem acc_eq (c : Dev nD) (t : Fin cfg0.N) (r : Fin 384) (n : Fin 1536) :
    k0_pay2 (blkH m c t) (blkG m c t) (blkW m c t) (blkCs m c t) (ix2 r n) = Model.scaled (prow m c t r) n := by
  rw [acc_at]
  unfold Model.scaled prow
  rw [proj_at]
  simp only [blkH_at, blkG_at, blkW_at, blkCs_at]
  rfl

theorem d_eq (c : Dev nD) (t : Fin cfg0.N) (r : Fin 384) (n : Fin 1280) :
    k0_pay19 (k0_pay1 (blkH m c t) (blkG m c t)) (blkD m c t) (ix3 0 r n) = prow m c t r ⟨1536 + n.val, by omega⟩ := by
  rw [d_at]
  unfold prow
  rw [proj_at]
  simp only [blkH_at, blkG_at, blkD_at]
  rfl

/-- The arguments are finite. -/
def Finite (c : Dev nD) : Prop :=
  (∀ i, Model.IsReal (argH m c i)) ∧ (∀ i, Model.IsReal (argG m c i)) ∧ ∀ i, Model.IsReal (argW m c i)

theorem prow_real (c : Dev nD) (hf : Finite m c) (t : Fin cfg0.N) (r : Fin 384) (n : Fin 2816) : Model.IsReal (prow m c t r n) := by
  unfold prow
  rw [proj_at]
  exact Model.row_real (fun k => hf.1 _) (fun k => hf.2.1 _) (fun k n => hf.2.2 _) n

end Cert.NextIdeal.Project

end
-- ==== Proof.InProj.Point.lean ====
/-
  What the input projection stores at a point: the rows of the reference.
-/
module

public import proofs.«01_k».proof.Proof.InProj.Blocks

@[expose] public section

set_option maxRecDepth 16384

noncomputable section

open Idealize.ShloMosaic Idealize.ShloMosaic.TcCoe Idealize.SL.Sem
open Idealize.ShloMosaic.Pipeline (Dat)

namespace Cert.NextIdeal.Project
open Cert.NextIdeal Cert.NextIdeal.Gen
open Cert.NextReferenceIdeal.Project (ang proj proj_at)

variable (m : (ℓ : Loc nD τ sig) → Buf (Elt Ideal) ℓ)

/-- The row of the reference that point `t` stores at its row `r`. -/
abbrev refRow (c : Dev nD) (t : Fin cfg0.N) (r : Fin 384) (n : Fin 1536) : EReal :=
  Model.qkv (prow m c t r) (fun d => argQ m c (ix1 d)) (fun d => argK m c (ix1 d))
    (fun e => Ideal.cos (ang (tok t r) e)) (fun e => Ideal.sin (ang (tok t r) e)) n

theorem gain_q (c : Dev nD) (t : Fin cfg0.N) (a : Fin 3) (ha : a.val < 2) (l : Fin 128) :
    blkGn m c t (ix2 a l) = argQ m c (ix1 (Model.laneDim l)) * Ideal.ofBits .f32 0x3E38AA3B#32 :=
  (blkGn_at m c t a l).trans (gains_q (argQ m c) (argK m c) a ha l)

theorem gain_k (c : Dev nD) (t : Fin cfg0.N) (l : Fin 128) :
    blkGn m c t (ix2 2 l) = argK m c (ix1 (Model.laneDim l)) :=
  (blkGn_at m c t 2 l).trans (gains_k (argQ m c) (argK m c) l)

theorem plain_eq (c : Dev nD) (t : Fin cfg0.N) (r : Fin 384) (n : Fin 1536) (h : n.val < 512 ∨ 896 ≤ n.val) :
    k0_pay2 (blkH m c t) (blkG m c t) (blkW m c t) (blkCs m c t) (ix2 r n) = refRow m c t r n :=
  (acc_eq m c t r n).trans (Model.qkv_plain (prow m c t r) _ _ _ _ n h)

/-- One rotated tile, for the gain and the columns it takes. -/
theorem tile_eq (c : Dev nD) (t : Fin cfg0.N) (r : Fin 384) (l : Fin 128) (k : Nat) (hk : k + 128 ≤ 1536) (gn : Fin 128 → EReal)
    (g : Fin 128 → EReal) (hg : ∀ l, gn l = g l) :
    Model.laneTurn (Model.laneNorm (fun i => k0_pay2 (blkH m c t) (blkG m c t) (blkW m c t) (blkCs m c t) (ix2 r ⟨k + i.val, by omega⟩))
        (fun i l => blkHs m c t (ix2 i l)) gn) (fun l => blkCo m c t (ix2 r l)) (fun l => blkSi m c t (ix2 r l)) l
      = Model.laneTurn (Model.laneNorm (fun i => Model.scaled (prow m c t r) ⟨k + i.val, by omega⟩) Model.laneSame g)
          (fun l => (fun e => Ideal.cos (ang (tok t r) e)) ⟨l.val % 32, by omega⟩)
          (fun l => if l.val < 64 then -(fun e => Ideal.sin (ang (tok t r) e)) ⟨l.val % 32, by omega⟩ else (fun e => Ideal.sin (ang (tok t r) e)) ⟨l.val % 32, by omega⟩) l := by
  rw [funext hg]
  simp only [acc_eq, blkHs_at, blkCo_at, blkSi_at]

theorem tile0_eq (c : Dev nD) (hf : Finite m c) (t : Fin cfg0.N) (r : Fin 384) (l : Fin 128) :
    k0_pay10 (k0_pay4 (blkH m c t) (blkG m c t) (blkW m c t) (blkCs m c t)) (k0_pay6 (blkHs m c t)) (k0_pay8 (blkH m c t) (blkG m c t) (blkW m c t) (blkCs m c t))
      (k0_pay9 (blkH m c t) (blkG m c t) (blkW m c t) (blkCs m c t) (blkHs m c t))
      (View.ld (blkGn m c t) (Rect.unit ![0, 0] ![1, 128] inb_S3x128_S1x128_0_0)) (blkCo m c t) (blkSi m c t) (ix3 0 r l)
      = refRow m c t r ⟨512 + l.val, by omega⟩ := by
  refine (tile0_at ..).trans ((tile_eq m c t r l 512 (by omega) _ _ fun l => ?_).trans
    (Model.qkv_query (prow m c t r) (fun d => argQ m c (ix1 d)) (fun d => argK m c (ix1 d)) (fun e => Ideal.cos (ang (tok t r) e)) (fun e => Ideal.sin (ang (tok t r) e)) (prow_real m c hf t r) 0 l))
  refine Eq.trans ?_ (gain_q m c t 0 (by decide) l)
  pointwise

theorem tile1_eq (c : Dev nD) (hf : Finite m c) (t : Fin cfg0.N) (r : Fin 384) (l : Fin 128) :
    k0_pay13 (k0_pay11 (k0_pay2 (blkH m c t) (blkG m c t) (blkW m c t) (blkCs m c t)))
      (k0_pay12 (k0_pay2 (blkH m c t) (blkG m c t) (blkW m c t) (blkCs m c t)) (blkHs m c t))
      (View.ld (blkGn m c t) (Rect.unit ![1, 0] ![1, 128] inb_S3x128_S1x128_1_0)) (blkCo m c t) (blkSi m c t) (ix3 0 r l)
      = refRow m c t r ⟨640 + l.val, by omega⟩ := by
  refine (tile1_at ..).trans ((tile_eq m c t r l 640 (by omega) _ _ fun l => ?_).trans
    (Model.qkv_query (prow m c t r) (fun d => argQ m c (ix1 d)) (fun d => argK m c (ix1 d)) (fun e => Ideal.cos (ang (tok t r) e)) (fun e => Ideal.sin (ang (tok t r) e)) (prow_real m c hf t r) 1 l))
  refine Eq.trans ?_ (gain_q m c t 1 (by decide) l)
  pointwise

theorem tile2_eq (c : Dev nD) (hf : Finite m c) (t : Fin cfg0.N) (r : Fin 384) (l : Fin 128) :
    k0_pay15 (k0_pay14 (k0_pay2 (blkH m c t) (blkG m c t) (blkW m c t) (blkCs m c t)) (blkHs m c t)
      (View.ld (blkGn m c t) (Rect.unit ![2, 0] ![1, 128] inb_S3x128_S1x128_2_0))) (blkCo m c t) (blkSi m c t) (ix3 0 r l)
      = refRow m c t r ⟨768 + l.val, by omega⟩ := by
  refine (tile2_at ..).trans ((tile_eq m c t r l 768 (by omega) _ _ fun l => ?_).trans
    (Model.qkv_key (prow m c t r) (fun d => argQ m c (ix1 d)) (fun d => argK m c (ix1 d)) (fun e => Ideal.cos (ang (tok t r) e)) (fun e => Ideal.sin (ang (tok t r) e)) (prow_real m c hf t r) l))
  refine Eq.trans ?_ (gain_k m c t l)
  pointwise

/-- An index of a stored piece, from its place in the block. -/
theorem piece_idx {k : Nat} (x : (⟨3, ![1, 384, k]⟩ : Shape).Idx) (r : Fin 384) (n : Fin k) (h1 : r.val = (x 1).val) (h2 : n.val = (x 2).val) :
    x = ix3 0 r n :=
  funext fun a => match a with
    | ⟨0, _⟩ => Subsingleton.elim (α := Fin 1) _ _
    | ⟨1, _⟩ => Fin.ext h1.symm
    | ⟨2, _⟩ => Fin.ext h2.symm

theorem qkv_eq (c : Dev nD) (hf : Finite m c) (t : Fin cfg0.N) (y : S1x384x1536.Idx) (r : Fin 384) (n : Fin 1536) (hy : y = ix3 0 r n) :
    ((dats m 0 c).after 9 t : Vec Ideal S1x384x1536 .bf16) y = refRow m c t r n := by
  have hy1 : (y 1).val = r.val := by rw [hy]; rfl
  have hy2 : (y 2).val = n.val := by rw [hy]; rfl
  clear hy
  rw [after0_9]; unfold outsAt0; frame_out
  canon_tiles x h using View.cover_of_tiledBy _ ![1, 384, 128] (by sl_kernel_rfl) _
  · rw [piece_idx x r ⟨n.val - 896, by omega⟩ (by omega) (by show n.val - 896 = _; omega)]
    refine (tail_at ..).trans ?_
    refine (plain_eq m c t r _ (by right; show 896 ≤ 896 + _; omega)).trans ?_
    exact congrArg (refRow m c t r) (Fin.ext (by show 896 + (n.val - 896) = n.val; omega))
  · rw [piece_idx x r ⟨n.val - 768, by omega⟩ (by omega) (by show n.val - 768 = _; omega)]
    refine (tile2_eq m c hf t r _).trans ?_
    exact congrArg (refRow m c t r) (Fin.ext (by show 768 + (n.val - 768) = n.val; omega))
  · rw [piece_idx x r ⟨n.val - 640, by omega⟩ (by omega) (by show n.val - 640 = _; omega)]
    refine (tile1_eq m c hf t r _).trans ?_
    exact congrArg (refRow m c t r) (Fin.ext (by show 640 + (n.val - 640) = n.val; omega))
  · rw [piece_idx x r ⟨n.val - 512, by omega⟩ (by omega) (by show n.val - 512 = _; omega)]
    refine (tile0_eq m c hf t r _).trans ?_
    exact congrArg (refRow m c t r) (Fin.ext (by show 512 + (n.val - 512) = n.val; omega))
  · rw [piece_idx x r ⟨n.val, by omega⟩ (by omega) (by show n.val = _; omega)]
    refine (head_at ..).trans ?_
    exact plain_eq m c t r n (by left; omega)

end Cert.NextIdeal.Project

end
-- ==== Proof.InProj.Final.lean ====
/-
  The arrays that the input projection leaves: the reference's four results.
-/
module

public import proofs.«01_k».proof.Proof.InProj.Point
public import proofs.«01_k».proof.Proof.InProj.Ref

@[expose] public section

set_option maxRecDepth 16384

noncomputable section

open Idealize.ShloMosaic Idealize.ShloMosaic.TcCoe Idealize.SL.Sem
open Idealize.ShloMosaic.Pipeline (Dat)

namespace Cert.NextIdeal.Project
open Cert.NextIdeal Cert.NextIdeal.Gen
open Cert.NextReferenceIdeal.Project (outQkv outD outVb outVc outQkv_at outD_at outVb_at outVc_at qkv_at ang)

variable (m : (ℓ : Loc nD τ sig) → Buf (Elt Ideal) ℓ)

/-- The reference's results, of the kernel's arguments. -/
abbrev REFqkv (c : Dev nD) : FVec Ideal S4x4224x1536 .bf16 := outQkv (argH m c) (argG m c) (argW m c) (argQ m c) (argK m c)
abbrev REFd (c : Dev nD) : FVec Ideal S4x4224x1280 .f32 := outD (argH m c) (argG m c) (argW m c)
abbrev REFvb (c : Dev nD) : FVec Ideal S4x128x4224 .bf16 := outVb (argH m c) (argG m c) (argW m c)
abbrev REFvc (c : Dev nD) : FVec Ideal S4x128x4224 .bf16 := outVc (argH m c) (argG m c) (argW m c)

theorem refRow_eq (c : Dev nD) (t : Fin cfg0.N) (r : Fin 384) (n : Fin 1536) : refRow m c t r n = REFqkv m c (ix3 (bat t) (tok t r) n) :=
  ((outQkv_at ..).trans (qkv_at ..)).symm

theorem d_point (c : Dev nD) (t : Fin cfg0.N) (r : Fin 384) (n : Fin 1280) :
    ((dats m 0 c).after 10 t : Vec Ideal S1x384x1280 .f32) (ix3 0 r n) = REFd m c (ix3 (bat t) (tok t r) n) := by
  rw [after0_10]; unfold outsAt0; frame_out
  exact (d_eq m c t r n).trans (outD_at ..).symm

theorem vb_point (c : Dev nD) (t : Fin cfg0.N) (n : Fin 128) (r : Fin 384) :
    ((dats m 0 c).after 11 t : Vec Ideal S1x128x384 .bf16) (ix3 0 n r) = REFvb m c (ix3 (bat t) n (tok t r)) := by
  rw [after0_11]; unfold outsAt0; frame_out
  exact ((vb_at _ n r).trans ((acc_eq m c t r _).trans (Model.scaled_vb (prow m c t r) n))).trans (outVb_at ..).symm

theorem vc_point (c : Dev nD) (t : Fin cfg0.N) (n : Fin 128) (r : Fin 384) :
    ((dats m 0 c).after 12 t : Vec Ideal S1x128x384 .bf16) (ix3 0 n r) = REFvc m c (ix3 (bat t) n (tok t r)) := by
  rw [after0_12]; unfold outsAt0; frame_out
  exact ((vc_at _ n r).trans ((acc_eq m c t r _).trans (Model.scaled_vc (prow m c t r) n))).trans (outVc_at ..).symm

theorem final_qkv (c : Dev nD) (hf : Finite m c) : (dats m 0 c).arrAt 9 cfg0.N = REFqkv m c := by
  refine (dats m 0 c).arrAt_eq_of_covers 9 _ (by decide +kernel) fun t _ y => ?_
  blk_simp
  have hy : y = (ix3 0 (y 1) (y 2) : S1x384x1536.Idx) := piece_idx y _ _ rfl rfl
  refine (qkv_eq m c hf t y (y 1) (y 2) hy).trans ((refRow_eq m c t (y 1) (y 2)).trans (congrArg (REFqkv m c) (funext fun a => Fin.ext ?_)))
  have e := (idx t).1
  have h0 : (y 0).val < 1 := (y 0).isLt
  match a with
  | ⟨0, _⟩ => show t.val / 11 = win0_9.index t 0 * 1 + 1 * (y 0).val; rw [e]; show _ = t.val / 11 * 1 + 1 * (y 0).val; omega
  | ⟨1, _⟩ => show t.val % 11 * 384 + (y 1).val = win0_9.index t 1 * 384 + 1 * (y 1).val; rw [e]; show _ = t.val % 11 * 384 + 1 * (y 1).val; omega
  | ⟨2, _⟩ => show (y 2).val = win0_9.index t 2 * 1536 + 1 * (y 2).val; rw [e]; show _ = 0 * 1536 + 1 * (y 2).val; omega

theorem final_d (c : Dev nD) : (dats m 0 c).arrAt 10 cfg0.N = REFd m c := by
  refine (dats m 0 c).arrAt_eq_of_covers 10 _ (by decide +kernel) fun t _ y => ?_
  blk_simp
  have hy : y = (ix3 0 (y 1) (y 2) : S1x384x1280.Idx) := piece_idx y _ _ rfl rfl
  rw [hy]
  refine (d_point m c t (y 1) (y 2)).trans (congrArg (REFd m c) (funext fun a => Fin.ext ?_))
  have e := (idx t).2.1
  match a with
  | ⟨0, _⟩ => show t.val / 11 = win0_10.index t 0 * 1 + 1 * 0; rw [e]; show _ = t.val / 11 * 1 + 1 * 0; omega
  | ⟨1, _⟩ => show t.val % 11 * 384 + (y 1).val = win0_10.index t 1 * 384 + 1 * (y 1).val; rw [e]; show _ = t.val % 11 * 384 + 1 * (y 1).val; omega
  | ⟨2, _⟩ => show (y 2).val = win0_10.index t 2 * 1280 + 1 * (y 2).val; rw [e]; show _ = 0 * 1280 + 1 * (y 2).val; omega

/-- An index of a transposed block. -/
theorem turned_idx (x : S1x128x384.Idx) : x = ix3 0 (x 1) (x 2) :=
  funext fun a => match a with
    | ⟨0, _⟩ => Subsingleton.elim (α := Fin 1) _ _
    | ⟨1, _⟩ => rfl
    | ⟨2, _⟩ => rfl

theorem final_vb (c : Dev nD) : (dats m 0 c).arrAt 11 cfg0.N = REFvb m c := by
  refine (dats m 0 c).arrAt_eq_of_covers 11 _ (by decide +kernel) fun t _ y => ?_
  blk_simp
  rw [turned_idx y]
  refine (vb_point m c t (y 1) (y 2)).trans (congrArg (REFvb m c) (funext fun a => Fin.ext ?_))
  have e := (idx t).2.2.1
  match a with
  | ⟨0, _⟩ => show t.val / 11 = win0_11.index t 0 * 1 + 1 * 0; rw [e]; show _ = t.val / 11 * 1 + 1 * 0; omega
  | ⟨1, _⟩ => show (y 1).val = win0_11.index t 1 * 128 + 1 * (y 1).val; rw [e]; show _ = 0 * 128 + 1 * (y 1).val; omega
  | ⟨2, _⟩ => show t.val % 11 * 384 + (y 2).val = win0_11.index t 2 * 384 + 1 * (y 2).val; rw [e]; show _ = t.val % 11 * 384 + 1 * (y 2).val; omega

theorem final_vc (c : Dev nD) : (dats m 0 c).arrAt 12 cfg0.N = REFvc m c := by
  refine (dats m 0 c).arrAt_eq_of_covers 12 _ (by decide +kernel) fun t _ y => ?_
  blk_simp
  rw [turned_idx y]
  refine (vc_point m c t (y 1) (y 2)).trans (congrArg (REFvc m c) (funext fun a => Fin.ext ?_))
  have e := (idx t).2.2.2.1
  match a with
  | ⟨0, _⟩ => show t.val / 11 = win0_12.index t 0 * 1 + 1 * 0; rw [e]; show _ = t.val / 11 * 1 + 1 * 0; omega
  | ⟨1, _⟩ => show (y 1).val = win0_12.index t 1 * 128 + 1 * (y 1).val; rw [e]; show _ = 0 * 128 + 1 * (y 1).val; omega
  | ⟨2, _⟩ => show t.val % 11 * 384 + (y 2).val = win0_12.index t 2 * 384 + 1 * (y 2).val; rw [e]; show _ = t.val % 11 * 384 + 1 * (y 2).val; omega

end Cert.NextIdeal.Project

end
-- ==== Proof.InProj.FirstRow.lean ====
/-
  What one grid point of the first layer's input projection stores, in terms of its blocks.
-/
module

public import proofs.«01_k».proof.Proof.Gen.InProjIdeal.Value
public import proofs.«01_k».proof.Proof.InProj.Lane

@[expose] public section

set_option maxRecDepth 16384

noncomputable section

open Idealize.ShloMosaic Idealize.ShloMosaic.TcCoe Idealize.SL.Sem

namespace Cert.InProjIdeal.Project
open Cert.InProjIdeal Cert.InProjIdeal.Gen Cert.InProjIdeal.Facts

variable (i : grid0.Coords) (v0 : Vec Ideal S1x384x1024 .f32) (v2 : Vec Ideal S128x1024 .f32) (v11 : Vec Ideal S1x1024 .f32)
  (v17 : Vec Ideal S1024x1536 .bf16) (v20 : Vec Ideal S1x1536 .f32) (v23 : FVec Ideal S384x1536 .f32) (hs : Vec Ideal S128x128 .bf16)
  (gn : Vec Ideal S1x128 .f32) (co si : Vec Ideal S384x128 .f32)

/-- Away from the first tile, the rows are those of the input's block. -/
theorem rows_next (hi : (i 1).val ≠ 0) (r : Fin 384) (k : Fin 1024) : k0_pay3 i v0 v2 (ix2 r k) = v0 (ix3 0 r k) := by
  have hb : Scalar.cmpi (w := 32) .eq (BitVec.ofNat 32 (i 1).val) 0#32 = 0#1 := by
    have : ∀ j : Fin 11, j.val ≠ 0 → Scalar.cmpi (w := 32) .eq (BitVec.ofNat 32 j.val) 0#32 = 0#1 := by decide +kernel
    exact this (i 1) hi
  unfold k0_pay3
  dsimp only
  rw [hb]
  pointwise

/-- In the first tile, 128 rows of padding and meta tokens come before the first 256 of the input. -/
theorem rows_pad (hi : (i 1).val = 0) (r : Fin 384) (k : Fin 1024) (hr : r.val < 128) :
    k0_pay3 i v0 v2 (ix2 r k) = v2 (ix2 ⟨r.val, hr⟩ k) := by
  have hb : Scalar.cmpi (w := 32) .eq (BitVec.ofNat 32 (i 1).val) 0#32 = 1#1 := by rw [hi]; decide +kernel
  unfold k0_pay3
  dsimp only
  rw [hb]
  pointwise [hr]

theorem rows_first (hi : (i 1).val = 0) (r : Fin 384) (k : Fin 1024) (hr : ¬r.val < 128) :
    k0_pay3 i v0 v2 (ix2 r k) = v0 (ix3 0 ⟨r.val - 128, by omega⟩ k) := by
  have hb : Scalar.cmpi (w := 32) .eq (BitVec.ofNat 32 (i 1).val) 0#32 = 1#1 := by rw [hi]; decide +kernel
  unfold k0_pay3
  dsimp only
  rw [hb]
  pointwise [hr]

theorem h_at (r : Fin 384) (k : Fin 1024) : k0_pay4 i v0 v2 (ix3 0 r k) = k0_pay3 i v0 v2 (ix2 r k) := by
  pointwise [k0_pay4]

theorem normed_at (r : Fin 384) (k : Fin 1024) :
    k0_pay5 i v0 v2 v11 (ix2 r k) = Model.rms (fun k => k0_pay3 i v0 v2 (ix2 r k)) (fun k => v11 (ix2 0 k)) k := by
  pointwise [k0_pay5]; rfl

theorem acc_at (r : Fin 384) (n : Fin 1536) :
    k0_pay6 i v0 v2 v11 v17 v20 (ix2 r n)
      = Model.row (Model.rms (fun k => k0_pay3 i v0 v2 (ix2 r k)) (fun k => v11 (ix2 0 k))) (fun k n => v17 (ix2 k n)) n * v20 (ix2 0 n) := by
  pointwise [k0_pay6]
  simp only [normed_at]
  rfl

theorem head_at (r : Fin 384) (n : Fin 512) :
    k0_pay8 (k0_pay7 i v0 v2 v11 v17 v20) (ix3 0 r n) = k0_pay6 i v0 v2 v11 v17 v20 (ix2 r ⟨n, by omega⟩) := by
  pointwise [k0_pay8, k0_pay7]

theorem tile0_at (r : Fin 384) (l : Fin 128) :
    k0_pay9 v23 hs gn co si (ix3 0 r l)
      = Model.laneTurn (Model.laneNorm (fun i => v23 (ix2 r ⟨512 + i, by omega⟩)) (fun i l => hs (ix2 i l)) (fun l => gn (ix2 0 l)))
          (fun l => co (ix2 r l)) (fun l => si (ix2 r l)) l := by
  pointwise [k0_pay9]
  rfl

theorem tile1_at (r : Fin 384) (l : Fin 128) :
    k0_pay13 (k0_pay10 v23) (k0_pay11 v23) (k0_pay12 hs) gn co si (ix3 0 r l)
      = Model.laneTurn (Model.laneNorm (fun i => v23 (ix2 r ⟨640 + i, by omega⟩)) (fun i l => hs (ix2 i l)) (fun l => gn (ix2 0 l)))
          (fun l => co (ix2 r l)) (fun l => si (ix2 r l)) l := by
  pointwise [k0_pay13, k0_pay10, k0_pay11, k0_pay12]
  rfl

theorem tile2_at (r : Fin 384) (l : Fin 128) :
    k0_pay16 (k0_pay14 v23) (k0_pay15 v23 hs) (Scalar.ofBits .f32 0x3C800000#32) gn co si (ix3 0 r l)
      = Model.laneTurn (Model.laneNorm (fun i => v23 (ix2 r ⟨768 + i, by omega⟩)) (fun i l => hs (ix2 i l)) (fun l => gn (ix2 0 l)))
          (fun l => co (ix2 r l)) (fun l => si (ix2 r l)) l := by
  pointwise [k0_pay16, k0_pay14, k0_pay15]
  rfl

theorem tail_at (r : Fin 384) (n : Fin 640) : k0_pay17 v23 (ix3 0 r n) = v23 (ix2 r ⟨896 + n, by omega⟩) := by
  pointwise [k0_pay17]
theorem vb_at (n : Fin 128) (r : Fin 384) : k0_pay18 v23 (ix3 0 n r) = v23 (ix2 r ⟨896 + n, by omega⟩) := by
  pointwise [k0_pay18]
theorem vc_at (n : Fin 128) (r : Fin 384) : k0_pay1 (k0_pay19 v23) (ix3 0 n r) = v23 (ix2 r ⟨1408 + n, by omega⟩) := by
  pointwise [k0_pay1, k0_pay19]

theorem d_at (wd : Vec Ideal S1024x1280 .bf16) (r : Fin 384) (n : Fin 1280) :
    k0_pay2 (k0_pay5 i v0 v2 v11) wd (ix3 0 r n)
      = Model.row (Model.rms (fun k => k0_pay3 i v0 v2 (ix2 r k)) (fun k => v11 (ix2 0 k))) (fun k n => wd (ix2 k n)) n := by
  pointwise [k0_pay2]
  simp only [normed_at]
  rfl

end Cert.InProjIdeal.Project

end
-- ==== Proof.InProj.FirstRef.lean ====
/-
  What the reference of the first layer's input projection computes: the rows with the padding and the meta tokens in
  front, and the projection of them.
-/
module

public import proofs.«01_k».proof.Proof.Gen.InProjReferenceIdeal.Run
public import proofs.«01_k».proof.Proof.InProj.Ref
public import proofs.«01_k».proof.Proof.InProj.Real

@[expose] public section

set_option maxRecDepth 16384

noncomputable section

open Idealize.ShloMosaic Idealize.ShloMosaic.TcCoe Idealize.SL.Sem

namespace Cert.InProjReferenceIdeal.Project
open Cert.InProjReferenceIdeal Cert.InProjReferenceIdeal.Gen Cert.InProjReferenceIdeal.Facts
open Cert.NextReferenceIdeal.Project (proj qkv outQkv outD outVb outVc)

/-- The rows of the first layer: 112 of padding, the 16 meta tokens, the input. -/
def start (x : FVec Ideal S4x4096x1024 .f32) (e : FVec Ideal S16x1024 .f32) : FVec Ideal S4x4224x1024 .f32 :=
  concatenate S4x4224x1024 1 [⟨S4x112x1024, broadcastInDim S4x112x1024 ![] bcast_S_S4x112x1024 (constant S_ .f32 0x00000000#32)⟩, ⟨S4x16x1024, broadcastInDim S4x16x1024 ![0, 1, 2] bcast_S1x16x1024_S4x16x1024_0_1_2 (broadcastInDim S1x16x1024 ![1, 2] bcast_S16x1024_S1x16x1024_1_2 e)⟩, ⟨S4x4096x1024, x⟩] concatenates_S4x112x1024_S4x16x1024_S4x4096x1024_S4x4224x1024_d1

variable (x : FVec Ideal S4x4096x1024 .f32) (e : FVec Ideal S16x1024 .f32)

theorem start_pad (b : Fin 4) (s : Fin 4224) (k : Fin 1024) (h : s.val < 112) :
    start x e (ix3 b s k) = Ideal.ofBits .f32 0x00000000#32 := by
  pointwise [start, h]

theorem start_meta (b : Fin 4) (s : Fin 4224) (k : Fin 1024) (h : ¬s.val < 112) (h' : s.val < 128) :
    start x e (ix3 b s k) = e (ix2 ⟨s.val - 112, by omega⟩ k) := by
  have : s.val - 112 < 16 := by omega
  pointwise [start, h, this]

theorem start_row (b : Fin 4) (s : Fin 4224) (k : Fin 1024) (h : ¬s.val < 128) :
    start x e (ix3 b s k) = x (ix3 b ⟨s.val - 128, by omega⟩ k) := by
  have h0 : ¬s.val < 112 := by omega
  have h1 : ¬s.val - 112 < 16 := by omega
  pointwise [start, h0, h1]
  exact congrArg (fun s => x (ix3 b s k)) (Fin.ext (by show s.val - 112 - 16 = s.val - 128; omega))

theorem start_real (hx : ∀ i, Model.IsReal (x i)) (he : ∀ i, Model.IsReal (e i)) (b : Fin 4) (s : Fin 4224) (k : Fin 1024) :
    Model.IsReal (start x e (ix3 b s k)) := by
  by_cases h : s.val < 112
  · rw [start_pad x e b s k h]
    exact ⟨0, by simp⟩
  by_cases h' : s.val < 128
  · rw [start_meta x e b s k h h']
    exact he _
  · rw [start_row x e b s k h']
    exact hx _

variable (V0 : Valuation τ sig (Elt Ideal))

theorem res_h : Value.res_main_v3 V0 = start (V0 (Proc.devRef .tc main_arg0)) (V0 (Proc.devRef .tc main_arg1)) := rfl
theorem res_proj : Value.res_main_v34 V0 = proj (Value.res_main_v3 V0) (V0 (Proc.devRef .tc main_arg2)) (V0 (Proc.devRef .tc main_arg3)) := rfl
theorem res_qkv : Value.res_main_v220 V0 = qkv (Value.res_main_v34 V0) (V0 (Proc.devRef .tc main_arg4)) (V0 (Proc.devRef .tc main_arg5)) := rfl

/-! The results of the run, of the arguments. -/

variable (m : (ℓ : Loc nD τ sig) → Buf (Elt Ideal) ℓ) (c : Dev nD)

theorem res_out_h : Value.res_main_v3 (StableHlo.launchContents m c)
    = start (m ((c.tc : Thread nD τ).loc main_arg0)) (m ((c.tc : Thread nD τ).loc main_arg1)) := res_h _
theorem res_out_qkv : truncf .bf16 (Value.res_main_v220 (StableHlo.launchContents m c)) bitsLt_bf16_f32
    = outQkv (start (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) := by
  rw [res_qkv, res_proj, res_h]
  rfl
theorem res_out_d : extractStridedSlice S4x4224x1280 ![0, 0, 1536] (Value.res_main_v34 (StableHlo.launchContents m c)) slices_S4x4224x2816_S4x4224x1280_0_0_1536
    = outD (start (m ((c.tc : Thread nD τ).loc main_arg0)) (m ((c.tc : Thread nD τ).loc main_arg1))) (m ((c.tc : Thread nD τ).loc main_arg2)) (m ((c.tc : Thread nD τ).loc main_arg3)) := by
  rw [res_proj, res_h]
  rfl
theorem res_out_vb : truncf .bf16 (transpose S4x128x4224 [0, 2, 1] (extractStridedSlice S4x4224x128 ![0, 0, 896] (Value.res_main_v34 (StableHlo.launchContents m c)) slices_S4x4224x2816_S4x4224x128_0_0_896) transposes_S4x4224x128_S4x128x4224_0_2_1) bitsLt_bf16_f32
    = outVb (start (m ((c.tc : Thread nD τ).loc main_arg0)) (m ((c.tc : Thread nD τ).loc main_arg1))) (m ((c.tc : Thread nD τ).loc main_arg2)) (m ((c.tc : Thread nD τ).loc main_arg3)) := by
  rw [res_proj, res_h]
  rfl
theorem res_out_vc : truncf .bf16 (transpose S4x128x4224 [0, 2, 1] (extractStridedSlice S4x4224x128 ![0, 0, 1408] (Value.res_main_v34 (StableHlo.launchContents m c)) slices_S4x4224x2816_S4x4224x128_0_0_1408) transposes_S4x4224x128_S4x128x4224_0_2_1) bitsLt_bf16_f32
    = outVc (start (m ((c.tc : Thread nD τ).loc main_arg0)) (m ((c.tc : Thread nD τ).loc main_arg1))) (m ((c.tc : Thread nD τ).loc main_arg2)) (m ((c.tc : Thread nD τ).loc main_arg3)) := by
  rw [res_proj, res_h]
  rfl

end Cert.InProjReferenceIdeal.Project

end
-- ==== Proof.InProj.FirstEntry.lean ====
/-
  The arrays that the kernel of the first layer's input projection is given: the arguments, and the tables and weights of the host line.
-/
module

public import proofs.«01_k».proof.Proof.InProj.FirstRow
public import proofs.«01_k».proof.Proof.InProj.FirstRef
public import proofs.«01_k».proof.Proof.InProj.Point

@[expose] public section

set_option maxRecDepth 16384

noncomputable section

open Idealize.ShloMosaic Idealize.ShloMosaic.TcCoe Idealize.SL.Sem
open Idealize.ShloMosaic.Pipeline (Dat)

namespace Cert.InProjIdeal.Project
open Cert.InProjIdeal Cert.InProjIdeal.Gen
open Cert.NextReferenceIdeal.Project (ang proj proj_at)
open Cert.InProjReferenceIdeal.Project (start start_pad start_meta start_row start_real)
open Cert.NextIdeal.Project (cosTab sinTab sameTab scaleTab weightTab weightD gains cosTab_at sinTab_at sameTab_at scaleTab_at weightTab_at weightD_at gains_q gains_k piece_idx)

variable (m : (ℓ : Loc nD τ sig) → Buf (Elt Ideal) ℓ)

/-- The block each window stages at point `t`: the rows of tile `t % 11` of batch `t / 11`, which in the input
  start 128 rows earlier except for the first tile, and the whole weights and tables. -/
theorem idx : ∀ t : Fin cfg0.N, win0_10.index t = ![t.val / 11, t.val % 11, 0]
    ∧ win0_11.index t = ![t.val / 11, t.val % 11, 0]
    ∧ win0_12.index t = ![t.val / 11, 0, t.val % 11]
    ∧ win0_13.index t = ![t.val / 11, 0, t.val % 11]
    ∧ win0_14.index t = ![t.val / 11, t.val % 11, 0]
    ∧ win0_0.index t = ![t.val / 11, t.val % 11 * 384 - 128, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val % 11, 0]
    ∧ win0_7.index t = ![t.val % 11, 0]
    ∧ win0_8.index t = ![0, 0]
    ∧ win0_9.index t = ![0, 0] :=
  (by decide +kernel : ∀ t : Fin grid0.N, win0_10.index t = ![t.val / 11, t.val % 11, 0]
    ∧ win0_11.index t = ![t.val / 11, t.val % 11, 0]
    ∧ win0_12.index t = ![t.val / 11, 0, t.val % 11]
    ∧ win0_13.index t = ![t.val / 11, 0, t.val % 11]
    ∧ win0_14.index t = ![t.val / 11, t.val % 11, 0]
    ∧ win0_0.index t = ![t.val / 11, t.val % 11 * 384 - 128, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val % 11, 0]
    ∧ win0_7.index t = ![t.val % 11, 0]
    ∧ win0_8.index t = ![0, 0]
    ∧ win0_9.index t = ![0, 0])

/-- The tile of point `t`. -/
theorem tile_idx : ∀ t : Fin cfg0.N, (grid0.coords t 1).val = t.val % 11 :=
  (by decide +kernel : ∀ t : Fin grid0.N, (grid0.coords t 1).val = t.val % 11)

theorem N_le (t : Fin cfg0.N) : t.val < 44 := t.isLt

/-- The batch of point `t`, and the token of its row `r`. -/
abbrev bat (t : Fin cfg0.N) : Fin 4 := ⟨t.val / 11, by have := N_le t; omega⟩
abbrev tok (t : Fin cfg0.N) (r : Fin 384) : Fin 4224 := ⟨t.val % 11 * 384 + r.val, by have := N_le t; omega⟩

/-- The arguments, at their literal types. -/
abbrev argX (c : Dev nD) : FVec Ideal S4x4096x1024 .f32 := m ((c.tc : Thread nD τ).loc main_arg0)
abbrev argE (c : Dev nD) : FVec Ideal S16x1024 .f32 := m ((c.tc : Thread nD τ).loc main_arg1)
abbrev argG (c : Dev nD) : FVec Ideal S1024 .f32 := m ((c.tc : Thread nD τ).loc main_arg2)
abbrev argW (c : Dev nD) : FVec Ideal S1024x6912 .f32 := m ((c.tc : Thread nD τ).loc main_arg3)
abbrev argQ (c : Dev nD) : FVec Ideal S64 .f32 := m ((c.tc : Thread nD τ).loc main_arg4)
abbrev argK (c : Dev nD) : FVec Ideal S64 .f32 := m ((c.tc : Thread nD τ).loc main_arg5)

/-- The rows that the layer starts from. -/
abbrev argH (c : Dev nD) : FVec Ideal S4x4224x1024 .f32 := start (argX m c) (argE m c)

/-- The blocks, at their literal types. -/
abbrev blkX (c : Dev nD) (t : Fin cfg0.N) : Vec Ideal S1x384x1024 .f32 := iblk m c 0 t
abbrev blkE (c : Dev nD) (t : Fin cfg0.N) : Vec Ideal S128x1024 .f32 := iblk m c 1 t
abbrev blkCo (c : Dev nD) (t : Fin cfg0.N) : Vec Ideal S384x128 .f32 := iblk m c 6 t
abbrev blkSi (c : Dev nD) (t : Fin cfg0.N) : Vec Ideal S384x128 .f32 := iblk m c 7 t
abbrev blkG (c : Dev nD) (t : Fin cfg0.N) : Vec Ideal S1x1024 .f32 := iblk m c 2 t
abbrev blkW (c : Dev nD) (t : Fin cfg0.N) : Vec Ideal S1024x1536 .bf16 := iblk m c 3 t
abbrev blkD (c : Dev nD) (t : Fin cfg0.N) : Vec Ideal S1024x1280 .bf16 := iblk m c 4 t
abbrev blkCs (c : Dev nD) (t : Fin cfg0.N) : Vec Ideal S1x1536 .f32 := iblk m c 5 t
abbrev blkGn (c : Dev nD) (t : Fin cfg0.N) : Vec Ideal S3x128 .f32 := iblk m c 8 t
abbrev blkHs (c : Dev nD) (t : Fin cfg0.N) : Vec Ideal S128x128 .bf16 := iblk m c 9 t

/-! What the host line leaves in the tables and weights. -/

set_option maxHeartbeats 4000000 in
theorem V_Co (c : Dev nD) : V m c main_v42 = cosTab := by
  unfold V
  after_results
  repeat
    dsimp only [Matrix.cons_val]
    simp -zeta -beta -eta -iota -proj only [↓ StableHlo.readResult, ↓ StableHlo.readPieces, -eq_self]
  rfl
set_option maxHeartbeats 4000000 in
theorem V_Si (c : Dev nD) : V m c main_v52 = sinTab := by
  unfold V
  after_results
  repeat
    dsimp only [Matrix.cons_val]
    simp -zeta -beta -eta -iota -proj only [↓ StableHlo.readResult, ↓ StableHlo.readPieces, -eq_self]
  rfl
set_option maxHeartbeats 4000000 in
theorem V_Hs (c : Dev nD) : V m c main_v63 = sameTab := by
  entry_read
  rfl
set_option maxHeartbeats 4000000 in
theorem V_Cs (c : Dev nD) : V m c main_v68 = scaleTab := by
  unfold V
  after_results
  repeat
    dsimp only [Matrix.cons_val]
    simp -zeta -beta -eta -iota -proj only [↓ StableHlo.readResult, ↓ StableHlo.readPieces, -eq_self]
  rfl
set_option maxHeartbeats 4000000 in
theorem V_W (c : Dev nD) : V m c main_v92 = weightTab (argW m c) := by
  unfold V
  after_results
  repeat
    dsimp only [Matrix.cons_val]
    simp -zeta -beta -eta -iota -proj only [↓ StableHlo.readResult, ↓ StableHlo.readPieces, -eq_self]
  rfl
set_option maxHeartbeats 4000000 in
theorem V_D (c : Dev nD) : V m c main_v94 = weightD (argW m c) := by
  entry_read
  rfl
set_option maxHeartbeats 4000000 in
theorem V_Gn (c : Dev nD) : V m c main_v110 = gains (argQ m c) (argK m c) := by
  unfold V
  after_results
  repeat
    dsimp only [Matrix.cons_val]
    simp -zeta -beta -eta -iota -proj only [↓ StableHlo.readResult, ↓ StableHlo.readPieces, -eq_self]
  rfl
set_option maxHeartbeats 4000000 in
theorem V_G (c : Dev nD) : V m c main_v111 = broadcastInDim S1x1024 ![1] bcast_S1024_S1x1024_1 (argG m c) := by
  entry_read
  rfl
theorem V_X (c : Dev nD) : V m c main_arg0 = argX m c := by
  rfl
theorem V_E (c : Dev nD) : V m c main_v1 = concatenate S128x1024 0 [⟨S112x1024, broadcastInDim S112x1024 ![] bcast_S_S112x1024 (constant S_ .f32 0x00000000#32)⟩, ⟨S16x1024, argE m c⟩] concatenates_S112x1024_S16x1024_S128x1024_d0 := by
  entry_read
  rfl

end Cert.InProjIdeal.Project

end
-- ==== Proof.InProj.FirstBlocks.lean ====
/-
  The blocks that the first layer's input projection reads at a point, and its projections and finite rows.
-/
module

public import proofs.«01_k».proof.Proof.InProj.FirstEntry

@[expose] public section

set_option maxRecDepth 16384

noncomputable section

open Idealize.ShloMosaic Idealize.ShloMosaic.TcCoe Idealize.SL.Sem
open Idealize.ShloMosaic.Pipeline (Dat)

namespace Cert.InProjIdeal.Project
open Cert.InProjIdeal Cert.InProjIdeal.Gen
open Cert.NextReferenceIdeal.Project (ang proj proj_at)
open Cert.InProjReferenceIdeal.Project (start start_pad start_meta start_row start_real)
open Cert.NextIdeal.Project (cosTab sinTab sameTab scaleTab weightTab weightD gains cosTab_at sinTab_at sameTab_at scaleTab_at weightTab_at weightD_at gains_q gains_k piece_idx)

variable (m : (ℓ : Loc nD τ sig) → Buf (Elt Ideal) ℓ)

/-! What each block holds. -/

theorem blkX_at (c : Dev nD) (t : Fin cfg0.N) (r : Fin 384) (k : Fin 1024) (s : Fin 4096) (hs : s.val = t.val % 11 * 384 - 128 + r.val) :
    blkX m c t (ix3 0 r k) = argX m c (ix3 (bat t) s k) := by
  have e := (idx t).2.2.2.2.2.1
  show V m c main_arg0 ((win0_0.blk t).view.emb (ix3 0 r k)) = _
  rw [V_X]
  refine congrArg (argX m c) (funext fun a => Fin.ext ?_)
  match a with
  | ⟨0, _⟩ => show win0_0.index t 0 + 1 * 0 = t.val / 11; rw [e]; rfl
  | ⟨1, _⟩ => show win0_0.index t 1 + 1 * r.val = s.val; rw [e, hs]; show t.val % 11 * 384 - 128 + 1 * r.val = _; omega
  | ⟨2, _⟩ => show win0_0.index t 2 + 1 * k.val = k.val; rw [e]; show 0 + 1 * k.val = _; omega

theorem blkE_eq (c : Dev nD) (t : Fin cfg0.N) (r : Fin 128) (k : Fin 1024) : blkE m c t (ix2 r k) = (V m c main_v1 : FVec Ideal S128x1024 .f32) (ix2 r k) := by
  have e := (idx t).2.2.2.2.2.2.1
  refine congrArg (V m c main_v1 : FVec Ideal S128x1024 .f32) (?_ : _ = ix2 r k)
  refine funext fun a => Fin.ext ?_
  match a with
  | ⟨0, _⟩ => show win0_1.index t 0 * 128 + 1 * r.val = r.val; rw [e]; show 0 * 128 + 1 * r.val = _; omega
  | ⟨1, _⟩ => show win0_1.index t 1 * 1024 + 1 * k.val = k.val; rw [e]; show 0 * 1024 + 1 * k.val = _; omega

theorem blkE_pad (c : Dev nD) (t : Fin cfg0.N) (r : Fin 128) (k : Fin 1024) (h : r.val < 112) : blkE m c t (ix2 r k) = Ideal.ofBits .f32 0x00000000#32 := by
  rw [blkE_eq, V_E]
  pointwise [h]

theorem blkE_meta (c : Dev nD) (t : Fin cfg0.N) (r : Fin 128) (k : Fin 1024) (h : ¬r.val < 112) :
    blkE m c t (ix2 r k) = argE m c (ix2 ⟨r.val - 112, by omega⟩ k) := by
  rw [blkE_eq, V_E]
  pointwise [h]

/-- The rows of point `t` are the layer's. -/
theorem rows_eq (c : Dev nD) (t : Fin cfg0.N) (r : Fin 384) (k : Fin 1024) :
    k0_pay3 (grid0.coords t) (blkX m c t) (blkE m c t) (ix2 r k) = argH m c (ix3 (bat t) (tok t r) k) := by
  have hN := N_le t
  have hi := tile_idx t
  by_cases h0 : t.val % 11 = 0
  · by_cases hr : r.val < 128
    · rw [rows_pad _ _ _ (hi.trans h0) r k hr]
      by_cases hp : r.val < 112
      · exact (blkE_pad m c t ⟨r.val, hr⟩ k hp).trans (start_pad _ _ _ (tok t r) k (by show t.val % 11 * 384 + r.val < 112; omega)).symm
      · refine (blkE_meta m c t ⟨r.val, hr⟩ k hp).trans (Eq.trans ?_ (start_meta _ _ _ (tok t r) k (by show ¬(t.val % 11 * 384 + r.val < 112); omega) (by show t.val % 11 * 384 + r.val < 128; omega)).symm)
        exact congrArg (fun s => argE m c (ix2 s k)) (Fin.ext (by show r.val - 112 = t.val % 11 * 384 + r.val - 112; omega))
    · rw [rows_first _ _ _ (hi.trans h0) r k hr]
      refine Eq.trans ?_ (start_row _ _ _ (tok t r) k (by show ¬(t.val % 11 * 384 + r.val < 128); omega)).symm
      exact blkX_at m c t _ k _ (by show t.val % 11 * 384 + r.val - 128 = t.val % 11 * 384 - 128 + (r.val - 128); omega)
  · rw [rows_next _ _ _ (by rw [hi]; exact h0) r k]
    refine Eq.trans ?_ (start_row _ _ _ (tok t r) k (by show ¬(t.val % 11 * 384 + r.val < 128); omega)).symm
    exact blkX_at m c t _ k _ (by show t.val % 11 * 384 + r.val - 128 = t.val % 11 * 384 - 128 + r.val; omega)
theorem blkCo_at (c : Dev nD) (t : Fin cfg0.N) (r : Fin 384) (l : Fin 128) :
    blkCo m c t (ix2 r l) = Ideal.cos (ang (tok t r) ⟨l.val % 32, by omega⟩) := by
  have e := (idx t).2.2.2.2.2.2.2.2.2.2.2.1
  refine (congrArg (V m c main_v42 : FVec Ideal S4224x128 .f32) (?_ : _ = ix2 (tok t r) l)).trans ?_
  · refine funext fun a => Fin.ext ?_
    match a with
    | ⟨0, _⟩ => show win0_6.index t 0 * 384 + 1 * r.val = t.val % 11 * 384 + r.val; rw [e]; show t.val % 11 * 384 + 1 * r.val = _; omega
    | ⟨1, _⟩ => show win0_6.index t 1 * 128 + 1 * l.val = l.val; rw [e]; show 0 * 128 + 1 * l.val = _; omega
  · rw [V_Co]
    exact cosTab_at (tok t r) l
theorem blkSi_at (c : Dev nD) (t : Fin cfg0.N) (r : Fin 384) (l : Fin 128) :
    blkSi m c t (ix2 r l) = if l.val < 64 then -Ideal.sin (ang (tok t r) ⟨l.val % 32, by omega⟩) else Ideal.sin (ang (tok t r) ⟨l.val % 32, by omega⟩) := by
  have e := (idx t).2.2.2.2.2.2.2.2.2.2.2.2.1
  refine (congrArg (V m c main_v52 : FVec Ideal S4224x128 .f32) (?_ : _ = ix2 (tok t r) l)).trans ?_
  · refine funext fun a => Fin.ext ?_
    match a with
    | ⟨0, _⟩ => show win0_7.index t 0 * 384 + 1 * r.val = t.val % 11 * 384 + r.val; rw [e]; show t.val % 11 * 384 + 1 * r.val = _; omega
    | ⟨1, _⟩ => show win0_7.index t 1 * 128 + 1 * l.val = l.val; rw [e]; show 0 * 128 + 1 * l.val = _; omega
  · rw [V_Si]
    exact sinTab_at (tok t r) l
theorem blkG_at (c : Dev nD) (t : Fin cfg0.N) (j : Fin 1024) :
    blkG m c t (ix2 0 j) = argG m c (ix1 j) := by
  have e := (idx t).2.2.2.2.2.2.2.1
  refine (congrArg (V m c main_v111 : FVec Ideal S1x1024 .f32) (?_ : _ = ix2 0 j)).trans ?_
  · refine funext fun a => Fin.ext ?_
    match a with
    | ⟨0, _⟩ => show win0_2.index t 0 * 1 + 1 * 0 = 0; rw [e]; show 0 * 1 + 1 * 0 = _; omega
    | ⟨1, _⟩ => show win0_2.index t 1 * 1024 + 1 * j.val = j.val; rw [e]; show 0 * 1024 + 1 * j.val = _; omega
  · rw [V_G]
    pointwise
theorem blkW_at (c : Dev nD) (t : Fin cfg0.N) (i : Fin 1024) (j : Fin 1536) :
    blkW m c t (ix2 i j) = argW m c (ix2 i ⟨(Model.col j).val, by omega⟩) := by
  have e := (idx t).2.2.2.2.2.2.2.2.1
  refine (congrArg (V m c main_v92 : FVec Ideal S1024x1536 .bf16) (?_ : _ = ix2 i j)).trans ?_
  · refine funext fun a => Fin.ext ?_
    match a with
    | ⟨0, _⟩ => show win0_3.index t 0 * 1024 + 1 * i.val = i.val; rw [e]; show 0 * 1024 + 1 * i.val = _; omega
    | ⟨1, _⟩ => show win0_3.index t 1 * 1536 + 1 * j.val = j.val; rw [e]; show 0 * 1536 + 1 * j.val = _; omega
  · rw [V_W]
    exact weightTab_at (argW m c) i j
theorem blkD_at (c : Dev nD) (t : Fin cfg0.N) (i : Fin 1024) (j : Fin 1280) :
    blkD m c t (ix2 i j) = argW m c (ix2 i ⟨1536 + j.val, by omega⟩) := by
  have e := (idx t).2.2.2.2.2.2.2.2.2.1
  refine (congrArg (V m c main_v94 : FVec Ideal S1024x1280 .bf16) (?_ : _ = ix2 i j)).trans ?_
  · refine funext fun a => Fin.ext ?_
    match a with
    | ⟨0, _⟩ => show win0_4.index t 0 * 1024 + 1 * i.val = i.val; rw [e]; show 0 * 1024 + 1 * i.val = _; omega
    | ⟨1, _⟩ => show win0_4.index t 1 * 1280 + 1 * j.val = j.val; rw [e]; show 0 * 1280 + 1 * j.val = _; omega
  · rw [V_D]
    exact weightD_at (argW m c) i j
theorem blkCs_at (c : Dev nD) (t : Fin cfg0.N) (j : Fin 1536) :
    blkCs m c t (ix2 0 j) = Model.scale j := by
  have e := (idx t).2.2.2.2.2.2.2.2.2.2.1
  refine (congrArg (V m c main_v68 : FVec Ideal S1x1536 .f32) (?_ : _ = ix2 0 j)).trans ?_
  · refine funext fun a => Fin.ext ?_
    match a with
    | ⟨0, _⟩ => show win0_5.index t 0 * 1 + 1 * 0 = 0; rw [e]; show 0 * 1 + 1 * 0 = _; omega
    | ⟨1, _⟩ => show win0_5.index t 1 * 1536 + 1 * j.val = j.val; rw [e]; show 0 * 1536 + 1 * j.val = _; omega
  · rw [V_Cs]
    exact scaleTab_at j
theorem blkGn_at (c : Dev nD) (t : Fin cfg0.N) (i : Fin 3) (j : Fin 128) :
    blkGn m c t (ix2 i j) = gains (argQ m c) (argK m c) (ix2 i j) := by
  have e := (idx t).2.2.2.2.2.2.2.2.2.2.2.2.2.1
  refine (congrArg (V m c main_v110 : FVec Ideal S3x128 .f32) (?_ : _ = ix2 i j)).trans ?_
  · refine funext fun a => Fin.ext ?_
    match a with
    | ⟨0, _⟩ => show win0_8.index t 0 * 3 + 1 * i.val = i.val; rw [e]; show 0 * 3 + 1 * i.val = _; omega
    | ⟨1, _⟩ => show win0_8.index t 1 * 128 + 1 * j.val = j.val; rw [e]; show 0 * 128 + 1 * j.val = _; omega
  · rw [V_Gn]

theorem blkHs_at (c : Dev nD) (t : Fin cfg0.N) (i : Fin 128) (j : Fin 128) :
    blkHs m c t (ix2 i j) = Model.laneSame i j := by
  have e := (idx t).2.2.2.2.2.2.2.2.2.2.2.2.2.2
  refine (congrArg (V m c main_v63 : FVec Ideal S128x128 .bf16) (?_ : _ = ix2 i j)).trans ?_
  · refine funext fun a => Fin.ext ?_
    match a with
    | ⟨0, _⟩ => show win0_9.index t 0 * 128 + 1 * i.val = i.val; rw [e]; show 0 * 128 + 1 * i.val = _; omega
    | ⟨1, _⟩ => show win0_9.index t 1 * 128 + 1 * j.val = j.val; rw [e]; show 0 * 128 + 1 * j.val = _; omega
  · rw [V_Hs]
    exact sameTab_at i j

/-- The projection of the row `r` of point `t`. -/
def prow (c : Dev nD) (t : Fin cfg0.N) (r : Fin 384) (n : Fin 2816) : EReal :=
  proj (argH m c) (argG m c) (argW m c) (ix3 (bat t) (tok t r) n)

theorem acc_eq (c : Dev nD) (t : Fin cfg0.N) (r : Fin 384) (n : Fin 1536) :
    k0_pay6 (grid0.coords t) (blkX m c t) (blkE m c t) (blkG m c t) (blkW m c t) (blkCs m c t) (ix2 r n) = Model.scaled (prow m c t r) n := by
  rw [acc_at]
  unfold Model.scaled prow
  rw [proj_at]
  simp only [rows_eq, blkG_at, blkW_at, blkCs_at]
  rfl

theorem d_eq (c : Dev nD) (t : Fin cfg0.N) (r : Fin 384) (n : Fin 1280) :
    k0_pay2 (k0_pay5 (grid0.coords t) (blkX m c t) (blkE m c t) (blkG m c t)) (blkD m c t) (ix3 0 r n) = prow m c t r ⟨1536 + n.val, by omega⟩ := by
  rw [d_at]
  unfold prow
  rw [proj_at]
  simp only [rows_eq, blkG_at, blkD_at]
  rfl

/-- The arguments are finite. -/
def Finite (c : Dev nD) : Prop :=
  (∀ i, Model.IsReal (argX m c i)) ∧ (∀ i, Model.IsReal (argE m c i)) ∧ (∀ i, Model.IsReal (argG m c i)) ∧ ∀ i, Model.IsReal (argW m c i)

theorem prow_real (c : Dev nD) (hf : Finite m c) (t : Fin cfg0.N) (r : Fin 384) (n : Fin 2816) : Model.IsReal (prow m c t r n) := by
  unfold prow
  rw [proj_at]
  exact Model.row_real (fun k => start_real _ _ hf.1 hf.2.1 _ _ k) (fun k => hf.2.2.1 _) (fun k n => hf.2.2.2 _) n

end Cert.InProjIdeal.Project

end
-- ==== Proof.InProj.FirstPoint.lean ====
/-
  What the first layer's input projection stores at a point: the rows of the reference.
-/
module

public import proofs.«01_k».proof.Proof.InProj.FirstBlocks

@[expose] public section

set_option maxRecDepth 16384

noncomputable section

open Idealize.ShloMosaic Idealize.ShloMosaic.TcCoe Idealize.SL.Sem
open Idealize.ShloMosaic.Pipeline (Dat)

namespace Cert.InProjIdeal.Project
open Cert.InProjIdeal Cert.InProjIdeal.Gen
open Cert.NextReferenceIdeal.Project (ang proj proj_at)
open Cert.InProjReferenceIdeal.Project (start start_pad start_meta start_row start_real)
open Cert.NextIdeal.Project (cosTab sinTab sameTab scaleTab weightTab weightD gains cosTab_at sinTab_at sameTab_at scaleTab_at weightTab_at weightD_at gains_q gains_k piece_idx)

variable (m : (ℓ : Loc nD τ sig) → Buf (Elt Ideal) ℓ)

/-- The row of the reference that point `t` stores at its row `r`. -/
abbrev refRow (c : Dev nD) (t : Fin cfg0.N) (r : Fin 384) (n : Fin 1536) : EReal :=
  Model.qkv (prow m c t r) (fun d => argQ m c (ix1 d)) (fun d => argK m c (ix1 d))
    (fun e => Ideal.cos (ang (tok t r) e)) (fun e => Ideal.sin (ang (tok t r) e)) n

theorem gain_q (c : Dev nD) (t : Fin cfg0.N) (a : Fin 3) (ha : a.val < 2) (l : Fin 128) :
    blkGn m c t (ix2 a l) = argQ m c (ix1 (Model.laneDim l)) * Ideal.ofBits .f32 0x3E38AA3B#32 :=
  (blkGn_at m c t a l).trans (gains_q (argQ m c) (argK m c) a ha l)

theorem gain_k (c : Dev nD) (t : Fin cfg0.N) (l : Fin 128) :
    blkGn m c t (ix2 2 l) = argK m c (ix1 (Model.laneDim l)) :=
  (blkGn_at m c t 2 l).trans (gains_k (argQ m c) (argK m c) l)

theorem plain_eq (c : Dev nD) (t : Fin cfg0.N) (r : Fin 384) (n : Fin 1536) (h : n.val < 512 ∨ 896 ≤ n.val) :
    k0_pay6 (grid0.coords t) (blkX m c t) (blkE m c t) (blkG m c t) (blkW m c t) (blkCs m c t) (ix2 r n) = refRow m c t r n :=
  (acc_eq m c t r n).trans (Model.qkv_plain (prow m c t r) _ _ _ _ n h)

/-- One rotated tile, for the gain and the columns it takes. -/
theorem tile_eq (c : Dev nD) (t : Fin cfg0.N) (r : Fin 384) (l : Fin 128) (k : Nat) (hk : k + 128 ≤ 1536) (gn : Fin 128 → EReal)
    (g : Fin 128 → EReal) (hg : ∀ l, gn l = g l) :
    Model.laneTurn (Model.laneNorm (fun i => k0_pay6 (grid0.coords t) (blkX m c t) (blkE m c t) (blkG m c t) (blkW m c t) (blkCs m c t) (ix2 r ⟨k + i.val, by omega⟩))
        (fun i l => blkHs m c t (ix2 i l)) gn) (fun l => blkCo m c t (ix2 r l)) (fun l => blkSi m c t (ix2 r l)) l
      = Model.laneTurn (Model.laneNorm (fun i => Model.scaled (prow m c t r) ⟨k + i.val, by omega⟩) Model.laneSame g)
          (fun l => (fun e => Ideal.cos (ang (tok t r) e)) ⟨l.val % 32, by omega⟩)
          (fun l => if l.val < 64 then -(fun e => Ideal.sin (ang (tok t r) e)) ⟨l.val % 32, by omega⟩ else (fun e => Ideal.sin (ang (tok t r) e)) ⟨l.val % 32, by omega⟩) l := by
  rw [funext hg]
  simp only [acc_eq, blkHs_at, blkCo_at, blkSi_at]

theorem tile0_eq (c : Dev nD) (hf : Finite m c) (t : Fin cfg0.N) (r : Fin 384) (l : Fin 128) :
    k0_pay9 (k0_pay6 (grid0.coords t) (blkX m c t) (blkE m c t) (blkG m c t) (blkW m c t) (blkCs m c t)) (blkHs m c t)
      (View.ld (blkGn m c t) (Rect.unit ![0, 0] ![1, 128] inb_S3x128_S1x128_0_0)) (blkCo m c t) (blkSi m c t) (ix3 0 r l)
      = refRow m c t r ⟨512 + l.val, by omega⟩ := by
  refine (tile0_at ..).trans ((tile_eq m c t r l 512 (by omega) _ _ fun l => ?_).trans
    (Model.qkv_query (prow m c t r) (fun d => argQ m c (ix1 d)) (fun d => argK m c (ix1 d)) (fun e => Ideal.cos (ang (tok t r) e)) (fun e => Ideal.sin (ang (tok t r) e)) (prow_real m c hf t r) 0 l))
  refine Eq.trans ?_ (gain_q m c t 0 (by decide) l)
  pointwise

theorem tile1_eq (c : Dev nD) (hf : Finite m c) (t : Fin cfg0.N) (r : Fin 384) (l : Fin 128) :
    k0_pay13 (k0_pay10 (k0_pay6 (grid0.coords t) (blkX m c t) (blkE m c t) (blkG m c t) (blkW m c t) (blkCs m c t))) (k0_pay11 (k0_pay6 (grid0.coords t) (blkX m c t) (blkE m c t) (blkG m c t) (blkW m c t) (blkCs m c t))) (k0_pay12 (blkHs m c t))
      (View.ld (blkGn m c t) (Rect.unit ![1, 0] ![1, 128] inb_S3x128_S1x128_1_0)) (blkCo m c t) (blkSi m c t) (ix3 0 r l)
      = refRow m c t r ⟨640 + l.val, by omega⟩ := by
  refine (tile1_at ..).trans ((tile_eq m c t r l 640 (by omega) _ _ fun l => ?_).trans
    (Model.qkv_query (prow m c t r) (fun d => argQ m c (ix1 d)) (fun d => argK m c (ix1 d)) (fun e => Ideal.cos (ang (tok t r) e)) (fun e => Ideal.sin (ang (tok t r) e)) (prow_real m c hf t r) 1 l))
  refine Eq.trans ?_ (gain_q m c t 1 (by decide) l)
  pointwise

theorem tile2_eq (c : Dev nD) (hf : Finite m c) (t : Fin cfg0.N) (r : Fin 384) (l : Fin 128) :
    k0_pay16 (k0_pay14 (k0_pay6 (grid0.coords t) (blkX m c t) (blkE m c t) (blkG m c t) (blkW m c t) (blkCs m c t))) (k0_pay15 (k0_pay6 (grid0.coords t) (blkX m c t) (blkE m c t) (blkG m c t) (blkW m c t) (blkCs m c t)) (blkHs m c t)) (Scalar.ofBits .f32 0x3C800000#32)
      (View.ld (blkGn m c t) (Rect.unit ![2, 0] ![1, 128] inb_S3x128_S1x128_2_0)) (blkCo m c t) (blkSi m c t) (ix3 0 r l)
      = refRow m c t r ⟨768 + l.val, by omega⟩ := by
  refine (tile2_at ..).trans ((tile_eq m c t r l 768 (by omega) _ _ fun l => ?_).trans
    (Model.qkv_key (prow m c t r) (fun d => argQ m c (ix1 d)) (fun d => argK m c (ix1 d)) (fun e => Ideal.cos (ang (tok t r) e)) (fun e => Ideal.sin (ang (tok t r) e)) (prow_real m c hf t r) l))
  refine Eq.trans ?_ (gain_k m c t l)
  pointwise

theorem qkv_eq (c : Dev nD) (hf : Finite m c) (t : Fin cfg0.N) (y : S1x384x1536.Idx) (r : Fin 384) (n : Fin 1536) (hy : y = ix3 0 r n) :
    ((dats m 0 c).after 10 t : Vec Ideal S1x384x1536 .bf16) y = refRow m c t r n := by
  have hy1 : (y 1).val = r.val := by rw [hy]; rfl
  have hy2 : (y 2).val = n.val := by rw [hy]; rfl
  clear hy
  rw [after0_10]; unfold outsAt0; frame_out
  canon_tiles x h using View.cover_of_tiledBy _ ![1, 384, 128] (by sl_kernel_rfl) _
  · rw [piece_idx x r ⟨n.val - 896, by omega⟩ (by omega) (by show n.val - 896 = _; omega)]
    refine (tail_at ..).trans ?_
    refine (plain_eq m c t r _ (by right; show 896 ≤ 896 + _; omega)).trans ?_
    exact congrArg (refRow m c t r) (Fin.ext (by show 896 + (n.val - 896) = n.val; omega))
  · rw [piece_idx x r ⟨n.val - 768, by omega⟩ (by omega) (by show n.val - 768 = _; omega)]
    refine (tile2_eq m c hf t r _).trans ?_
    exact congrArg (refRow m c t r) (Fin.ext (by show 768 + (n.val - 768) = n.val; omega))
  · rw [piece_idx x r ⟨n.val - 640, by omega⟩ (by omega) (by show n.val - 640 = _; omega)]
    refine (tile1_eq m c hf t r _).trans ?_
    exact congrArg (refRow m c t r) (Fin.ext (by show 640 + (n.val - 640) = n.val; omega))
  · rw [piece_idx x r ⟨n.val - 512, by omega⟩ (by omega) (by show n.val - 512 = _; omega)]
    refine (tile0_eq m c hf t r _).trans ?_
    exact congrArg (refRow m c t r) (Fin.ext (by show 512 + (n.val - 512) = n.val; omega))
  · rw [piece_idx x r ⟨n.val, by omega⟩ (by omega) (by show n.val = _; omega)]
    refine (head_at ..).trans ?_
    exact plain_eq m c t r n (by left; omega)

end Cert.InProjIdeal.Project

end
-- ==== Proof.InProj.FirstFinal.lean ====
/-
  The arrays that the first layer's input projection leaves: the reference's five results.
-/
module

public import proofs.«01_k».proof.Proof.InProj.FirstPoint
public import proofs.«01_k».proof.Proof.InProj.Final

@[expose] public section

set_option maxRecDepth 16384

noncomputable section

open Idealize.ShloMosaic Idealize.ShloMosaic.TcCoe Idealize.SL.Sem
open Idealize.ShloMosaic.Pipeline (Dat)

namespace Cert.InProjIdeal.Project
open Cert.InProjIdeal Cert.InProjIdeal.Gen
open Cert.NextReferenceIdeal.Project (outQkv outD outVb outVc outQkv_at outD_at outVb_at outVc_at qkv_at ang)
open Cert.NextIdeal.Project (piece_idx turned_idx)
open Cert.InProjReferenceIdeal.Project (start)

variable (m : (ℓ : Loc nD τ sig) → Buf (Elt Ideal) ℓ)

/-- The reference's results, of the kernel's arguments. -/
abbrev REFqkv (c : Dev nD) : FVec Ideal S4x4224x1536 .bf16 := outQkv (argH m c) (argG m c) (argW m c) (argQ m c) (argK m c)
abbrev REFd (c : Dev nD) : FVec Ideal S4x4224x1280 .f32 := outD (argH m c) (argG m c) (argW m c)
abbrev REFvb (c : Dev nD) : FVec Ideal S4x128x4224 .bf16 := outVb (argH m c) (argG m c) (argW m c)
abbrev REFvc (c : Dev nD) : FVec Ideal S4x128x4224 .bf16 := outVc (argH m c) (argG m c) (argW m c)

theorem refRow_eq (c : Dev nD) (t : Fin cfg0.N) (r : Fin 384) (n : Fin 1536) : refRow m c t r n = REFqkv m c (ix3 (bat t) (tok t r) n) :=
  ((outQkv_at ..).trans (qkv_at ..)).symm

theorem d_point (c : Dev nD) (t : Fin cfg0.N) (r : Fin 384) (n : Fin 1280) :
    ((dats m 0 c).after 11 t : Vec Ideal S1x384x1280 .f32) (ix3 0 r n) = REFd m c (ix3 (bat t) (tok t r) n) := by
  rw [after0_11]; unfold outsAt0; frame_out
  exact (d_eq m c t r n).trans (outD_at ..).symm

theorem vb_point (c : Dev nD) (t : Fin cfg0.N) (n : Fin 128) (r : Fin 384) :
    ((dats m 0 c).after 12 t : Vec Ideal S1x128x384 .bf16) (ix3 0 n r) = REFvb m c (ix3 (bat t) n (tok t r)) := by
  rw [after0_12]; unfold outsAt0; frame_out
  exact ((vb_at _ n r).trans ((acc_eq m c t r _).trans (Model.scaled_vb (prow m c t r) n))).trans (outVb_at ..).symm

theorem vc_point (c : Dev nD) (t : Fin cfg0.N) (n : Fin 128) (r : Fin 384) :
    ((dats m 0 c).after 13 t : Vec Ideal S1x128x384 .bf16) (ix3 0 n r) = REFvc m c (ix3 (bat t) n (tok t r)) := by
  rw [after0_13]; unfold outsAt0; frame_out
  exact ((vc_at _ n r).trans ((acc_eq m c t r _).trans (Model.scaled_vc (prow m c t r) n))).trans (outVc_at ..).symm

theorem h_point (c : Dev nD) (t : Fin cfg0.N) (r : Fin 384) (k : Fin 1024) :
    ((dats m 0 c).after 14 t : Vec Ideal S1x384x1024 .f32) (ix3 0 r k) = argH m c (ix3 (bat t) (tok t r) k) := by
  rw [after0_14]; unfold outsAt0; frame_out
  exact (h_at _ _ _ r k).trans (rows_eq m c t r k)

theorem final_qkv (c : Dev nD) (hf : Finite m c) : (dats m 0 c).arrAt 10 cfg0.N = REFqkv m c := by
  refine (dats m 0 c).arrAt_eq_of_covers 10 _ (by decide +kernel) fun t _ y => ?_
  blk_simp
  have hy : y = (ix3 0 (y 1) (y 2) : S1x384x1536.Idx) := piece_idx y _ _ rfl rfl
  refine (qkv_eq m c hf t y (y 1) (y 2) hy).trans ((refRow_eq m c t (y 1) (y 2)).trans (congrArg (REFqkv m c) (funext fun a => Fin.ext ?_)))
  have e := (idx t).1
  have h0 : (y 0).val < 1 := (y 0).isLt
  match a with
  | ⟨0, _⟩ => show t.val / 11 = win0_10.index t 0 * 1 + 1 * (y 0).val; rw [e]; show _ = t.val / 11 * 1 + 1 * (y 0).val; omega
  | ⟨1, _⟩ => show t.val % 11 * 384 + (y 1).val = win0_10.index t 1 * 384 + 1 * (y 1).val; rw [e]; show _ = t.val % 11 * 384 + 1 * (y 1).val; omega
  | ⟨2, _⟩ => show (y 2).val = win0_10.index t 2 * 1536 + 1 * (y 2).val; rw [e]; show _ = 0 * 1536 + 1 * (y 2).val; omega

theorem final_d (c : Dev nD) : (dats m 0 c).arrAt 11 cfg0.N = REFd m c := by
  refine (dats m 0 c).arrAt_eq_of_covers 11 _ (by decide +kernel) fun t _ y => ?_
  blk_simp
  have hy : y = (ix3 0 (y 1) (y 2) : S1x384x1280.Idx) := piece_idx y _ _ rfl rfl
  rw [hy]
  refine (d_point m c t (y 1) (y 2)).trans (congrArg (REFd m c) (funext fun a => Fin.ext ?_))
  have e := (idx t).2.1
  match a with
  | ⟨0, _⟩ => show t.val / 11 = win0_11.index t 0 * 1 + 1 * 0; rw [e]; show _ = t.val / 11 * 1 + 1 * 0; omega
  | ⟨1, _⟩ => show t.val % 11 * 384 + (y 1).val = win0_11.index t 1 * 384 + 1 * (y 1).val; rw [e]; show _ = t.val % 11 * 384 + 1 * (y 1).val; omega
  | ⟨2, _⟩ => show (y 2).val = win0_11.index t 2 * 1280 + 1 * (y 2).val; rw [e]; show _ = 0 * 1280 + 1 * (y 2).val; omega

theorem final_vb (c : Dev nD) : (dats m 0 c).arrAt 12 cfg0.N = REFvb m c := by
  refine (dats m 0 c).arrAt_eq_of_covers 12 _ (by decide +kernel) fun t _ y => ?_
  blk_simp
  rw [turned_idx y]
  refine (vb_point m c t (y 1) (y 2)).trans (congrArg (REFvb m c) (funext fun a => Fin.ext ?_))
  have e := (idx t).2.2.1
  match a with
  | ⟨0, _⟩ => show t.val / 11 = win0_12.index t 0 * 1 + 1 * 0; rw [e]; show _ = t.val / 11 * 1 + 1 * 0; omega
  | ⟨1, _⟩ => show (y 1).val = win0_12.index t 1 * 128 + 1 * (y 1).val; rw [e]; show _ = 0 * 128 + 1 * (y 1).val; omega
  | ⟨2, _⟩ => show t.val % 11 * 384 + (y 2).val = win0_12.index t 2 * 384 + 1 * (y 2).val; rw [e]; show _ = t.val % 11 * 384 + 1 * (y 2).val; omega

theorem final_vc (c : Dev nD) : (dats m 0 c).arrAt 13 cfg0.N = REFvc m c := by
  refine (dats m 0 c).arrAt_eq_of_covers 13 _ (by decide +kernel) fun t _ y => ?_
  blk_simp
  rw [turned_idx y]
  refine (vc_point m c t (y 1) (y 2)).trans (congrArg (REFvc m c) (funext fun a => Fin.ext ?_))
  have e := (idx t).2.2.2.1
  match a with
  | ⟨0, _⟩ => show t.val / 11 = win0_13.index t 0 * 1 + 1 * 0; rw [e]; show _ = t.val / 11 * 1 + 1 * 0; omega
  | ⟨1, _⟩ => show (y 1).val = win0_13.index t 1 * 128 + 1 * (y 1).val; rw [e]; show _ = 0 * 128 + 1 * (y 1).val; omega
  | ⟨2, _⟩ => show t.val % 11 * 384 + (y 2).val = win0_13.index t 2 * 384 + 1 * (y 2).val; rw [e]; show _ = t.val % 11 * 384 + 1 * (y 2).val; omega

theorem final_h (c : Dev nD) : (dats m 0 c).arrAt 14 cfg0.N = argH m c := by
  refine (dats m 0 c).arrAt_eq_of_covers 14 _ (by decide +kernel) fun t _ y => ?_
  blk_simp
  have hy : y = (ix3 0 (y 1) (y 2) : S1x384x1024.Idx) := piece_idx y _ _ rfl rfl
  rw [hy]
  refine (h_point m c t (y 1) (y 2)).trans (congrArg (argH m c) (funext fun a => Fin.ext ?_))
  have e := (idx t).2.2.2.2.1
  match a with
  | ⟨0, _⟩ => show t.val / 11 = win0_14.index t 0 * 1 + 1 * 0; rw [e]; show _ = t.val / 11 * 1 + 1 * 0; omega
  | ⟨1, _⟩ => show t.val % 11 * 384 + (y 1).val = win0_14.index t 1 * 384 + 1 * (y 1).val; rw [e]; show _ = t.val % 11 * 384 + 1 * (y 1).val; omega
  | ⟨2, _⟩ => show (y 2).val = win0_14.index t 2 * 1024 + 1 * (y 2).val; rw [e]; show _ = 0 * 1024 + 1 * (y 2).val; omega

end Cert.InProjIdeal.Project

end
-- ==== Proof.InProj.FiniteRows.lean ====
/-
  The precondition `finite_rows` read back: rows, gains and weights are real numbers.
-/
module

public import proofs.«01_k».proof.Proof.Gen.Pre_finite_rows
public import proofs.«01_k».proof.Proof.InProj.Real
public import proofs.«01_k».proof.Proof.Merge.Finite

@[expose] public section

noncomputable section

open Idealize.ShloMosaic

namespace Cert.Model

/-- A comparison `|x| < inf` that came out 1 at an index, at any shape. -/
theorem real_at {s : Shape} (f : Fin (0 : Nat) → Fin s.rank) (hb : (⟨0, ![]⟩ : Shape).BroadcastsInDim s f) (x : FVec Ideal s .f32) (i : s.Idx)
    (h : cmpf (F := Ideal) .olt (Host.absf x) (broadcastInDim s f hb (constant (⟨0, ![]⟩ : Shape) .f32 0x7F800000#32)) i = 1#1) :
    IsReal (x i) := by
  apply real_of_finite
  apply Cert.Pre_finite_states.finite_of_abs
  pointwise at h
  rw [Cert.Pre_finite_states.ofBits_inf] at h
  by_contra hc
  rw [decide_eq_false (show ¬ (FloatOps.absf (F := Ideal) (x i) : EReal) < ⊤ from hc)] at h
  exact absurd h (by decide)

end Cert.Model

namespace Cert.Pre_finite_rows

theorem finite (h : FVec Ideal S4x4224x1024 .f32) (g : FVec Ideal S1024 .f32) (w : FVec Ideal S1024x6912 .f32) (q k : FVec Ideal S64 .f32) (j : S_.Idx)
    (hp : fn (F := Ideal) h g w q k j = 1#1) : (∀ i, Model.IsReal (h i)) ∧ (∀ i, Model.IsReal (g i)) ∧ ∀ i, Model.IsReal (w i) := by
  have : Subsingleton S_.Idx := ⟨fun a b => funext fun k => k.elim0⟩
  obtain ⟨h12, h3⟩ := IntOp.andi_eq_one.1 hp
  obtain ⟨h1, h2⟩ := IntOp.andi_eq_one.1 h12
  exact ⟨fun i => Model.real_at _ Facts.bcast_S_S4x4224x1024 h i (Host.reduce_andi_all _ _ _ _ j h1 i),
    fun i => Model.real_at _ Facts.bcast_S_S1024 g i (Host.reduce_andi_all _ _ _ _ j h2 i),
    fun i => Model.real_at _ Facts.bcast_S_S1024x6912 w i (Host.reduce_andi_all _ _ _ _ j h3 i)⟩

end Cert.Pre_finite_rows

end
-- ==== Proof.InProj.FiniteInput.lean ====
/-
  The precondition `finite_input` read back: input, meta tokens, gains and weights are real numbers.
-/
module

public import proofs.«01_k».proof.Proof.Gen.Pre_finite_input
public import proofs.«01_k».proof.Proof.InProj.FiniteRows

@[expose] public section

noncomputable section

open Idealize.ShloMosaic

namespace Cert.Pre_finite_input

theorem finite (x : FVec Ideal S4x4096x1024 .f32) (e : FVec Ideal S16x1024 .f32) (g : FVec Ideal S1024 .f32) (w : FVec Ideal S1024x6912 .f32)
    (q k : FVec Ideal S64 .f32) (j : S_.Idx) (hp : fn (F := Ideal) x e g w q k j = 1#1) :
    (∀ i, Model.IsReal (x i)) ∧ (∀ i, Model.IsReal (e i)) ∧ (∀ i, Model.IsReal (g i)) ∧ ∀ i, Model.IsReal (w i) := by
  have : Subsingleton S_.Idx := ⟨fun a b => funext fun k => k.elim0⟩
  obtain ⟨h123, h4⟩ := IntOp.andi_eq_one.1 hp
  obtain ⟨h12, h3⟩ := IntOp.andi_eq_one.1 h123
  obtain ⟨h1, h2⟩ := IntOp.andi_eq_one.1 h12
  exact ⟨fun i => Model.real_at _ Facts.bcast_S_S4x4096x1024 x i (Host.reduce_andi_all _ _ _ _ j h1 i),
    fun i => Model.real_at _ Facts.bcast_S_S16x1024 e i (Host.reduce_andi_all _ _ _ _ j h2 i),
    fun i => Model.real_at _ Facts.bcast_S_S1024 g i (Host.reduce_andi_all _ _ _ _ j h3 i),
    fun i => Model.real_at _ Facts.bcast_S_S1024x6912 w i (Host.reduce_andi_all _ _ _ _ j h4 i)⟩

end Cert.Pre_finite_input

end
-- ==== Proof.lean ====
/-
  The claims of the statement about the layers' calls, assembled from the modules that prove each: the frames are generated,
  the value claims are Proof/Ffn/Final.lean, Proof/Inner/Final.lean, Proof/Merge/Final.lean, Proof/InProj/Final.lean
  and Proof/InProj/FirstFinal.lean.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Ffn.Final
public import proofs.«01_k».proof.Proof.Inner.Final
public import proofs.«01_k».proof.Proof.Merge.Final
public import proofs.«01_k».proof.Proof.InProj.Final
public import proofs.«01_k».proof.Proof.InProj.FirstFinal
public import proofs.«01_k».proof.Proof.InProj.FiniteRows
public import proofs.«01_k».proof.Proof.InProj.FiniteInput
public import proofs.«01_k».proof.Proof.Gen.Ffn.Frame
public import proofs.«01_k».proof.Proof.Gen.FfnIdeal.Value
public import proofs.«01_k».proof.Proof.Gen.FfnReferenceIdeal.Run
public import proofs.«01_k».proof.Proof.Gen.Merge.Frame
public import proofs.«01_k».proof.Proof.Gen.MergeIdeal.Value
public import proofs.«01_k».proof.Proof.Gen.MergeReferenceIdeal.Run
public import proofs.«01_k».proof.Proof.Gen.Pre_finite_states
public import proofs.«01_k».proof.Proof.Gen.Pre_finite_rows
public import proofs.«01_k».proof.Proof.Gen.Next.Frame
public import proofs.«01_k».proof.Proof.Gen.NextIdeal.Value
public import proofs.«01_k».proof.Proof.Gen.NextReferenceIdeal.Run
public import proofs.«01_k».proof.Proof.Gen.InProj.Frame
public import proofs.«01_k».proof.Proof.Gen.InProjIdeal.Value
public import proofs.«01_k».proof.Proof.Gen.InProjReferenceIdeal.Run
public import proofs.«01_k».proof.Proof.Gen.Pre_finite_input
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference of the feed-forward block returns and keeps its arguments. -/
theorem frame_ref : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run m ρ)

/-- The feed-forward kernel with the final norm computes its reference. -/
theorem algebraic_ffn : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Ffn.REF m c, (θ_run _ _ _).mono (fun r h c => ?_) (Cert.KernelIdeal.Value.run_blocks m g),
    (θ_run _ _ _).mono (fun r h c => ?_) (Cert.ReferenceIdeal.Value.run m' g')⟩
  · exact ⟨(h c).1.trans (Cert.KernelIdeal.Ffn.final m c), (h c).2⟩
  · refine ⟨(h c).1.trans ((Cert.ReferenceIdeal.Ffn.res_eq m' c).trans ?_), (h c).2⟩
    obtain ⟨e0, e1, e2, e3, e4, e5⟩ := hargs c
    rw [e0, e1, e2, e3, e4, e5]

/-- The reference of the inner feed-forward block returns and keeps its arguments. -/
theorem frame_ffn_ref : Cert.quiescent_FfnReferenceIdeal (hFfnReferenceIdeal := Cert.FfnReferenceIdeal.Gen.facts) :=
  fun m ρ _ => (θ_run _ _ _).mono (fun r h => ⟨fun c => (h c).2, sem_eq_zero_of_no_sems (by decide) r.2⟩)
    (Cert.FfnReferenceIdeal.Value.run m ρ)

/-- The inner feed-forward kernel computes its reference. -/
theorem algebraic_inner : Cert.algebraic_FfnIdeal_FfnReferenceIdeal (hFfnIdeal := Cert.FfnIdeal.Gen.facts)
    (hFfnReferenceIdeal := Cert.FfnReferenceIdeal.Gen.facts) := by
  intro m g m' g' _ hargs
  refine ⟨fun c => Cert.FfnIdeal.Inner.REF m c, (θ_run _ _ _).mono (fun r h c => ?_) (Cert.FfnIdeal.Value.run_blocks m g),
    (θ_run _ _ _).mono (fun r h c => ?_) (Cert.FfnReferenceIdeal.Inner.run m' g')⟩
  · exact ⟨(h c).1.trans (Cert.FfnIdeal.Inner.final m c), (h c).2⟩
  · refine ⟨(h c).1.trans ?_, (h c).2⟩
    obtain ⟨e0, e1, e2, e3, e4, e5⟩ := hargs c
    rw [e0, e1, e2, e3, e4]

/-- The reference of the merge returns and keeps its arguments. -/
theorem frame_merge_ref : Cert.quiescent_MergeReferenceIdeal (hMergeReferenceIdeal := Cert.MergeReferenceIdeal.Gen.facts) :=
  fun m ρ _ => (θ_run _ _ _).mono (fun r h => ⟨fun c => (h c).2, sem_eq_zero_of_no_sems (by decide) r.2⟩)
    (Cert.MergeReferenceIdeal.Value.run m ρ)

/-- The states are finite where the precondition holds. -/
theorem finite (m : (ℓ : Loc Cert.MergeIdeal.nD Cert.MergeIdeal.τ Cert.MergeIdeal.sig) → Buf (Elt Ideal) ℓ)
    (hp : Cert.Pre_MergeIdeal_finite_states
      (hPre_finite_states := Cert.Pre_finite_states.Gen.facts) m) (c : Dev Cert.MergeIdeal.nD) : Cert.MergeIdeal.Merge.Finite m c :=
  have h := fun i => Cert.Pre_finite_states.finite _ _ _ _ _ _ _ _ _ _ _ _ default (congrFun (hp c) default) i
  ⟨fun i => (h i).1, fun i => (h i).2⟩

/-- The merge kernel computes its reference where the states are finite. -/
theorem algebraic_merge : Cert.algebraic_MergeIdeal_MergeReferenceIdeal_pre_finite_states (hMergeIdeal := Cert.MergeIdeal.Gen.facts)
    (hMergeReferenceIdeal := Cert.MergeReferenceIdeal.Gen.facts) (hPre_finite_states := Cert.Pre_finite_states.Gen.facts) := by
  intro m g m' g' hp hargs
  refine ⟨fun c => Cert.MergeIdeal.Merge.REF m c, (θ_run _ _ _).mono (fun r h c => ?_) (Cert.MergeIdeal.Value.run_blocks m g),
    (θ_run _ _ _).mono (fun r h c => ?_) (Cert.MergeReferenceIdeal.Value.run m' g')⟩
  · exact ⟨(h c).1.trans (Cert.MergeIdeal.Merge.final m c (finite m hp c)), (h c).2⟩
  · refine ⟨(h c).1.trans ((Cert.MergeReferenceIdeal.Merge.res_eq m' c).trans ?_), (h c).2⟩
    obtain ⟨e0, e1, e2, e3, e4, e5, e6, e7, e8, e9, e10, e11⟩ := hargs c
    rw [e0, e1, e2, e3, e4, e5, e6, e7, e8, e9, e10, e11]

/-- The reference of the input projection returns and keeps its arguments. -/
theorem frame_next_ref : Cert.quiescent_NextReferenceIdeal (hNextReferenceIdeal := Cert.NextReferenceIdeal.Gen.facts) :=
  fun m ρ _ => (θ_run _ _ _).mono (fun r h => ⟨fun c => (h c).2.2.2.2, sem_eq_zero_of_no_sems (by decide) r.2⟩)
    (Cert.NextReferenceIdeal.Value.run m ρ)

/-- Rows, gains and weights are finite where the precondition holds. -/
theorem finite_next (m : (ℓ : Loc Cert.NextIdeal.nD Cert.NextIdeal.τ Cert.NextIdeal.sig) → Buf (Elt Ideal) ℓ)
    (hp : Cert.Pre_NextIdeal_finite_rows (hPre_finite_rows := Cert.Pre_finite_rows.Gen.facts) m) (c : Dev Cert.NextIdeal.nD) :
    Cert.NextIdeal.Project.Finite m c :=
  Cert.Pre_finite_rows.finite _ _ _ _ _ default (congrFun (hp c) default)

/-- The input projection computes its reference where its rows, gains and weights are finite. -/
theorem algebraic_next : Cert.algebraic_NextIdeal_NextReferenceIdeal_pre_finite_rows (hNextIdeal := Cert.NextIdeal.Gen.facts)
    (hNextReferenceIdeal := Cert.NextReferenceIdeal.Gen.facts) (hPre_finite_rows := Cert.Pre_finite_rows.Gen.facts) := by
  intro m g m' g' hp hargs
  refine ⟨fun c => Cert.NextIdeal.Project.REFqkv m c, fun c => Cert.NextIdeal.Project.REFd m c, fun c => Cert.NextIdeal.Project.REFvb m c,
    fun c => Cert.NextIdeal.Project.REFvc m c,
    (θ_run _ _ _).mono (fun r h c => ?_) (Cert.NextIdeal.Value.run_blocks m g),
    (θ_run _ _ _).mono (fun r h c => ?_) (Cert.NextReferenceIdeal.Value.run m' g')⟩
  · exact ⟨(h c).1.trans (Cert.NextIdeal.Project.final_qkv m c (finite_next m hp c)), (h c).2.1.trans (Cert.NextIdeal.Project.final_d m c),
      (h c).2.2.1.trans (Cert.NextIdeal.Project.final_vb m c), (h c).2.2.2.1.trans (Cert.NextIdeal.Project.final_vc m c), (h c).2.2.2.2⟩
  · obtain ⟨e0, e1, e2, e3, e4⟩ := hargs c
    obtain ⟨r0, r1, r2, r3, rest⟩ := h c
    refine ⟨r0.trans ((Cert.NextReferenceIdeal.Project.res_out_qkv m' c).trans ?_), r1.trans ((Cert.NextReferenceIdeal.Project.res_out_d m' c).trans ?_),
      r2.trans ((Cert.NextReferenceIdeal.Project.res_out_vb m' c).trans ?_), r3.trans ((Cert.NextReferenceIdeal.Project.res_out_vc m' c).trans ?_), rest⟩
    · rw [e0, e1, e2, e3, e4]
    · rw [e0, e1, e2]
    · rw [e0, e1, e2]
    · rw [e0, e1, e2]

/-- The reference of the first layer's input projection returns and keeps its arguments. -/
theorem frame_in_ref : Cert.quiescent_InProjReferenceIdeal (hInProjReferenceIdeal := Cert.InProjReferenceIdeal.Gen.facts) :=
  fun m ρ _ => (θ_run _ _ _).mono (fun r h => ⟨fun c => (h c).2.2.2.2.2, sem_eq_zero_of_no_sems (by decide) r.2⟩)
    (Cert.InProjReferenceIdeal.Value.run m ρ)

/-- Input, meta tokens, gains and weights are finite where the precondition holds. -/
theorem finite_in (m : (ℓ : Loc Cert.InProjIdeal.nD Cert.InProjIdeal.τ Cert.InProjIdeal.sig) → Buf (Elt Ideal) ℓ)
    (hp : Cert.Pre_InProjIdeal_finite_input (hPre_finite_input := Cert.Pre_finite_input.Gen.facts) m) (c : Dev Cert.InProjIdeal.nD) :
    Cert.InProjIdeal.Project.Finite m c :=
  Cert.Pre_finite_input.finite _ _ _ _ _ _ default (congrFun (hp c) default)

/-- The first layer's input projection computes its reference where its input, meta tokens, gains and weights are finite. -/
theorem algebraic_in : Cert.algebraic_InProjIdeal_InProjReferenceIdeal_pre_finite_input (hInProjIdeal := Cert.InProjIdeal.Gen.facts)
    (hInProjReferenceIdeal := Cert.InProjReferenceIdeal.Gen.facts) (hPre_finite_input := Cert.Pre_finite_input.Gen.facts) := by
  intro m g m' g' hp hargs
  refine ⟨fun c => Cert.InProjIdeal.Project.REFqkv m c, fun c => Cert.InProjIdeal.Project.REFd m c, fun c => Cert.InProjIdeal.Project.REFvb m c,
    fun c => Cert.InProjIdeal.Project.REFvc m c, fun c => Cert.InProjIdeal.Project.argH m c,
    (θ_run _ _ _).mono (fun r h c => ?_) (Cert.InProjIdeal.Value.run_blocks m g),
    (θ_run _ _ _).mono (fun r h c => ?_) (Cert.InProjReferenceIdeal.Value.run m' g')⟩
  · exact ⟨(h c).1.trans (Cert.InProjIdeal.Project.final_qkv m c (finite_in m hp c)), (h c).2.1.trans (Cert.InProjIdeal.Project.final_d m c),
      (h c).2.2.1.trans (Cert.InProjIdeal.Project.final_vb m c), (h c).2.2.2.1.trans (Cert.InProjIdeal.Project.final_vc m c),
      (h c).2.2.2.2.1.trans (Cert.InProjIdeal.Project.final_h m c), (h c).2.2.2.2.2⟩
  · obtain ⟨e0, e1, e2, e3, e4, e5⟩ := hargs c
    obtain ⟨r0, r1, r2, r3, r4, rest⟩ := h c
    refine ⟨r0.trans ((Cert.InProjReferenceIdeal.Project.res_out_qkv m' c).trans ?_), r1.trans ((Cert.InProjReferenceIdeal.Project.res_out_d m' c).trans ?_),
      r2.trans ((Cert.InProjReferenceIdeal.Project.res_out_vb m' c).trans ?_), r3.trans ((Cert.InProjReferenceIdeal.Project.res_out_vc m' c).trans ?_),
      r4.trans ((Cert.InProjReferenceIdeal.Project.res_out_h m' c).trans ?_), rest⟩
    · rw [e0, e1, e2, e3, e4, e5]
    · rw [e0, e1, e2, e3]
    · rw [e0, e1, e2, e3]
    · rw [e0, e1, e2, e3]
    · rw [e0, e1]

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Merge.Gen.facts, Cert.MergeIdeal.Gen.facts, Cert.MergeReferenceIdeal.Gen.facts,
  Cert.Next.Gen.facts, Cert.NextIdeal.Gen.facts, Cert.NextReferenceIdeal.Gen.facts,
  Cert.InProj.Gen.facts, Cert.InProjIdeal.Gen.facts, Cert.InProjReferenceIdeal.Gen.facts,
  Cert.Pre_finite_states.Gen.facts, Cert.Pre_finite_rows.Gen.facts, Cert.Pre_finite_input.Gen.facts,
  fun m ρ _ => Cert.Kernel.Gen.frame m ρ, fun m ρ _ => Cert.KernelIdeal.Gen.frame m ρ, frame_ref,
  fun m ρ _ => Cert.Ffn.Gen.frame m ρ, fun m ρ _ => Cert.FfnIdeal.Gen.frame m ρ, frame_ffn_ref,
  fun m ρ _ => Cert.Merge.Gen.frame m ρ, fun m ρ _ => Cert.MergeIdeal.Gen.frame m ρ, fun m ρ _ => Cert.MergeIdeal.Gen.frame m ρ,
  frame_merge_ref, fun m ρ _ => frame_merge_ref m ρ trivial,
  fun m ρ _ => Cert.Next.Gen.frame m ρ, fun m ρ _ => Cert.NextIdeal.Gen.frame m ρ, fun m ρ _ => Cert.NextIdeal.Gen.frame m ρ,
  frame_next_ref, fun m ρ _ => frame_next_ref m ρ trivial,
  fun m ρ _ => Cert.InProj.Gen.frame m ρ, fun m ρ _ => Cert.InProjIdeal.Gen.frame m ρ, fun m ρ _ => Cert.InProjIdeal.Gen.frame m ρ,
  frame_in_ref, fun m ρ _ => frame_in_ref m ρ trivial,
  trivial, algebraic_ffn, trivial, algebraic_inner, trivial, algebraic_merge, trivial, algebraic_next, trivial, algebraic_in⟩

end Cert.Proof

end
